-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S4x1024x32x128 : S_.BroadcastsInDim S4x1024x32x128 (![] : Fin 0 → Fin S4x1024x32x128.rank)

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S1x1024x1024 1 × IVec S1024x1024 1 × IVec S4x1024x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4x1024x32x128 .f32 := Host.absf main_arg2
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Pre_finite_scores_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  bcast_S_S1024x4096 : S_.BroadcastsInDim S1024x4096 (![] : Fin 0 → Fin S1024x4096.rank)
  bcast_S_S4x1024x32x128 : S_.BroadcastsInDim S4x1024x32x128 (![] : Fin 0 → Fin S4x1024x32x128.rank)

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S4x1024x1024 1 × IVec S1024x4096 1 × IVec S4x1024x32x128 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4x1024x32x128 .f32 := Host.absf main_arg2
  let main_cst_1 : FVec F S_ .f32 := constant S_ .f32 0x7F800000#32
  let main_v7 : FVec F S4x1024x32x128 .f32 := broadcastInDim S4x1024x32x128 ![] bcast_S_S4x1024x32x128 main_cst_1
  let main_v8 : IVec S4x1024x32x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S3x2x1024x1024 : Shape := ⟨4, ![3, 2, 1024, 1024]⟩
abbrev S2x8x1024x128 : Shape := ⟨4, ![2, 8, 1024, 128]⟩
abbrev S12 : Shape := ⟨1, ![12]⟩
abbrev S2x2x8 : Shape := ⟨3, ![2, 2, 8]⟩
abbrev S_ : Shape := ⟨0, ![]⟩
abbrev S1 : Shape := ⟨1, ![1]⟩
abbrev S1x1x1024x512 : Shape := ⟨4, ![1, 1, 1024, 512]⟩
abbrev S1024x512 : Shape := ⟨2, ![1024, 512]⟩
abbrev S1x1x512x1024 : Shape := ⟨4, ![1, 1, 512, 1024]⟩
abbrev S512x1024 : Shape := ⟨2, ![512, 1024]⟩
abbrev S1x1x1 : Shape := ⟨3, ![1, 1, 1]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S256x1 : Shape := ⟨2, ![256, 1]⟩
abbrev S1x1x512x128 : Shape := ⟨4, ![1, 1, 512, 128]⟩
abbrev S512x128 : Shape := ⟨2, ![512, 128]⟩
abbrev S256x512 : Shape := ⟨2, ![256, 512]⟩
abbrev S1x1x768x128 : Shape := ⟨4, ![1, 1, 768, 128]⟩
abbrev S768x128 : Shape := ⟨2, ![768, 128]⟩
abbrev S256x768 : Shape := ⟨2, ![256, 768]⟩
abbrev S256x1024 : Shape := ⟨2, ![256, 1024]⟩
abbrev S1x1x1024x1024 : Shape := ⟨4, ![1, 1, 1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1x1024x1024, .f32⟩
  | .local _ .vmem, ⟨0, _⟩ => ⟨S1x1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S3x2x1024x1024, .bf16⟩
  | .local _ .vmem, ⟨5, _⟩ => ⟨S2x8x1024x128, .f32⟩
  | .local _ .vmem, ⟨6, _⟩ => ⟨S2x8x1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_14 : BitVec 32 := 1#32
  let v13 : BitVec 32 := Scalar.muli v4 c1_i32_14
  let v14 : BitVec 32 := Scalar.addi c0_i32_15 v13
  v14.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v22 : BitVec 32 := Scalar.muli v4 c1_i32_24
  let v23 : BitVec 32 := Scalar.addi c0_i32_25 v22
  v23.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_34 : BitVec 32 := 1#32
  let v31 : BitVec 32 := Scalar.muli v4 c1_i32_34
  let v32 : BitVec 32 := Scalar.addi c0_i32_35 v31
  v32.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_42 : BitVec 32 := 1#32
  let v40 : BitVec 32 := Scalar.muli v4 c1_i32_42
  let v41 : BitVec 32 := Scalar.addi c0_i32_43 v40
  v41.toNat
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_52 : BitVec 32 := 1#32
  let v49 : BitVec 32 := Scalar.muli v7 c1_i32_52
  let v50 : BitVec 32 := Scalar.addi c0_i32_53 v49
  v50.toNat
def k0_dev8 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_61 : BitVec 32 := 1#32
  let v58 : BitVec 32 := Scalar.muli v7 c1_i32_61
  let v59 : BitVec 32 := Scalar.addi c0_i32_62 v58
  v59.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_70 : BitVec 32 := 1#32
  let v67 : BitVec 32 := Scalar.muli v7 c1_i32_70
  let v68 : BitVec 32 := Scalar.addi c0_i32_71 v67
  v68.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_79 : BitVec 32 := 1#32
  let v76 : BitVec 32 := Scalar.muli v7 c1_i32_79
  let v77 : BitVec 32 := Scalar.addi c0_i32_80 v76
  v77.toNat
def k0_off1 (d0 : Dev nD) (c0_i32_92 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_162 : BitVec 32 := 0#32
  let c8_i32 : BitVec 32 := 8#32
  let v92 : BitVec 32 := Scalar.muli v2 c8_i32
  let v93 : BitVec 32 := Scalar.addi v92 c0_i32_92
  let c0_i32_163 : BitVec 32 := 0#32
  ![v2.toNat, 0, v93.toNat, 0]
def k0_off2 (d0 : Dev nD) (c0_i32_108 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_469 : BitVec 32 := 0#32
  let c4_i32_85 : BitVec 32 := 4#32
  let v85 : BitVec 32 := Scalar.addi v2 c4_i32_85
  let c1_i32_86 : BitVec 32 := 1#32
  let v86 : BitVec 32 := Scalar.subi v85 c1_i32_86
  let c4_i32_87 : BitVec 32 := 4#32
  let v87 : BitVec 32 := Scalar.remsi v86 c4_i32_87
  let c8_i32_107 : BitVec 32 := 8#32
  let v108 : BitVec 32 := Scalar.muli v87 c8_i32_107
  let v109 : BitVec 32 := Scalar.addi v108 c0_i32_108
  let c0_i32_470 : BitVec 32 := 0#32
  ![v2.toNat, 0, v109.toNat, 0]
@[reducible] def k0_t1_loop : Scf.Loop 32 :=
  let c0_i32_613 : BitVec 32 := 0#32
  let c8_i32_614 : BitVec 32 := 8#32
  let v516 : BitVec 32 := Scalar.addi c0_i32_613 c8_i32_614
  let c1_i32_615 : BitVec 32 := 1#32
  ⟨c0_i32_613, v516, c1_i32_615⟩
def k0_off3 (k0_t1 : Fin k0_t1_loop.trips) : Fin 2 → Nat :=
  let c0_1726 : Index := 0#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let c128_i32 : BitVec 32 := 128#32
  let v1267 : BitVec 32 := Scalar.muli v1266 c128_i32
  let v1268 : Index := Scalar.indexCast v1267
  ![0, v1268.toNat]
def k0_off4 (k0_t1 : Fin k0_t1_loop.trips) : Fin 4 → Nat :=
  let c0_1727 : Index := 0#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let v1270 : Index := Scalar.indexCast v1266
  let c0_1728 : Index := 0#32
  let c0_1729 : Index := 0#32
  ![0, v1270.toNat, 0, 0]
def k0_off5 (k0_t1 : Fin k0_t1_loop.trips) : Fin 2 → Nat :=
  let c256 : Index := 256#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let c128_i32_1742 : BitVec 32 := 128#32
  let v1301 : BitVec 32 := Scalar.muli v1266 c128_i32_1742
  let v1302 : Index := Scalar.indexCast v1301
  ![256, v1302.toNat]
def k0_off6 (k0_t1 : Fin k0_t1_loop.trips) : Fin 4 → Nat :=
  let c0_1743 : Index := 0#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let v1304 : Index := Scalar.indexCast v1266
  let c0_1744 : Index := 0#32
  let c0_1745 : Index := 0#32
  ![0, v1304.toNat, 0, 0]
def k0_off7 (k0_t1 : Fin k0_t1_loop.trips) : Fin 2 → Nat :=
  let c512_1759 : Index := 512#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let c128_i32_1758 : BitVec 32 := 128#32
  let v1335 : BitVec 32 := Scalar.muli v1266 c128_i32_1758
  let v1336 : Index := Scalar.indexCast v1335
  ![512, v1336.toNat]
def k0_off8 (k0_t1 : Fin k0_t1_loop.trips) : Fin 4 → Nat :=
  let c0_1760 : Index := 0#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let v1338 : Index := Scalar.indexCast v1266
  let c0_1761 : Index := 0#32
  let c0_1762 : Index := 0#32
  ![0, v1338.toNat, 0, 0]
def k0_off9 (k0_t1 : Fin k0_t1_loop.trips) : Fin 2 → Nat :=
  let c768 : Index := 768#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let c128_i32_1775 : BitVec 32 := 128#32
  let v1369 : BitVec 32 := Scalar.muli v1266 c128_i32_1775
  let v1370 : Index := Scalar.indexCast v1369
  ![768, v1370.toNat]
def k0_off10 (k0_t1 : Fin k0_t1_loop.trips) : Fin 4 → Nat :=
  let c0_1776 : Index := 0#32
  let c0_i32_1725 : BitVec 32 := 0#32
  let c0_i32_613 : BitVec 32 := 0#32
  let c1_i32_615 : BitVec 32 := 1#32
  let arg15 : BitVec 32 := Scf.iv c0_i32_613 c1_i32_615 k0_t1
  let v1266 : BitVec 32 := Scalar.addi c0_i32_1725 arg15
  let v1372 : Index := Scalar.indexCast v1266
  let c0_1777 : Index := 0#32
  let c0_1778 : Index := 0#32
  ![0, v1372.toNat, 0, 0]
def k0_off11 (d0 : Dev nD) (c1_i32_88 : BitVec 32) (c0_i32_124 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_774 : BitVec 32 := 0#32
  let v88 : BitVec 32 := Scalar.addi v2 c1_i32_88
  let c4_i32_89 : BitVec 32 := 4#32
  let v89 : BitVec 32 := Scalar.remsi v88 c4_i32_89
  let c8_i32_123 : BitVec 32 := 8#32
  let v124 : BitVec 32 := Scalar.muli v89 c8_i32_123
  let v125 : BitVec 32 := Scalar.addi v124 c0_i32_124
  let c0_i32_775 : BitVec 32 := 0#32
  ![v2.toNat, 0, v125.toNat, 0]
@[reducible] def k0_t2_loop : Scf.Loop 32 :=
  let c0_i32_941 : BitVec 32 := 0#32
  let c4_i32_942 : BitVec 32 := 4#32
  let v737 : BitVec 32 := Scalar.addi c0_i32_941 c4_i32_942
  let c1_i32_943 : BitVec 32 := 1#32
  ⟨c0_i32_941, v737, c1_i32_943⟩
def k0_off12 (k0_t2 : Fin k0_t2_loop.trips) : Fin 2 → Nat :=
  let c0_1726 : Index := 0#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let c128_i32 : BitVec 32 := 128#32
  let v1267 : BitVec 32 := Scalar.muli v1266 c128_i32
  let v1268 : Index := Scalar.indexCast v1267
  ![0, v1268.toNat]
def k0_off13 (k0_t2 : Fin k0_t2_loop.trips) : Fin 4 → Nat :=
  let c1_1727 : Index := 1#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let v1270 : Index := Scalar.indexCast v1266
  let c0_1728 : Index := 0#32
  let c0_1729 : Index := 0#32
  ![1, v1270.toNat, 0, 0]
def k0_off14 (k0_t2 : Fin k0_t2_loop.trips) : Fin 2 → Nat :=
  let c256 : Index := 256#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let c128_i32_1742 : BitVec 32 := 128#32
  let v1301 : BitVec 32 := Scalar.muli v1266 c128_i32_1742
  let v1302 : Index := Scalar.indexCast v1301
  ![256, v1302.toNat]
def k0_off15 (k0_t2 : Fin k0_t2_loop.trips) : Fin 4 → Nat :=
  let c1_1743 : Index := 1#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let v1304 : Index := Scalar.indexCast v1266
  let c0_1744 : Index := 0#32
  let c0_1745 : Index := 0#32
  ![1, v1304.toNat, 0, 0]
def k0_off16 (k0_t2 : Fin k0_t2_loop.trips) : Fin 2 → Nat :=
  let c512_1759 : Index := 512#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let c128_i32_1758 : BitVec 32 := 128#32
  let v1335 : BitVec 32 := Scalar.muli v1266 c128_i32_1758
  let v1336 : Index := Scalar.indexCast v1335
  ![512, v1336.toNat]
def k0_off17 (k0_t2 : Fin k0_t2_loop.trips) : Fin 4 → Nat :=
  let c1_1760 : Index := 1#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let v1338 : Index := Scalar.indexCast v1266
  let c0_1761 : Index := 0#32
  let c0_1762 : Index := 0#32
  ![1, v1338.toNat, 0, 0]
def k0_off18 (k0_t2 : Fin k0_t2_loop.trips) : Fin 2 → Nat :=
  let c768 : Index := 768#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let c128_i32_1775 : BitVec 32 := 128#32
  let v1369 : BitVec 32 := Scalar.muli v1266 c128_i32_1775
  let v1370 : Index := Scalar.indexCast v1369
  ![768, v1370.toNat]
def k0_off19 (k0_t2 : Fin k0_t2_loop.trips) : Fin 4 → Nat :=
  let c1_1776 : Index := 1#32
  let c0_i32_1725 : BitVec 32 := 0#32
  let c0_i32_941 : BitVec 32 := 0#32
  let c1_i32_943 : BitVec 32 := 1#32
  let arg15 : BitVec 32 := Scf.iv c0_i32_941 c1_i32_943 k0_t2
  let v1266 : BitVec 32 := Scalar.addi c0_i32_1725 arg15
  let v1372 : Index := Scalar.indexCast v1266
  let c0_1777 : Index := 0#32
  let c0_1778 : Index := 0#32
  ![1, v1372.toNat, 0, 0]
def k0_dev11 (d0 : Dev nD) : Nat :=
  let c0_i32_981 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_980 : BitVec 32 := 1#32
  let v760 : BitVec 32 := Scalar.muli v4 c1_i32_980
  let v761 : BitVec 32 := Scalar.addi c0_i32_981 v760
  v761.toNat
def k0_dev12 (d0 : Dev nD) : Nat :=
  let c0_i32_992 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_991 : BitVec 32 := 1#32
  let v770 : BitVec 32 := Scalar.muli v4 c1_i32_991
  let v771 : BitVec 32 := Scalar.addi c0_i32_992 v770
  v771.toNat
def k0_dev13 (d0 : Dev nD) : Nat :=
  let c0_i32_1043 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1042 : BitVec 32 := 1#32
  let v808 : BitVec 32 := Scalar.muli v7 c1_i32_1042
  let v809 : BitVec 32 := Scalar.addi c0_i32_1043 v808
  v809.toNat
def k0_dev14 (d0 : Dev nD) : Nat :=
  let c0_i32_1054 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_1053 : BitVec 32 := 1#32
  let v818 : BitVec 32 := Scalar.muli v7 c1_i32_1053
  let v819 : BitVec 32 := Scalar.addi c0_i32_1054 v818
  v819.toNat
@[reducible] def k0_t3_loop : Scf.Loop 32 :=
  let c0_i32_1069 : BitVec 32 := 0#32
  let c4_i32_1070 : BitVec 32 := 4#32
  let v837 : BitVec 32 := Scalar.addi c0_i32_1069 c4_i32_1070
  let c1_i32_1071 : BitVec 32 := 1#32
  ⟨c0_i32_1069, v837, c1_i32_1071⟩
def k0_off20 (k0_t3 : Fin k0_t3_loop.trips) : Fin 2 → Nat :=
  let c0_1726 : Index := 0#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let c128_i32 : BitVec 32 := 128#32
  let v1267 : BitVec 32 := Scalar.muli v1266 c128_i32
  let v1268 : Index := Scalar.indexCast v1267
  ![0, v1268.toNat]
def k0_off21 (k0_t3 : Fin k0_t3_loop.trips) : Fin 4 → Nat :=
  let c1_1727 : Index := 1#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let v1270 : Index := Scalar.indexCast v1266
  let c0_1728 : Index := 0#32
  let c0_1729 : Index := 0#32
  ![1, v1270.toNat, 0, 0]
def k0_off22 (k0_t3 : Fin k0_t3_loop.trips) : Fin 2 → Nat :=
  let c256 : Index := 256#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let c128_i32_1742 : BitVec 32 := 128#32
  let v1301 : BitVec 32 := Scalar.muli v1266 c128_i32_1742
  let v1302 : Index := Scalar.indexCast v1301
  ![256, v1302.toNat]
def k0_off23 (k0_t3 : Fin k0_t3_loop.trips) : Fin 4 → Nat :=
  let c1_1743 : Index := 1#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let v1304 : Index := Scalar.indexCast v1266
  let c0_1744 : Index := 0#32
  let c0_1745 : Index := 0#32
  ![1, v1304.toNat, 0, 0]
def k0_off24 (k0_t3 : Fin k0_t3_loop.trips) : Fin 2 → Nat :=
  let c512_1759 : Index := 512#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let c128_i32_1758 : BitVec 32 := 128#32
  let v1335 : BitVec 32 := Scalar.muli v1266 c128_i32_1758
  let v1336 : Index := Scalar.indexCast v1335
  ![512, v1336.toNat]
def k0_off25 (k0_t3 : Fin k0_t3_loop.trips) : Fin 4 → Nat :=
  let c1_1760 : Index := 1#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let v1338 : Index := Scalar.indexCast v1266
  let c0_1761 : Index := 0#32
  let c0_1762 : Index := 0#32
  ![1, v1338.toNat, 0, 0]
def k0_off26 (k0_t3 : Fin k0_t3_loop.trips) : Fin 2 → Nat :=
  let c768 : Index := 768#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let c128_i32_1775 : BitVec 32 := 128#32
  let v1369 : BitVec 32 := Scalar.muli v1266 c128_i32_1775
  let v1370 : Index := Scalar.indexCast v1369
  ![768, v1370.toNat]
def k0_off27 (k0_t3 : Fin k0_t3_loop.trips) : Fin 4 → Nat :=
  let c1_1776 : Index := 1#32
  let c4_i32_1725 : BitVec 32 := 4#32
  let c0_i32_1069 : BitVec 32 := 0#32
  let c1_i32_1071 : BitVec 32 := 1#32
  let arg15 : BitVec 32 := Scf.iv c0_i32_1069 c1_i32_1071 k0_t3
  let v1266 : BitVec 32 := Scalar.addi c4_i32_1725 arg15
  let v1372 : Index := Scalar.indexCast v1266
  let c0_1777 : Index := 0#32
  let c0_1778 : Index := 0#32
  ![1, v1372.toNat, 0, 0]
@[reducible] def k0_t4_loop : Scf.Loop 32 :=
  let c0_i32_1381 : BitVec 32 := 0#32
  let c8_i32_1382 : BitVec 32 := 8#32
  let v1047 : BitVec 32 := Scalar.addi c0_i32_1381 c8_i32_1382
  let c1_i32_1383 : BitVec 32 := 1#32
  ⟨c0_i32_1381, v1047, c1_i32_1383⟩
def k0_off28 (k0_t4 : Fin k0_t4_loop.trips) : Fin 2 → Nat :=
  let c0_1726 : Index := 0#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let c128_i32 : BitVec 32 := 128#32
  let v1267 : BitVec 32 := Scalar.muli v1266 c128_i32
  let v1268 : Index := Scalar.indexCast v1267
  ![0, v1268.toNat]
def k0_off29 (k0_t4 : Fin k0_t4_loop.trips) : Fin 4 → Nat :=
  let c0_1727 : Index := 0#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let v1270 : Index := Scalar.indexCast v1266
  let c0_1728 : Index := 0#32
  let c0_1729 : Index := 0#32
  ![0, v1270.toNat, 0, 0]
def k0_off30 (k0_t4 : Fin k0_t4_loop.trips) : Fin 2 → Nat :=
  let c256 : Index := 256#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let c128_i32_1742 : BitVec 32 := 128#32
  let v1301 : BitVec 32 := Scalar.muli v1266 c128_i32_1742
  let v1302 : Index := Scalar.indexCast v1301
  ![256, v1302.toNat]
def k0_off31 (k0_t4 : Fin k0_t4_loop.trips) : Fin 4 → Nat :=
  let c0_1743 : Index := 0#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let v1304 : Index := Scalar.indexCast v1266
  let c0_1744 : Index := 0#32
  let c0_1745 : Index := 0#32
  ![0, v1304.toNat, 0, 0]
def k0_off32 (k0_t4 : Fin k0_t4_loop.trips) : Fin 2 → Nat :=
  let c512_1759 : Index := 512#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let c128_i32_1758 : BitVec 32 := 128#32
  let v1335 : BitVec 32 := Scalar.muli v1266 c128_i32_1758
  let v1336 : Index := Scalar.indexCast v1335
  ![512, v1336.toNat]
def k0_off33 (k0_t4 : Fin k0_t4_loop.trips) : Fin 4 → Nat :=
  let c0_1760 : Index := 0#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let v1338 : Index := Scalar.indexCast v1266
  let c0_1761 : Index := 0#32
  let c0_1762 : Index := 0#32
  ![0, v1338.toNat, 0, 0]
def k0_off34 (k0_t4 : Fin k0_t4_loop.trips) : Fin 2 → Nat :=
  let c768 : Index := 768#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let c128_i32_1775 : BitVec 32 := 128#32
  let v1369 : BitVec 32 := Scalar.muli v1266 c128_i32_1775
  let v1370 : Index := Scalar.indexCast v1369
  ![768, v1370.toNat]
def k0_off35 (k0_t4 : Fin k0_t4_loop.trips) : Fin 4 → Nat :=
  let c0_1776 : Index := 0#32
  let c0_i32_1725 : BitVec 32 := 0#32
  let c0_i32_1381 : BitVec 32 := 0#32
  let c1_i32_1383 : BitVec 32 := 1#32
  let arg15 : BitVec 32 := Scf.iv c0_i32_1381 c1_i32_1383 k0_t4
  let v1266 : BitVec 32 := Scalar.addi c0_i32_1725 arg15
  let v1372 : Index := Scalar.indexCast v1266
  let c0_1777 : Index := 0#32
  let c0_1778 : Index := 0#32
  ![0, v1372.toNat, 0, 0]
@[reducible] def k0_t5_loop : Scf.Loop 32 :=
  let c0_i32_1596 : BitVec 32 := 0#32
  let c8_i32_1597 : BitVec 32 := 8#32
  let v1193 : BitVec 32 := Scalar.addi c0_i32_1596 c8_i32_1597
  let c1_i32_1598 : BitVec 32 := 1#32
  ⟨c0_i32_1596, v1193, c1_i32_1598⟩
def k0_off36 (k0_t5 : Fin k0_t5_loop.trips) : Fin 2 → Nat :=
  let c0_1726 : Index := 0#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let c128_i32 : BitVec 32 := 128#32
  let v1267 : BitVec 32 := Scalar.muli v1266 c128_i32
  let v1268 : Index := Scalar.indexCast v1267
  ![0, v1268.toNat]
def k0_off37 (k0_t5 : Fin k0_t5_loop.trips) : Fin 4 → Nat :=
  let c1_1727 : Index := 1#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let v1270 : Index := Scalar.indexCast v1266
  let c0_1728 : Index := 0#32
  let c0_1729 : Index := 0#32
  ![1, v1270.toNat, 0, 0]
def k0_off38 (k0_t5 : Fin k0_t5_loop.trips) : Fin 2 → Nat :=
  let c256 : Index := 256#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let c128_i32_1742 : BitVec 32 := 128#32
  let v1301 : BitVec 32 := Scalar.muli v1266 c128_i32_1742
  let v1302 : Index := Scalar.indexCast v1301
  ![256, v1302.toNat]
def k0_off39 (k0_t5 : Fin k0_t5_loop.trips) : Fin 4 → Nat :=
  let c1_1743 : Index := 1#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let v1304 : Index := Scalar.indexCast v1266
  let c0_1744 : Index := 0#32
  let c0_1745 : Index := 0#32
  ![1, v1304.toNat, 0, 0]
def k0_off40 (k0_t5 : Fin k0_t5_loop.trips) : Fin 2 → Nat :=
  let c512_1759 : Index := 512#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let c128_i32_1758 : BitVec 32 := 128#32
  let v1335 : BitVec 32 := Scalar.muli v1266 c128_i32_1758
  let v1336 : Index := Scalar.indexCast v1335
  ![512, v1336.toNat]
def k0_off41 (k0_t5 : Fin k0_t5_loop.trips) : Fin 4 → Nat :=
  let c1_1760 : Index := 1#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let v1338 : Index := Scalar.indexCast v1266
  let c0_1761 : Index := 0#32
  let c0_1762 : Index := 0#32
  ![1, v1338.toNat, 0, 0]
def k0_off42 (k0_t5 : Fin k0_t5_loop.trips) : Fin 2 → Nat :=
  let c768 : Index := 768#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let c128_i32_1775 : BitVec 32 := 128#32
  let v1369 : BitVec 32 := Scalar.muli v1266 c128_i32_1775
  let v1370 : Index := Scalar.indexCast v1369
  ![768, v1370.toNat]
def k0_off43 (k0_t5 : Fin k0_t5_loop.trips) : Fin 4 → Nat :=
  let c1_1776 : Index := 1#32
  let c0_i32_1725 : BitVec 32 := 0#32
  let c0_i32_1596 : BitVec 32 := 0#32
  let c1_i32_1598 : BitVec 32 := 1#32
  let arg15 : BitVec 32 := Scf.iv c0_i32_1596 c1_i32_1598 k0_t5
  let v1266 : BitVec 32 := Scalar.addi c0_i32_1725 arg15
  let v1372 : Index := Scalar.indexCast v1266
  let c0_1777 : Index := 0#32
  let c0_1778 : Index := 0#32
  ![1, v1372.toNat, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x1024x4096, .f32⟩
  | .hbm, ⟨6, _⟩ => ⟨S4x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S4x32x1024x1024, .f32⟩
  | .hbm, ⟨51, _⟩ => ⟨S_, .f32⟩
  | .hbm, ⟨52, _⟩ => ⟨S4x32x1024x1024, .f32⟩
  | .hbm, ⟨53, _⟩ => ⟨S4x32x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S4x32x1024x1024, .i1⟩
  | .hbm, ⟨58, _⟩ => ⟨S4x32x1024x1024, .f32⟩
  | .hbm, ⟨59, _⟩ => ⟨S4x32x1024x1024, .f32⟩
  | .hbm, ⟨60, _⟩ => ⟨S_, .f32⟩
  | .hbm, ⟨61, _⟩ => ⟨S4x32x1024, .f32⟩
  | .hbm, ⟨62, _⟩ => ⟨S4x32x1024x1, .f32⟩
  | .hbm, ⟨63, _⟩ => ⟨S4x32x1024x1024, .f32⟩
  | .hbm, ⟨64, _⟩ => ⟨S4x32x1024x1024, .f32⟩
  | .hbm, ⟨65, _⟩ => ⟨S4x32x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S4x32x1024, .f32⟩
  | .hbm, ⟨71, _⟩ => ⟨S4x32x1024x1, .f32⟩
  | .hbm, ⟨72, _⟩ => ⟨S_, .f32⟩
  | .hbm, ⟨73, _⟩ => ⟨S_, .f32⟩
  | .hbm, ⟨74, _⟩ => ⟨S4x32x1024x1, .i1⟩
  | .hbm, ⟨75, _⟩ => ⟨S4x32x1024x1, .f32⟩
  | .hbm, ⟨76, _⟩ => ⟨S4x32x1024x1, .f32⟩
  | .hbm, ⟨77, _⟩ => ⟨S4x32x1024x1024, .f32⟩
  | .hbm, ⟨78, _⟩ => ⟨S4x32x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S4x32x1024x1024, .i1⟩
  | .hbm, ⟨83, _⟩ => ⟨S4x32x1024x1024, .f32⟩
  | .hbm, ⟨84, _⟩ => ⟨S4x32x1024x1024, .f32⟩
  | .hbm, ⟨85, _⟩ => ⟨S4x32x128x1024, .f32⟩
  | .hbm, ⟨86, _⟩ => ⟨S4x1024x32x128, .f32⟩
  | .hbm, ⟨87, _⟩ => ⟨S4x1024x4096, .f32⟩
  | .hbm, ⟨88, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points
public import proofs.«01_k».proof.Proof.Gen.KernelIdeal.Launch

@[expose] public section

set_option synthInstance.maxSize 4096

/-!
# The kernel body, step by step

The body is one long straight line of transfers, waits, loads and stores with five loops in it. Here it is
written again as a short list of stages, each built from a handful of step constants indexed by what they move,
and shown to be the generated body.
-/

noncomputable section

namespace Cert.KernelIdeal.Body

open Idealize.ShloMosaic Idealize.SL.Sem Cert.KernelIdeal.Gen

variable {F : FTy → Type} [FloatOps F] [Named F]

abbrev PR (F : FTy → Type) (α : Type) := Prog (TpuEff nD τ sig (Elt F) Λ₀ .tc) α

/-! ## The buffers -/

abbrev X : Memref sig .tc .vmem S1x1024x1024 .f32 := Memref.whole cc0_stg0_0
abbrev WQ : Memref sig .tc .vmem S1024x1024 .bf16 := Memref.whole cc0_stg1_0
abbrev WO : Memref sig .tc .vmem S1024x1024 .bf16 := Memref.whole cc0_stg2_0
abbrev OUT : Memref sig .tc .vmem S1x1024x1024 .f32 := Memref.whole cc0_stg3_0
abbrev KH : Memref sig .tc .hbm S4x1024x32x128 .f32 := Memref.whole main_arg2
abbrev VH : Memref sig .tc .hbm S4x1024x32x128 .f32 := Memref.whole main_arg3
abbrev CM : Memref sig .tc .vmem S3x2x1024x1024 .bf16 := Memref.whole cc0_scratch0
abbrev KB : Memref sig .tc .vmem S2x8x1024x128 .f32 := Memref.whole cc0_scratch1
abbrev VB : Memref sig .tc .vmem S2x8x1024x128 .f32 := Memref.whole cc0_scratch2
abbrev QB : Memref sig .tc .vmem S1024x1024 .bf16 := Memref.whole cc0_scratch3
abbrev CX : Memref sig .tc .vmem S1024x1024 .bf16 := Memref.whole cc0_scratch4
abbrev BI : Memref sig .tc .vmem S1024x1024 .bf16 := Memref.whole cc0_scratch5

/-- A whole buffer is whole. -/
theorem wh {κ : Kind} (b : Ref sig κ) : (Memref.whole b).IsWhole := Memref.isWhole_whole b

/-! ## The semaphores -/

theorem inb12 (k : Fin 12) : ∀ a, (![k.val] : Fin 1 → ℕ) a + S1.size a ≤ S12.size a := by
  revert k; decide
/-- The semaphore the `k`-th remote transfer credits on its sender. -/
def sS (k : Fin 12) : DmaSem sig := ((cc0_scratch6.slice (Rect.unit (s := S12) ![k.val] S1.size (inb12 k))).squeeze S_ squeezes_S1_S_).sem
/-- The semaphore it credits on its receiver. -/
def sR (k : Fin 12) : DmaSem sig := ((cc0_scratch7.slice (Rect.unit (s := S12) ![k.val] S1.size (inb12 k))).squeeze S_ squeezes_S1_S_).sem
theorem inb228 (sl kv : Fin 2) (h : Fin 8) : ∀ a, (![sl.val, kv.val, h.val] : Fin 3 → ℕ) a + S1x1x1.size a ≤ S2x2x8.size a := by
  revert sl kv h; decide
/-- The semaphore of the local copy of head `h` of keys (`kv = 0`) or values (`1`) into slot `sl`. -/
def sL (sl kv : Fin 2) (h : Fin 8) : DmaSem sig :=
  ((cc0_scratch8.slice (Rect.unit (s := S2x2x8) ![sl.val, kv.val, h.val] S1x1x1.size (inb228 sl kv h))).squeeze S_ squeezes_S1x1x1_S_).sem
/-- The runtime's barrier. -/
def sB : Sem sig := ((SemArray.scalar (sig.barrier 0 rfl) : Sems sig S_)).sem

/-! ## Local copies of keys and values -/

/-- Where head `h` of the chunk loaded in turn `a` starts in the keys and values of device `c`'s batch. -/
def offA (a : Fin 4) (c : Dev nD) (h : Fin 8) : Fin 4 → ℕ := match a with
  | 0 => k0_off1 c (BitVec.ofNat 32 h.val)
  | 1 => k0_off2 c (BitVec.ofNat 32 h.val)
  | 2 => k0_off11 c (BitVec.ofNat 32 (1 + (0 : Fin 2).val)) (BitVec.ofNat 32 h.val)
  | 3 => k0_off11 c (BitVec.ofNat 32 (1 + (1 : Fin 2).val)) (BitVec.ofNat 32 h.val)
theorem offA_inb (a : Fin 4) (c : Dev nD) (h : Fin 8) : ∀ i, offA a c h i + S1x1024x1x128.size i ≤ S4x1024x32x128.size i := match a with
  | 0 => k0_off1_inb c h
  | 1 => k0_off2_inb c h
  | 2 => k0_off11_inb c 0 h
  | 3 => k0_off11_inb c 1 h
/-- The slot the chunk of turn `a` is loaded into. -/
def slot : Fin 4 → Fin 2 | 0 => 0 | 1 => 1 | 2 => 0 | 3 => 1

theorem inbKB (sl : Fin 2) (h : Fin 8) : ∀ a, (![sl.val, h.val, 0, 0] : Fin 4 → ℕ) a + S1x1x1024x128.size a ≤ S2x8x1024x128.size a := by
  revert sl h; decide
/-- Head `h` of slot `sl` of a staging buffer `B`. -/
def bufW (B : Memref sig .tc .vmem S2x8x1024x128 .f32) (sl : Fin 2) (h : Fin 8) : Memref sig .tc .vmem S1024x128 .f32 :=
  (B.slice (Rect.unit (s := S2x8x1024x128) ![sl.val, h.val, 0, 0] S1x1x1024x128.size (inbKB sl h)) (fun _ => rfl)).squeeze S1024x128 squeezes_S1x1x1024x128_S1024x128
/-- Head `h` of the chunk of turn `a` in device `c`'s keys or values `M`. -/
def srcW (M : Memref sig .tc .hbm S4x1024x32x128 .f32) (a : Fin 4) (c : Dev nD) (h : Fin 8) : Memref sig .tc .hbm S1024x128 .f32 :=
  (M.slice (Rect.unit (s := S4x1024x32x128) (offA a c h) S1x1024x1x128.size (offA_inb a c h)) (fun _ => rfl)).squeeze S1024x128 squeezes_S1x1024x1x128_S1024x128

def ldStart (M : Memref sig .tc .hbm S4x1024x32x128 .f32) (B : Memref sig .tc .vmem S2x8x1024x128 .f32) (kv : Fin 2) (a : Fin 4) (c : Dev nD) (h : Fin 8) : PR F PUnit :=
  Prog.lift (.enqueueDma (srcW M a c h) (.here (bufW B (slot a) h)) (.dma (sL (slot a) kv h)) ((View.wordExact_bits rfl).reshape _ _) ((View.wordExact_bits rfl).reshape _ _) ⟨Or.inl rfl, trivial⟩)
def ldWait (M : Memref sig .tc .hbm S4x1024x32x128 .f32) (B : Memref sig .tc .vmem S2x8x1024x128 .f32) (kv : Fin 2) (a : Fin 4) (c : Dev nD) (h : Fin 8) : PR F PUnit :=
  Prog.lift (.waitDma2 (sL (slot a) kv h) (srcW M a c h) (bufW B (slot a) h) ((View.wordExact_bits rfl).reshape _ _) ((View.wordExact_bits rfl).reshape _ _))

def kS (a : Fin 4) (c : Dev nD) (h : Fin 8) : PR F PUnit := ldStart KH KB 0 a c h
def vS (a : Fin 4) (c : Dev nD) (h : Fin 8) : PR F PUnit := ldStart VH VB 1 a c h
def kW (a : Fin 4) (c : Dev nD) (h : Fin 8) : PR F PUnit := ldWait KH KB 0 a c h
def vW (a : Fin 4) (c : Dev nD) (h : Fin 8) : PR F PUnit := ldWait VH VB 1 a c h

/-! ## Remote copies -/

theorem inbCol (s : Fin 3) (g : Fin 2) : ∀ a, (![s.val, 0, 0, 512 * g.val] : Fin 4 → ℕ) a + S1x1x1024x512.size a ≤ S3x2x1024x1024.size a := by
  revert s g; decide
theorem inbRow (s : Fin 3) (j g : Fin 2) : ∀ a, (![s.val, j.val, 512 * g.val, 0] : Fin 4 → ℕ) a + S1x1x512x1024.size a ≤ S3x2x1024x1024.size a := by
  revert s j g; decide
theorem inbCq (g : Fin 2) : ∀ a, (![0, 512 * g.val] : Fin 2 → ℕ) a + S1024x512.size a ≤ S1024x1024.size a := by
  revert g; decide
theorem inbRo (g : Fin 2) : ∀ a, (![512 * g.val, 0] : Fin 2 → ℕ) a + S512x1024.size a ≤ S1024x1024.size a := by
  revert g; decide
/-- Half `g` of the columns of page 0 of slot `s` of the exchange buffer. -/
def colW (s : Fin 3) (g : Fin 2) : Memref sig .tc .vmem S1024x512 .bf16 :=
  (CM.slice (Rect.unit (s := S3x2x1024x1024) ![s.val, 0, 0, 512 * g.val] S1x1x1024x512.size (inbCol s g)) (fun _ => rfl)).squeeze S1024x512 squeezes_S1x1x1024x512_S1024x512
/-- Half `g` of the rows of page `j` of slot `s`. -/
def rowW (s : Fin 3) (j g : Fin 2) : Memref sig .tc .vmem S512x1024 .bf16 :=
  (CM.slice (Rect.unit (s := S3x2x1024x1024) ![s.val, j.val, 512 * g.val, 0] S1x1x512x1024.size (inbRow s j g)) (fun _ => rfl)).squeeze S512x1024 squeezes_S1x1x512x1024_S512x1024
def wqW (g : Fin 2) : Memref sig .tc .vmem S1024x512 .bf16 :=
  WQ.slice (Rect.unit (s := S1024x1024) ![0, 512 * g.val] S1024x512.size (inbCq g)) (fun _ => rfl)
def woW (g : Fin 2) : Memref sig .tc .vmem S512x1024 .bf16 :=
  WO.slice (Rect.unit (s := S1024x1024) ![512 * g.val, 0] S512x1024.size (inbRo g)) (fun _ => rfl)

def sendOp {s : Shape} (d : Dev nD) (src dst : Memref sig .tc .vmem s .bf16) (k : Fin 12) (h₁ : src.view.WordExact) (h₂ : dst.view.WordExact) : PR F PUnit :=
  Prog.lift (.enqueueDma src (.remote (Dev.tc d) dst (.dma (sS k))) (.dma (sR k)) h₁ h₂ ⟨⟨rfl, Or.inl rfl⟩, trivial⟩)
def recvOp {s : Shape} (src dst : Memref sig .tc .vmem s .bf16) (k : Fin 12) (h₁ : src.view.WordExact) (h₂ : dst.view.WordExact) : PR F PUnit :=
  Prog.lift (.waitDma2 (sR k) src dst h₁ h₂)
def sentOp {s : Shape} (src dst : Memref sig .tc .vmem s .bf16) (k : Fin 12) (h₁ : src.view.WordExact) (h₂ : dst.view.WordExact) : PR F PUnit :=
  Prog.lift (.waitDma2 (sS k) dst src h₂ h₁)

/-! The windows start and end on whole words. -/

theorem we_wq0 : (wqW 0).view.WordExact := (wh cc0_stg1_0).wordExact_slice rfl _ wordsbf16_S1024x1024_S1024x512_0_0
theorem we_wo0 : (woW 0).view.WordExact := (wh cc0_stg2_0).wordExact_slice rfl _ wordsbf16_S1024x1024_S512x1024_0_0
theorem we_col00 : (colW 0 0).view.WordExact := ((wh cc0_scratch0).wordExact_slice rfl _ wordsbf16_S3x2x1024x1024_S1x1x1024x512_0_0_0_0).reshape _ _
theorem we_col10 : (colW 1 0).view.WordExact := ((wh cc0_scratch0).wordExact_slice rfl _ wordsbf16_S3x2x1024x1024_S1x1x1024x512_1_0_0_0).reshape _ _
theorem we_wq1 : (wqW 1).view.WordExact := (wh cc0_stg1_0).wordExact_slice rfl _ wordsbf16_S1024x1024_S1024x512_0_512
theorem we_wo1 : (woW 1).view.WordExact := (wh cc0_stg2_0).wordExact_slice rfl _ wordsbf16_S1024x1024_S512x1024_512_0
theorem we_col01 : (colW 0 1).view.WordExact := ((wh cc0_scratch0).wordExact_slice rfl _ wordsbf16_S3x2x1024x1024_S1x1x1024x512_0_0_0_512).reshape _ _
theorem we_col11 : (colW 1 1).view.WordExact := ((wh cc0_scratch0).wordExact_slice rfl _ wordsbf16_S3x2x1024x1024_S1x1x1024x512_1_0_0_512).reshape _ _
theorem we_row000 : (rowW 0 0 0).view.WordExact := ((wh cc0_scratch0).wordExact_slice rfl _ wordsbf16_S3x2x1024x1024_S1x1x512x1024_0_0_0_0).reshape _ _
theorem we_row010 : (rowW 0 1 0).view.WordExact := ((wh cc0_scratch0).wordExact_slice rfl _ wordsbf16_S3x2x1024x1024_S1x1x512x1024_0_1_0_0).reshape _ _
theorem we_row011 : (rowW 0 1 1).view.WordExact := ((wh cc0_scratch0).wordExact_slice rfl _ wordsbf16_S3x2x1024x1024_S1x1x512x1024_0_1_512_0).reshape _ _
theorem we_row101 : (rowW 1 0 1).view.WordExact := ((wh cc0_scratch0).wordExact_slice rfl _ wordsbf16_S3x2x1024x1024_S1x1x512x1024_1_0_512_0).reshape _ _
theorem we_row110 : (rowW 1 1 0).view.WordExact := ((wh cc0_scratch0).wordExact_slice rfl _ wordsbf16_S3x2x1024x1024_S1x1x512x1024_1_1_0_0).reshape _ _
theorem we_row111 : (rowW 1 1 1).view.WordExact := ((wh cc0_scratch0).wordExact_slice rfl _ wordsbf16_S3x2x1024x1024_S1x1x512x1024_1_1_512_0).reshape _ _
theorem we_row200 : (rowW 2 0 0).view.WordExact := ((wh cc0_scratch0).wordExact_slice rfl _ wordsbf16_S3x2x1024x1024_S1x1x512x1024_2_0_0_0).reshape _ _
theorem we_row201 : (rowW 2 0 1).view.WordExact := ((wh cc0_scratch0).wordExact_slice rfl _ wordsbf16_S3x2x1024x1024_S1x1x512x1024_2_0_512_0).reshape _ _
theorem we_row210 : (rowW 2 1 0).view.WordExact := ((wh cc0_scratch0).wordExact_slice rfl _ wordsbf16_S3x2x1024x1024_S1x1x512x1024_2_1_0_0).reshape _ _
theorem we_row211 : (rowW 2 1 1).view.WordExact := ((wh cc0_scratch0).wordExact_slice rfl _ wordsbf16_S3x2x1024x1024_S1x1x512x1024_2_1_512_0).reshape _ _

def send0 (c : Dev nD) : PR F PUnit := sendOp (⟨k0_dev3 c, k0_dev3_lt c⟩ : Dev nD) (wqW 0) (colW 0 0) 0 we_wq0 we_col00
def send1 (c : Dev nD) : PR F PUnit := sendOp (⟨k0_dev4 c, k0_dev4_lt c⟩ : Dev nD) (woW 0) (rowW 0 1 0) 1 we_wo0 we_row010
def send2 (c : Dev nD) : PR F PUnit := sendOp (⟨k0_dev5 c, k0_dev5_lt c⟩ : Dev nD) (wqW 1) (colW 0 1) 2 we_wq1 we_col01
def send3 (c : Dev nD) : PR F PUnit := sendOp (⟨k0_dev6 c, k0_dev6_lt c⟩ : Dev nD) (woW 1) (rowW 0 1 1) 3 we_wo1 we_row011
def send4 (c : Dev nD) : PR F PUnit := sendOp (⟨k0_dev7 c, k0_dev7_lt c⟩ : Dev nD) (wqW 0) (colW 1 0) 4 we_wq0 we_col10
def send5 (c : Dev nD) : PR F PUnit := sendOp (⟨k0_dev8 c, k0_dev8_lt c⟩ : Dev nD) (woW 0) (rowW 1 1 0) 5 we_wo0 we_row110
def send6 (c : Dev nD) : PR F PUnit := sendOp (⟨k0_dev9 c, k0_dev9_lt c⟩ : Dev nD) (wqW 1) (colW 1 1) 6 we_wq1 we_col11
def send7 (c : Dev nD) : PR F PUnit := sendOp (⟨k0_dev10 c, k0_dev10_lt c⟩ : Dev nD) (woW 1) (rowW 1 1 1) 7 we_wo1 we_row111
def send8 (c : Dev nD) : PR F PUnit := sendOp (⟨k0_dev11 c, k0_dev11_lt c⟩ : Dev nD) (rowW 0 0 0) (rowW 2 0 0) 8 we_row000 we_row200
def send9 (c : Dev nD) : PR F PUnit := sendOp (⟨k0_dev12 c, k0_dev12_lt c⟩ : Dev nD) (rowW 0 1 0) (rowW 2 1 0) 9 we_row010 we_row210
def send10 (c : Dev nD) : PR F PUnit := sendOp (⟨k0_dev13 c, k0_dev13_lt c⟩ : Dev nD) (rowW 1 0 1) (rowW 2 0 1) 10 we_row101 we_row201
def send11 (c : Dev nD) : PR F PUnit := sendOp (⟨k0_dev14 c, k0_dev14_lt c⟩ : Dev nD) (rowW 1 1 1) (rowW 2 1 1) 11 we_row111 we_row211
def recv0 : PR F PUnit := recvOp (wqW 0) (colW 0 0) 0 we_wq0 we_col00
def recv1 : PR F PUnit := recvOp (woW 0) (rowW 0 1 0) 1 we_wo0 we_row010
def recv2 : PR F PUnit := recvOp (wqW 1) (colW 0 1) 2 we_wq1 we_col01
def recv3 : PR F PUnit := recvOp (woW 1) (rowW 0 1 1) 3 we_wo1 we_row011
def recv4 : PR F PUnit := recvOp (wqW 0) (colW 1 0) 4 we_wq0 we_col10
def recv5 : PR F PUnit := recvOp (woW 0) (rowW 1 1 0) 5 we_wo0 we_row110
def recv6 : PR F PUnit := recvOp (wqW 1) (colW 1 1) 6 we_wq1 we_col11
def recv7 : PR F PUnit := recvOp (woW 1) (rowW 1 1 1) 7 we_wo1 we_row111
def recv8 : PR F PUnit := recvOp (rowW 0 0 0) (rowW 2 0 0) 8 we_row000 we_row200
def recv9 : PR F PUnit := recvOp (rowW 0 1 0) (rowW 2 1 0) 9 we_row010 we_row210
def recv10 : PR F PUnit := recvOp (rowW 1 0 1) (rowW 2 0 1) 10 we_row101 we_row201
def recv11 : PR F PUnit := recvOp (rowW 1 1 1) (rowW 2 1 1) 11 we_row111 we_row211
def sent0 : PR F PUnit := sentOp (wqW 0) (colW 0 0) 0 we_wq0 we_col00
def sent1 : PR F PUnit := sentOp (woW 0) (rowW 0 1 0) 1 we_wo0 we_row010
def sent2 : PR F PUnit := sentOp (wqW 1) (colW 0 1) 2 we_wq1 we_col01
def sent3 : PR F PUnit := sentOp (woW 1) (rowW 0 1 1) 3 we_wo1 we_row011
def sent4 : PR F PUnit := sentOp (wqW 0) (colW 1 0) 4 we_wq0 we_col10
def sent5 : PR F PUnit := sentOp (woW 0) (rowW 1 1 0) 5 we_wo0 we_row110
def sent6 : PR F PUnit := sentOp (wqW 1) (colW 1 1) 6 we_wq1 we_col11
def sent7 : PR F PUnit := sentOp (woW 1) (rowW 1 1 1) 7 we_wo1 we_row111
def sent8 : PR F PUnit := sentOp (rowW 0 0 0) (rowW 2 0 0) 8 we_row000 we_row200
def sent9 : PR F PUnit := sentOp (rowW 0 1 0) (rowW 2 1 0) 9 we_row010 we_row210
def sent10 : PR F PUnit := sentOp (rowW 1 0 1) (rowW 2 0 1) 10 we_row101 we_row201
def sent11 : PR F PUnit := sentOp (rowW 1 1 1) (rowW 2 1 1) 11 we_row111 we_row211

/-! ## The attention of one head

One trip: four bands of 256 rows, band `i` against the first `256 (i + 1)` keys. -/

/-- Where a trip reads and writes: band `i`'s corner in the query and context buffers, its corner in the staging buffers. -/
structure Trip where
  q0 : Fin 2 → ℕ
  qi0 : ∀ a, q0 a + S256x128.size a ≤ S1024x1024.size a
  qp0 : (Rect.unit (s := S1024x1024) q0 S256x128.size qi0).PackedRows (EltTy.packing .bf16)
  b0 : Fin 4 → ℕ
  bi0 : ∀ a, b0 a + S1x1x256x128.size a ≤ S2x8x1024x128.size a
  q1 : Fin 2 → ℕ
  qi1 : ∀ a, q1 a + S256x128.size a ≤ S1024x1024.size a
  qp1 : (Rect.unit (s := S1024x1024) q1 S256x128.size qi1).PackedRows (EltTy.packing .bf16)
  b1 : Fin 4 → ℕ
  bi1 : ∀ a, b1 a + S1x1x512x128.size a ≤ S2x8x1024x128.size a
  q2 : Fin 2 → ℕ
  qi2 : ∀ a, q2 a + S256x128.size a ≤ S1024x1024.size a
  qp2 : (Rect.unit (s := S1024x1024) q2 S256x128.size qi2).PackedRows (EltTy.packing .bf16)
  b2 : Fin 4 → ℕ
  bi2 : ∀ a, b2 a + S1x1x768x128.size a ≤ S2x8x1024x128.size a
  q3 : Fin 2 → ℕ
  qi3 : ∀ a, q3 a + S256x128.size a ≤ S1024x1024.size a
  qp3 : (Rect.unit (s := S1024x1024) q3 S256x128.size qi3).PackedRows (EltTy.packing .bf16)
  b3 : Fin 4 → ℕ
  bi3 : ∀ a, b3 a + S1x1x1024x128.size a ≤ S2x8x1024x128.size a

namespace Trip

variable (o : Trip)

abbrev rq0 : Rect S1024x1024 := Rect.unit (s := S1024x1024) o.q0 S256x128.size o.qi0
abbrev rb0 : Rect S2x8x1024x128 := Rect.unit (s := S2x8x1024x128) o.b0 S1x1x256x128.size o.bi0
abbrev rq1 : Rect S1024x1024 := Rect.unit (s := S1024x1024) o.q1 S256x128.size o.qi1
abbrev rb1 : Rect S2x8x1024x128 := Rect.unit (s := S2x8x1024x128) o.b1 S1x1x512x128.size o.bi1
abbrev rq2 : Rect S1024x1024 := Rect.unit (s := S1024x1024) o.q2 S256x128.size o.qi2
abbrev rb2 : Rect S2x8x1024x128 := Rect.unit (s := S2x8x1024x128) o.b2 S1x1x768x128.size o.bi2
abbrev rq3 : Rect S1024x1024 := Rect.unit (s := S1024x1024) o.q3 S256x128.size o.qi3
abbrev rb3 : Rect S2x8x1024x128 := Rect.unit (s := S2x8x1024x128) o.b3 S1x1x1024x128.size o.bi3
end Trip

abbrev rm0 : Rect S1024x1024 := Rect.unit (s := S1024x1024) ![0, 0] S256x256.size inb_S1024x1024_S256x256_0_0
abbrev rm1 : Rect S1024x1024 := Rect.unit (s := S1024x1024) ![256, 0] S256x512.size inb_S1024x1024_S256x512_256_0
abbrev rm2 : Rect S1024x1024 := Rect.unit (s := S1024x1024) ![512, 0] S256x768.size inb_S1024x1024_S256x768_512_0
abbrev rm3 : Rect S1024x1024 := Rect.unit (s := S1024x1024) ![768, 0] S256x1024.size inb_S1024x1024_S256x1024_768_0

/-- The context of a band: from its rows of queries, keys, mask and values. -/
def band0 (q : Vec F S256x128 .bf16) (k : Vec F S1x1x256x128 .f32) (b : Vec F S256x256 .bf16) (v : Vec F S1x1x256x128 .f32) : FVec F S256x128 .bf16 := k0_pay1 q k b v
def band1 (q : Vec F S256x128 .bf16) (k : Vec F S1x1x512x128 .f32) (b : Vec F S256x512 .bf16) (v : Vec F S1x1x512x128 .f32) : FVec F S256x128 .bf16 := k0_pay2 q k b v
def band2 (q : Vec F S256x128 .bf16) (k : Vec F S1x1x768x128 .f32) (b : Vec F S256x768 .bf16) (v : Vec F S1x1x768x128 .f32) : FVec F S256x128 .bf16 :=
  k0_pay4 q (k0_pay3 k) (constant S256x768 .f32 0x00000000#32) b v
def band3 (q : Vec F S256x128 .bf16) (k : Vec F S1x1x1024x128 .f32) (b : Vec F S256x1024 .bf16) (v : Vec F S1x1x1024x128 .f32) : FVec F S256x128 .bf16 :=
  k0_pay40 (k0_pay5 q k b) (k0_pay6 q k b) v

/-- One trip. -/
def tripP (o : Trip) : PR F Unit := do
  let q0 : Vec F S256x128 .bf16 ← Prog.lift (.load QB o.rq0.toLoadRect (View.loadsAt_vmem h_S256x128))
  let k0 : Vec F S1x1x256x128 .f32 ← Prog.lift (.load KB o.rb0.toLoadRect (View.loadsAt_vmem h_S1x1x256x128))
  let m0 : Vec F S256x256 .bf16 ← Prog.lift (.load BI rm0.toLoadRect (View.loadsAt_vmem h_S256x256))
  let v0 : Vec F S1x1x256x128 .f32 ← Prog.lift (.load VB o.rb0.toLoadRect (View.loadsAt_vmem h_S1x1x256x128))
  let _x : Vec F S256x128 .bf16 ← Prog.lift (.load CX o.rq0.toLoadRect (View.loadsAt_vmem h_S256x128))
  Prog.lift (.store CX o.rq0 (band0 q0 k0 m0 v0) Finset.univ (View.stores_vmem h_S256x128 ((wh cc0_scratch4).storeExact_slice rfl _ o.qp0) (fun _ => rfl)) (.inl rfl))
  let q1 : Vec F S256x128 .bf16 ← Prog.lift (.load QB o.rq1.toLoadRect (View.loadsAt_vmem h_S256x128))
  let k1 : Vec F S1x1x512x128 .f32 ← Prog.lift (.load KB o.rb1.toLoadRect (View.loadsAt_vmem h_S1x1x512x128))
  let m1 : Vec F S256x512 .bf16 ← Prog.lift (.load BI rm1.toLoadRect (View.loadsAt_vmem h_S256x512))
  let v1 : Vec F S1x1x512x128 .f32 ← Prog.lift (.load VB o.rb1.toLoadRect (View.loadsAt_vmem h_S1x1x512x128))
  let _x : Vec F S256x128 .bf16 ← Prog.lift (.load CX o.rq1.toLoadRect (View.loadsAt_vmem h_S256x128))
  Prog.lift (.store CX o.rq1 (band1 q1 k1 m1 v1) Finset.univ (View.stores_vmem h_S256x128 ((wh cc0_scratch4).storeExact_slice rfl _ o.qp1) (fun _ => rfl)) (.inl rfl))
  let q2 : Vec F S256x128 .bf16 ← Prog.lift (.load QB o.rq2.toLoadRect (View.loadsAt_vmem h_S256x128))
  let k2 : Vec F S1x1x768x128 .f32 ← Prog.lift (.load KB o.rb2.toLoadRect (View.loadsAt_vmem h_S1x1x768x128))
  let m2 : Vec F S256x768 .bf16 ← Prog.lift (.load BI rm2.toLoadRect (View.loadsAt_vmem h_S256x768))
  let v2 : Vec F S1x1x768x128 .f32 ← Prog.lift (.load VB o.rb2.toLoadRect (View.loadsAt_vmem h_S1x1x768x128))
  let _x : Vec F S256x128 .bf16 ← Prog.lift (.load CX o.rq2.toLoadRect (View.loadsAt_vmem h_S256x128))
  Prog.lift (.store CX o.rq2 (band2 q2 k2 m2 v2) Finset.univ (View.stores_vmem h_S256x128 ((wh cc0_scratch4).storeExact_slice rfl _ o.qp2) (fun _ => rfl)) (.inl rfl))
  let q3 : Vec F S256x128 .bf16 ← Prog.lift (.load QB o.rq3.toLoadRect (View.loadsAt_vmem h_S256x128))
  let k3 : Vec F S1x1x1024x128 .f32 ← Prog.lift (.load KB o.rb3.toLoadRect (View.loadsAt_vmem h_S1x1x1024x128))
  let m3 : Vec F S256x1024 .bf16 ← Prog.lift (.load BI rm3.toLoadRect (View.loadsAt_vmem h_S256x1024))
  let v3 : Vec F S1x1x1024x128 .f32 ← Prog.lift (.load VB o.rb3.toLoadRect (View.loadsAt_vmem h_S1x1x1024x128))
  let _x : Vec F S256x128 .bf16 ← Prog.lift (.load CX o.rq3.toLoadRect (View.loadsAt_vmem h_S256x128))
  Prog.lift (.store CX o.rq3 (band3 q3 k3 m3 v3) Finset.univ (View.stores_vmem h_S256x128 ((wh cc0_scratch4).storeExact_slice rfl _ o.qp3) (fun _ => rfl)) (.inl rfl))
  pure ⟨⟩

def trip1 (t : Fin k0_t1_loop.trips) : Trip := ⟨k0_off3 t, k0_off3_inb t, k0_off3_packedbf16 t, k0_off4 t, k0_off4_inb t, k0_off5 t, k0_off5_inb t, k0_off5_packedbf16 t, k0_off6 t, k0_off6_inb t, k0_off7 t, k0_off7_inb t, k0_off7_packedbf16 t, k0_off8 t, k0_off8_inb t, k0_off9 t, k0_off9_inb t, k0_off9_packedbf16 t, k0_off10 t, k0_off10_inb t⟩
def loop1 : PR F Unit := Scf.Loop.for k0_t1_loop k0_t1_ok ⟨⟩ (fun t _ => tripP (trip1 t))
def trip2 (t : Fin k0_t2_loop.trips) : Trip := ⟨k0_off12 t, k0_off12_inb t, k0_off12_packedbf16 t, k0_off13 t, k0_off13_inb t, k0_off14 t, k0_off14_inb t, k0_off14_packedbf16 t, k0_off15 t, k0_off15_inb t, k0_off16 t, k0_off16_inb t, k0_off16_packedbf16 t, k0_off17 t, k0_off17_inb t, k0_off18 t, k0_off18_inb t, k0_off18_packedbf16 t, k0_off19 t, k0_off19_inb t⟩
def loop2 : PR F Unit := Scf.Loop.for k0_t2_loop k0_t2_ok ⟨⟩ (fun t _ => tripP (trip2 t))
def trip3 (t : Fin k0_t3_loop.trips) : Trip := ⟨k0_off20 t, k0_off20_inb t, k0_off20_packedbf16 t, k0_off21 t, k0_off21_inb t, k0_off22 t, k0_off22_inb t, k0_off22_packedbf16 t, k0_off23 t, k0_off23_inb t, k0_off24 t, k0_off24_inb t, k0_off24_packedbf16 t, k0_off25 t, k0_off25_inb t, k0_off26 t, k0_off26_inb t, k0_off26_packedbf16 t, k0_off27 t, k0_off27_inb t⟩
def loop3 : PR F Unit := Scf.Loop.for k0_t3_loop k0_t3_ok ⟨⟩ (fun t _ => tripP (trip3 t))
def trip4 (t : Fin k0_t4_loop.trips) : Trip := ⟨k0_off28 t, k0_off28_inb t, k0_off28_packedbf16 t, k0_off29 t, k0_off29_inb t, k0_off30 t, k0_off30_inb t, k0_off30_packedbf16 t, k0_off31 t, k0_off31_inb t, k0_off32 t, k0_off32_inb t, k0_off32_packedbf16 t, k0_off33 t, k0_off33_inb t, k0_off34 t, k0_off34_inb t, k0_off34_packedbf16 t, k0_off35 t, k0_off35_inb t⟩
def loop4 : PR F Unit := Scf.Loop.for k0_t4_loop k0_t4_ok ⟨⟩ (fun t _ => tripP (trip4 t))
def trip5 (t : Fin k0_t5_loop.trips) : Trip := ⟨k0_off36 t, k0_off36_inb t, k0_off36_packedbf16 t, k0_off37 t, k0_off37_inb t, k0_off38 t, k0_off38_inb t, k0_off38_packedbf16 t, k0_off39 t, k0_off39_inb t, k0_off40 t, k0_off40_inb t, k0_off40_packedbf16 t, k0_off41 t, k0_off41_inb t, k0_off42 t, k0_off42_inb t, k0_off42_packedbf16 t, k0_off43 t, k0_off43_inb t⟩
def loop5 : PR F Unit := Scf.Loop.for k0_t5_loop k0_t5_ok ⟨⟩ (fun t _ => tripP (trip5 t))

/-! ## Whole-block loads and stores -/

abbrev rX : Rect S1x1024x1024 := Rect.unit (s := S1x1024x1024) ![0, 0, 0] S1x1024x1024.size inb_S1x1024x1024_S1x1024x1024_0_0_0
abbrev rW : Rect S1024x1024 := Rect.unit (s := S1024x1024) ![0, 0] S1024x1024.size inb_S1024x1024_S1024x1024_0_0
abbrev rC0 : Rect S1024x1024 := Rect.unit (s := S1024x1024) ![0, 0] S1024x512.size inb_S1024x1024_S1024x512_0_0
abbrev rC1 : Rect S1024x1024 := Rect.unit (s := S1024x1024) ![0, 512] S1024x512.size inb_S1024x1024_S1024x512_0_512
abbrev rcol (s : Fin 3) (g : Fin 2) : Rect S3x2x1024x1024 := Rect.unit (s := S3x2x1024x1024) ![s.val, 0, 0, 512 * g.val] S1x1x1024x512.size (inbCol s g)
abbrev rrow (s : Fin 3) (j g : Fin 2) : Rect S3x2x1024x1024 := Rect.unit (s := S3x2x1024x1024) ![s.val, j.val, 512 * g.val, 0] S1x1x512x1024.size (inbRow s j g)
theorem inbPg (s : Fin 3) (j : Fin 2) : ∀ a, (![s.val, j.val, 0, 0] : Fin 4 → ℕ) a + S1x1x1024x1024.size a ≤ S3x2x1024x1024.size a := by
  revert s j; decide
abbrev rpg (s : Fin 3) (j : Fin 2) : Rect S3x2x1024x1024 := Rect.unit (s := S3x2x1024x1024) ![s.val, j.val, 0, 0] S1x1x1024x1024.size (inbPg s j)

def lX : PR F (Vec F S1x1024x1024 .f32) := Prog.lift (.load X rX.toLoadRect (View.loadsAt_vmem h_S1x1024x1024))
def lO : PR F (Vec F S1x1024x1024 .f32) := Prog.lift (.load OUT rX.toLoadRect (View.loadsAt_vmem h_S1x1024x1024))
def lBI : PR F (Vec F S1024x1024 .bf16) := Prog.lift (.load BI rW.toLoadRect (View.loadsAt_vmem h_S1024x1024))
def lWQ : PR F (Vec F S1024x1024 .bf16) := Prog.lift (.load WQ rW.toLoadRect (View.loadsAt_vmem h_S1024x1024))
def lWO : PR F (Vec F S1024x1024 .bf16) := Prog.lift (.load WO rW.toLoadRect (View.loadsAt_vmem h_S1024x1024))
def lQ : PR F (Vec F S1024x1024 .bf16) := Prog.lift (.load QB rW.toLoadRect (View.loadsAt_vmem h_S1024x1024))
def lQ0 : PR F (Vec F S1024x512 .bf16) := Prog.lift (.load QB rC0.toLoadRect (View.loadsAt_vmem h_S1024x512))
def lQ1 : PR F (Vec F S1024x512 .bf16) := Prog.lift (.load QB rC1.toLoadRect (View.loadsAt_vmem h_S1024x512))
def lC : PR F (Vec F S1024x1024 .bf16) := Prog.lift (.load CX rW.toLoadRect (View.loadsAt_vmem h_S1024x1024))
def lC0 : PR F (Vec F S1024x512 .bf16) := Prog.lift (.load CX rC0.toLoadRect (View.loadsAt_vmem h_S1024x512))
def lC1 : PR F (Vec F S1024x512 .bf16) := Prog.lift (.load CX rC1.toLoadRect (View.loadsAt_vmem h_S1024x512))
def lcol (s : Fin 3) (g : Fin 2) : PR F (Vec F S1x1x1024x512 .bf16) := Prog.lift (.load CM (rcol s g).toLoadRect (View.loadsAt_vmem h_S1x1x1024x512))
def lrow (s : Fin 3) (j g : Fin 2) : PR F (Vec F S1x1x512x1024 .bf16) := Prog.lift (.load CM (rrow s j g).toLoadRect (View.loadsAt_vmem h_S1x1x512x1024))
def lpg (s : Fin 3) (j : Fin 2) : PR F (Vec F S1x1x1024x1024 .bf16) := Prog.lift (.load CM (rpg s j).toLoadRect (View.loadsAt_vmem h_S1x1x1024x1024))

def sBI (w : FVec F S1024x1024 .bf16) : PR F PUnit :=
  Prog.lift (.store BI rW w Finset.univ (View.stores_vmem h_S1024x1024 ((wh cc0_scratch5).storeExact_slice rfl _ packedbf16_S1024x1024_S1024x1024_0_0) (fun _ => rfl)) (.inl rfl))
def sQ (w : FVec F S1024x1024 .bf16) : PR F PUnit :=
  Prog.lift (.store QB rW w Finset.univ (View.stores_vmem h_S1024x1024 ((wh cc0_scratch3).storeExact_slice rfl _ packedbf16_S1024x1024_S1024x1024_0_0) (fun _ => rfl)) (.inl rfl))
def sQ0 (w : FVec F S1024x512 .bf16) : PR F PUnit :=
  Prog.lift (.store QB rC0 w Finset.univ (View.stores_vmem h_S1024x512 ((wh cc0_scratch3).storeExact_slice rfl _ packedbf16_S1024x1024_S1024x512_0_0) (fun _ => rfl)) (.inl rfl))
def sQ1 (w : FVec F S1024x512 .bf16) : PR F PUnit :=
  Prog.lift (.store QB rC1 w Finset.univ (View.stores_vmem h_S1024x512 ((wh cc0_scratch3).storeExact_slice rfl _ packedbf16_S1024x1024_S1024x512_0_512) (fun _ => rfl)) (.inl rfl))
def sO (w : FVec F S1x1024x1024 .f32) : PR F PUnit :=
  Prog.lift (.store OUT rX w Finset.univ (View.stores_vmem_bits_univ h_S1x1024x1024 rfl) (.inl rfl))

/-- The mask: nothing where a row may look, the mask's constant where it may not. -/
def biasV : FVec F S1024x1024 .bf16 :=
  k0_pay35 (k0_pay34 (F := F) (iota .tc S1024x1024 32 [0] iota_S1024x1024_d0_w32) 64#32 k0_pay31 k0_pay32 k0_pay33)

def b36 (c : Dev nD) (wo : Vec F S1024x1024 .bf16) : PR F PUnit := do
  loop1
  let c0 ← lC
  let _ ← lO
  sO (k0_pay41 (k0_pay37 wo) c0)
  kW 1 c 0
  vW 1 c 0

def b45 (c : Dev nD) (u1 : Vec F S1x1x512x1024 .bf16) : PR F (FVec F S512x1024 .bf16) := do
  loop2
  pure (k0_pay42 u1)

def b50 (c : Dev nD) (u2 : Vec F S1x1x512x1024 .bf16) : PR F PUnit := do
  loop3
  let c2 ← lC1
  let o2 ← lO
  let _ ← lO
  sO (k0_pay49 (k0_pay46 u2) c2 o2)
  kW 2 c 0
  vW 2 c 0

def b59 (c : Dev nD) (u3 : Vec F S1x1x1024x1024 .bf16) : PR F PUnit := do
  loop4
  let c3 ← lC
  let o3 ← lO
  let _ ← lO
  sO (k0_pay53 u3 c3 o3)
  recv8

def b65 (c : Dev nD) (u4 : Vec F S1x1x1024x1024 .bf16) : PR F (Σ' (_ : FVec F S1024x1024 .f32), Vec F S1x1024x1024 .f32) := do
  loop5
  let c4 ← lC
  let o4 ← lO
  let z ← lO
  pure ⟨k0_pay56 u4 c4 o4, z⟩

/-- The body, step by step, cut where the generated one is. -/
def flatP : PR F PUnit := do
  let c ← Prog.lift .deviceId
  semSignalWord (⟨k0_dev1 c, k0_dev1_lt c⟩ : Dev nD) sB 1#32
  semSignalWord (⟨k0_dev2 c, k0_dev2_lt c⟩ : Dev nD) sB 1#32
  semWaitWord sB 2#32
  send0 c
  send1 c
  send2 c
  send3 c
  send4 c
  send5 c
  send6 c
  send7 c
  kS 0 c 0
  vS 0 c 0
  kS 0 c 1
  vS 0 c 1
  kS 0 c 2
  vS 0 c 2
  kS 0 c 3
  vS 0 c 3
  kS 0 c 4
  vS 0 c 4
  kS 0 c 5
  vS 0 c 5
  kS 0 c 6
  vS 0 c 6
  kS 0 c 7
  vS 0 c 7
  let _ ← lBI
  sBI biasV
  let x0 ← lX
  kW 0 c 0
  vW 0 c 0
  kW 0 c 1
  vW 0 c 1
  kW 0 c 2
  vW 0 c 2
  kW 0 c 3
  vW 0 c 3
  kW 0 c 4
  vW 0 c 4
  kW 0 c 5
  vW 0 c 5
  kW 0 c 6
  vW 0 c 6
  kW 0 c 7
  vW 0 c 7
  kS 1 c 0
  vS 1 c 0
  kS 1 c 1
  vS 1 c 1
  kS 1 c 2
  vS 1 c 2
  kS 1 c 3
  vS 1 c 3
  kS 1 c 4
  vS 1 c 4
  kS 1 c 5
  vS 1 c 5
  kS 1 c 6
  vS 1 c 6
  kS 1 c 7
  vS 1 c 7
  let wq ← lWQ
  let wo ← lWO
  let _ ← lQ
  sQ (k0_pay39 (k0_pay38 (k0_pay36 x0) wq))
  b36 c wo
  kW 1 c 1
  vW 1 c 1
  kW 1 c 2
  vW 1 c 2
  kW 1 c 3
  vW 1 c 3
  kW 1 c 4
  vW 1 c 4
  kW 1 c 5
  vW 1 c 5
  kW 1 c 6
  vW 1 c 6
  kW 1 c 7
  vW 1 c 7
  kS 2 c 0
  vS 2 c 0
  kS 2 c 1
  vS 2 c 1
  kS 2 c 2
  vS 2 c 2
  kS 2 c 3
  vS 2 c 3
  kS 2 c 4
  vS 2 c 4
  kS 2 c 5
  vS 2 c 5
  kS 2 c 6
  vS 2 c 6
  kS 2 c 7
  vS 2 c 7
  recv0
  recv1
  let w1 ← lcol 0 0
  let u1 ← lrow 0 1 0
  let _ ← lQ0
  sQ0 (k0_pay43 (k0_pay36 x0) w1)
  let u1' ← b45 c u1
  let c1 ← lC0
  let o1 ← lO
  let _ ← lO
  sO (k0_pay45 u1' c1 o1)
  recv2
  recv3
  send8 c
  send9 c
  recv4
  recv5
  recv6
  recv7
  send10 c
  send11 c
  let w2 ← lcol 0 1
  let u2 ← lrow 0 1 1
  let _ ← lQ1
  sQ1 (k0_pay47 (k0_pay36 x0) w2)
  b50 c u2
  kW 2 c 1
  vW 2 c 1
  kW 2 c 2
  vW 2 c 2
  kW 2 c 3
  vW 2 c 3
  kW 2 c 4
  vW 2 c 4
  kW 2 c 5
  vW 2 c 5
  kW 2 c 6
  vW 2 c 6
  kW 2 c 7
  vW 2 c 7
  kS 3 c 0
  vS 3 c 0
  kS 3 c 1
  vS 3 c 1
  kS 3 c 2
  vS 3 c 2
  kS 3 c 3
  vS 3 c 3
  kS 3 c 4
  vS 3 c 4
  kS 3 c 5
  vS 3 c 5
  kS 3 c 6
  vS 3 c 6
  kS 3 c 7
  vS 3 c 7
  let w3 ← lpg 1 0
  let u3 ← lpg 1 1
  let _ ← lQ
  sQ (k0_pay51 (k0_pay36 x0) (k0_pay50 w3))
  b59 c u3
  recv9
  recv10
  recv11
  kW 3 c 0
  vW 3 c 0
  kW 3 c 1
  vW 3 c 1
  kW 3 c 2
  vW 3 c 2
  kW 3 c 3
  vW 3 c 3
  kW 3 c 4
  vW 3 c 4
  kW 3 c 5
  vW 3 c 5
  kW 3 c 6
  vW 3 c 6
  kW 3 c 7
  vW 3 c 7
  let w4 ← lpg 2 0
  let u4 ← lpg 2 1
  let _ ← lQ
  sQ (k0_pay54 (k0_pay36 x0) w4)
  let ⟨r4, _⟩ ← b65 c u4
  sO (k0_pay57 r4)
  sent0
  sent1
  sent2
  sent3
  sent4
  sent5
  sent6
  sent7
  sent8
  sent9
  sent10

/-! ## The stages -/

/-- The two neighbours are greeted and waited for. -/
def greetP (c : Dev nD) : PR F PUnit := do
  semSignalWord (⟨k0_dev1 c, k0_dev1_lt c⟩ : Dev nD) sB 1#32
  semSignalWord (⟨k0_dev2 c, k0_dev2_lt c⟩ : Dev nD) sB 1#32
  semWaitWord sB 2#32

/-- The eight sends of the device's own weights. -/
def sendsP (c : Dev nD) : PR F PUnit := do
  send0 c
  send1 c
  send2 c
  send3 c
  send4 c
  send5 c
  send6 c
  send7 c

/-- The chunk of turn `a` is asked for. -/
def startP (a : Fin 4) (c : Dev nD) : PR F PUnit := do
  kS a c 0
  vS a c 0
  kS a c 1
  vS a c 1
  kS a c 2
  vS a c 2
  kS a c 3
  vS a c 3
  kS a c 4
  vS a c 4
  kS a c 5
  vS a c 5
  kS a c 6
  vS a c 6
  kS a c 7
  vS a c 7

/-- The chunk of turn `a` is waited for. -/
def waitP (a : Fin 4) (c : Dev nD) : PR F PUnit := do
  kW a c 0
  vW a c 0
  kW a c 1
  vW a c 1
  kW a c 2
  vW a c 2
  kW a c 3
  vW a c 3
  kW a c 4
  vW a c 4
  kW a c 5
  vW a c 5
  kW a c 6
  vW a c 6
  kW a c 7
  vW a c 7

def proc1P (x0 : Vec F S1x1024x1024 .f32) : PR F PUnit := do
  let wq ← lWQ
  let wo ← lWO
  let _ ← lQ
  sQ (k0_pay39 (k0_pay38 (k0_pay36 x0) wq))
  loop1
  let c0 ← lC
  let _ ← lO
  sO (k0_pay41 (k0_pay37 wo) c0)
def proc2P (x0 : Vec F S1x1024x1024 .f32) : PR F PUnit := do
  let w1 ← lcol 0 0
  let u1 ← lrow 0 1 0
  let _ ← lQ0
  sQ0 (k0_pay43 (k0_pay36 x0) w1)
  loop2
  let c1 ← lC0
  let o1 ← lO
  let _ ← lO
  sO (k0_pay45 (k0_pay42 u1) c1 o1)
def proc3P (x0 : Vec F S1x1024x1024 .f32) : PR F PUnit := do
  let w2 ← lcol 0 1
  let u2 ← lrow 0 1 1
  let _ ← lQ1
  sQ1 (k0_pay47 (k0_pay36 x0) w2)
  loop3
  let c2 ← lC1
  let o2 ← lO
  let _ ← lO
  sO (k0_pay49 (k0_pay46 u2) c2 o2)
def proc4P (x0 : Vec F S1x1024x1024 .f32) : PR F PUnit := do
  let w3 ← lpg 1 0
  let u3 ← lpg 1 1
  let _ ← lQ
  sQ (k0_pay51 (k0_pay36 x0) (k0_pay50 w3))
  loop4
  let c3 ← lC
  let o3 ← lO
  let _ ← lO
  sO (k0_pay53 u3 c3 o3)
def proc5P (x0 : Vec F S1x1024x1024 .f32) : PR F PUnit := do
  let w4 ← lpg 2 0
  let u4 ← lpg 2 1
  let _ ← lQ
  sQ (k0_pay54 (k0_pay36 x0) w4)
  loop5
  let c4 ← lC
  let o4 ← lO
  let _ ← lO
  sO (k0_pay57 (k0_pay56 u4 c4 o4))
/-- The mask is written down and the device's rows are read. -/
def maskP : PR F (Vec F S1x1024x1024 .f32) := do
  let _ ← lBI
  sBI biasV
  lX
/-- The first eight arrivals, and the four halves passed on. -/
def relayP (c : Dev nD) : PR F PUnit := do
  recv2
  recv3
  send8 c
  send9 c
  recv4
  recv5
  recv6
  recv7
  send10 c
  send11 c
def lateP : PR F PUnit := do
  recv8
  recv9
  recv10
  recv11
def doneP : PR F PUnit := do
  sent0
  sent1
  sent2
  sent3
  sent4
  sent5
  sent6
  sent7
  sent8
  sent9
  sent10

/-- The body by stages. -/
def bodyP : PR F PUnit := do
  let c ← Prog.lift .deviceId
  greetP c
  sendsP c
  startP 0 c
  let x0 ← maskP
  waitP 0 c
  startP 1 c
  proc1P x0
  waitP 1 c
  startP 2 c
  recv0
  recv1
  proc2P x0
  relayP c
  proc3P x0
  waitP 2 c
  startP 3 c
  proc4P x0
  lateP
  waitP 3 c
  proc5P x0
  doneP

set_option maxRecDepth 65536 in
set_option maxHeartbeats 4000000 in
theorem flat_eq : flatP (F := F) = bodyP (F := F) := by
  unfold flatP bodyP
  simp only [b36, b45, b50, b59, b65, greetP, sendsP, startP, waitP, proc1P, proc2P, proc3P, proc4P, proc5P, maskP, relayP, lateP, doneP,
    bind_assoc, pure_bind]

set_option maxRecDepth 65536 in
set_option maxHeartbeats 4000000 in
/-- The generated body, stage by stage. -/
theorem body_eq : bodyAt0 (F := F) t0_0 = (do bodyP; sent11) :=
  (show bodyAt0 (F := F) t0_0 = (do flatP; sent11) from rfl).trans (congrArg (· >>= fun _ => sent11) flat_eq)

end Cert.KernelIdeal.Body

end
-- ==== Proof.Geo.lean ====
module

public import proofs.«01_k».proof.Proof.Prog
public import Idealize.ShloMosaic.Lib.ValueLayout
public import Idealize.ShloMosaic.Lib.Exec.Geometry

@[expose] public section

set_option maxRecDepth 16384

/-!
# Where the copies land

The index sets the transfers move between, as conditions on coordinates, and what each landing leaves there.
-/

noncomputable section

namespace Cert.KernelIdeal.Body

open Idealize.ShloMosaic Idealize.ShloMosaic.ValueIdx Idealize.SL.Sem Cert.KernelIdeal.Gen

variable {F : FTy → Type} [FloatOps F] [Named F]

/-- What the devices start the kernel from: rows of the input, weight chunks, keys and values. -/
structure Ins (F : FTy → Type) where
  x : Dev nD → Vec F S1x1024x1024 .f32
  wq : Dev nD → Vec F S1024x1024 .bf16
  wo : Dev nD → Vec F S1024x1024 .bf16
  kh : Dev nD → Vec F S4x1024x32x128 .f32
  vh : Dev nD → Vec F S4x1024x32x128 .f32

/-! ## The ring -/

def lf (c : Dev nD) : Dev nD := ⟨(c.val + 3) % 4, Nat.mod_lt _ (by decide)⟩
def rg (c : Dev nD) : Dev nD := ⟨(c.val + 1) % 4, Nat.mod_lt _ (by decide)⟩
def op (c : Dev nD) : Dev nD := ⟨(c.val + 2) % 4, Nat.mod_lt _ (by decide)⟩
theorem lf_rg (c : Dev nD) : lf (rg c) = c := by revert c; decide
theorem rg_lf (c : Dev nD) : rg (lf c) = c := by revert c; decide
theorem op_rg (c : Dev nD) : op (rg c) = lf c := by revert c; decide
theorem op_lf (c : Dev nD) : op (lf c) = rg c := by revert c; decide

/-- Whose weights slot `s` of device `c`'s exchange buffer is for. -/
def whose (c : Dev nD) : Fin 3 → Dev nD | 0 => lf c | 1 => rg c | 2 => op c
/-- Which chunk of heads device `c` takes in turn `a`. -/
def turn (c : Dev nD) : Fin 4 → Dev nD | 0 => c | 1 => lf c | 2 => rg c | 3 => op c

/-- The exchange buffer, filled. -/
def cmC (I : Ins F) (c : Dev nD) : Vec F S3x2x1024x1024 .bf16 := fun i =>
  if (i 1).val = 0 then I.wq (whose c (i 0)) (ix2 (i 2) (i 3)) else I.wo (whose c (i 0)) (ix2 (i 2) (i 3))
/-- A staging buffer filled with the chunk of turn `a` of `M`. -/
def kvC (M : Vec F S4x1024x32x128 .f32) (a : Fin 4) (c : Dev nD) : Vec F S2x8x1024x128 .f32 := fun i =>
  M (ix4 c (i 2) (⟨8 * (turn c a).val + (i 1).val, by have h1 : (i 1).val < 8 := (i 1).isLt; have h2 : (turn c a).val < 4 := (turn c a).isLt; omega⟩ : Fin 32) (i 3))

/-! ## Index sets -/

def kvSlot (sl : Fin 2) : Finset S2x8x1024x128.Idx := Finset.univ.filter fun i => (i 0).val = sl.val
def kvWin (sl : Fin 2) (h : Fin 8) : Finset S2x8x1024x128.Idx := Finset.univ.filter fun i => (i 0).val = sl.val ∧ (i 1).val = h.val
def cmSlot (s : Fin 3) : Finset S3x2x1024x1024.Idx := Finset.univ.filter fun i => (i 0).val = s.val
def cmCol (s : Fin 3) (g : Fin 2) : Finset S3x2x1024x1024.Idx :=
  Finset.univ.filter fun i => (i 0).val = s.val ∧ (i 1).val = 0 ∧ (i 3).val / 512 = g.val
def cmRow (s : Fin 3) (j g : Fin 2) : Finset S3x2x1024x1024.Idx :=
  Finset.univ.filter fun i => (i 0).val = s.val ∧ (i 1).val = j.val ∧ (i 2).val / 512 = g.val
def cqSet (g : Fin 2) : Finset S1024x1024.Idx := Finset.univ.filter fun i => (i 1).val / 512 = g.val
def roSet (g : Fin 2) : Finset S1024x1024.Idx := Finset.univ.filter fun i => (i 0).val / 512 = g.val

theorem mem_unit {s : Shape} (off size : Fin s.rank → ℕ) (inb : ∀ a, off a + size a ≤ s.size a) (i : s.Idx) :
    i ∈ (Rect.unit (s := s) off size inb).set ↔ ∀ a, off a ≤ (i a).val ∧ (i a).val < off a + size a := by
  show i ∈ (Rect.unit (s := s) off size inb).toLoadRect.set ↔ _
  rw [LoadRect.mem_set]
  refine forall_congr' fun a => ?_
  show (∃ j < size a, (i a).val = off a + 1 * j) ↔ _
  constructor
  · rintro ⟨j, hj, h⟩; omega
  · rintro ⟨h1, h2⟩; exact ⟨(i a).val - off a, by omega, by omega⟩

theorem forall4 {P : Fin 4 → Prop} : (∀ a, P a) ↔ P 0 ∧ P 1 ∧ P 2 ∧ P 3 := by
  constructor
  · intro h; exact ⟨h 0, h 1, h 2, h 3⟩
  · rintro ⟨h0, h1, h2, h3⟩ a; fin_cases a <;> assumption

theorem unit4 {n0 n1 n2 n3 : ℕ} (o0 o1 o2 o3 z0 z1 z2 z3 : ℕ)
    (inb : ∀ a, (![o0, o1, o2, o3] : Fin 4 → ℕ) a + (![z0, z1, z2, z3] : Fin 4 → ℕ) a ≤ (⟨4, ![n0, n1, n2, n3]⟩ : Shape).size a)
    (i : (⟨4, ![n0, n1, n2, n3]⟩ : Shape).Idx) :
    i ∈ (Rect.unit (s := ⟨4, ![n0, n1, n2, n3]⟩) ![o0, o1, o2, o3] ![z0, z1, z2, z3] inb).set
      ↔ (o0 ≤ (i 0).val ∧ (i 0).val < o0 + z0) ∧ (o1 ≤ (i 1).val ∧ (i 1).val < o1 + z1)
        ∧ (o2 ≤ (i 2).val ∧ (i 2).val < o2 + z2) ∧ (o3 ≤ (i 3).val ∧ (i 3).val < o3 + z3) := by
  rw [mem_unit]; exact forall4

theorem unit2 {n0 n1 : ℕ} (o0 o1 z0 z1 : ℕ)
    (inb : ∀ a, (![o0, o1] : Fin 2 → ℕ) a + (![z0, z1] : Fin 2 → ℕ) a ≤ (⟨2, ![n0, n1]⟩ : Shape).size a)
    (i : (⟨2, ![n0, n1]⟩ : Shape).Idx) :
    i ∈ (Rect.unit (s := ⟨2, ![n0, n1]⟩) ![o0, o1] ![z0, z1] inb).set
      ↔ (o0 ≤ (i 0).val ∧ (i 0).val < o0 + z0) ∧ (o1 ≤ (i 1).val ∧ (i 1).val < o1 + z1) := by
  rw [mem_unit]; exact Fin.forall_fin_two

theorem set_bufW_K (sl : Fin 2) (h : Fin 8) : (bufW KB sl h).view.set = kvWin sl h := by
  refine (View.set_reshape _ _).trans ((View.set_slice_whole _ _).trans ?_)
  ext i
  refine (unit4 _ _ _ _ 1 1 1024 128 _ i).trans ?_
  have h2 : (i 2).val < 1024 := (i 2).isLt
  have h3 : (i 3).val < 128 := (i 3).isLt
  rw [kvWin, Finset.mem_filter, and_iff_right (Finset.mem_univ _)]
  omega
theorem set_bufW_V (sl : Fin 2) (h : Fin 8) : (bufW VB sl h).view.set = kvWin sl h := by
  refine (View.set_reshape _ _).trans ((View.set_slice_whole _ _).trans ?_)
  ext i
  refine (unit4 _ _ _ _ 1 1 1024 128 _ i).trans ?_
  have h2 : (i 2).val < 1024 := (i 2).isLt
  have h3 : (i 3).val < 128 := (i 3).isLt
  rw [kvWin, Finset.mem_filter, and_iff_right (Finset.mem_univ _)]
  omega
theorem set_rcol (s : Fin 3) (g : Fin 2) : (rcol s g).set = cmCol s g := by
  ext i
  refine (unit4 _ _ _ _ 1 1 1024 512 _ i).trans ?_
  have h2 : (i 2).val < 1024 := (i 2).isLt
  have h3 : (i 3).val < 1024 := (i 3).isLt
  have := g.isLt
  rw [cmCol, Finset.mem_filter, and_iff_right (Finset.mem_univ _)]
  omega
theorem set_rrow (s : Fin 3) (j g : Fin 2) : (rrow s j g).set = cmRow s j g := by
  ext i
  refine (unit4 _ _ _ _ 1 1 512 1024 _ i).trans ?_
  have h2 : (i 2).val < 1024 := (i 2).isLt
  have h3 : (i 3).val < 1024 := (i 3).isLt
  have := g.isLt
  rw [cmRow, Finset.mem_filter, and_iff_right (Finset.mem_univ _)]
  omega
theorem set_colW (s : Fin 3) (g : Fin 2) : (colW s g).view.set = cmCol s g :=
  (View.set_reshape _ _).trans ((View.set_slice_whole _ _).trans (set_rcol s g))
theorem set_rowW (s : Fin 3) (j g : Fin 2) : (rowW s j g).view.set = cmRow s j g :=
  (View.set_reshape _ _).trans ((View.set_slice_whole _ _).trans (set_rrow s j g))
theorem rpg_sub (s : Fin 3) (j : Fin 2) : (rpg s j).set ⊆ cmSlot s := by
  intro i hi
  have := (unit4 _ _ _ _ 1 1 1024 1024 _ i).mp hi
  rw [cmSlot, Finset.mem_filter, and_iff_right (Finset.mem_univ _)]
  omega
theorem set_wqW (g : Fin 2) : (wqW g).view.set = cqSet g := by
  refine (View.set_slice_whole _ _).trans ?_
  ext i
  refine (unit2 _ _ 1024 512 _ i).trans ?_
  have h0 : (i 0).val < 1024 := (i 0).isLt
  have h1 : (i 1).val < 1024 := (i 1).isLt
  have := g.isLt
  rw [cqSet, Finset.mem_filter, and_iff_right (Finset.mem_univ _)]
  omega
theorem set_woW (g : Fin 2) : (woW g).view.set = roSet g := by
  refine (View.set_slice_whole _ _).trans ?_
  ext i
  refine (unit2 _ _ 512 1024 _ i).trans ?_
  have h0 : (i 0).val < 1024 := (i 0).isLt
  have h1 : (i 1).val < 1024 := (i 1).isLt
  have := g.isLt
  rw [roSet, Finset.mem_filter, and_iff_right (Finset.mem_univ _)]
  omega

/-! ## What a landing leaves -/

theorem ix2_eta {a b : ℕ} (j : (⟨2, ![a, b]⟩ : Shape).Idx) : j = ix2 (j 0) (j 1) := by
  funext x; fin_cases x <;> rfl

/-- An index `(x, y)` matched with shape `[1, a, 1, b]` is `(0, x, 0, y)`. -/
theorem sq_1a1b {a b : ℕ} (h : (⟨2, ![a, b]⟩ : Shape).numel = (⟨4, ![1, a, 1, b]⟩ : Shape).numel) (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

theorem ix4_ext {n0 n1 n2 n3 : ℕ} (i j : (⟨4, ![n0, n1, n2, n3]⟩ : Shape).Idx) (h0 : (i 0).val = (j 0).val) (h1 : (i 1).val = (j 1).val)
    (h2 : (i 2).val = (j 2).val) (h3 : (i 3).val = (j 3).val) : i = j := by
  funext x; fin_cases x
  · exact Fin.ext h0
  · exact Fin.ext h1
  · exact Fin.ext h2
  · exact Fin.ext h3

/-- What is written through a window, read at one of its elements. -/
theorem landed {sp sp' : Space} {s : Shape} {e : EltTy} (dst : View sig .tc sp s e) (src : View sig .tc sp' s e)
    (fd : dst.ty.Contents (Elt F)) (fs : src.ty.Contents (Elt F)) (g : dst.ty.Contents (Elt F))
    (h : ∀ j : s.Idx, src.read (Elt F) fs j = dst.read (Elt F) g j) :
    ∀ i ∈ dst.set, dst.write (Elt F) fd (src.read (Elt F) fs) Finset.univ i = g i := by
  intro i hi
  obtain ⟨j, -, rfl⟩ := Finset.mem_map.mp hi
  rw [View.write_emb_of_mem _ _ (Finset.mem_univ _), h j, View.read_apply, cast_cast, cast_eq]

theorem emb_bufK (sl : Fin 2) (h : Fin 8) (x : Fin 1024) (y : Fin 128) : (bufW KB sl h).view.emb (ix2 x y) = ix4 sl h x y := by
  show (Rect.unit (s := S2x8x1024x128) _ _ (inbKB sl h)).emb (Shape.reshapeEquiv _ (ix2 x y)) = _
  rw [reshapeEquiv_ix2_11ab]
  refine ix4_ext _ _ ?_ ?_ ?_ ?_
  · show sl.val + 1 * 0 = sl.val; omega
  · show h.val + 1 * 0 = h.val; omega
  · show 0 + 1 * x.val = x.val; omega
  · show 0 + 1 * y.val = y.val; omega
theorem emb_bufV (sl : Fin 2) (h : Fin 8) (x : Fin 1024) (y : Fin 128) : (bufW VB sl h).view.emb (ix2 x y) = ix4 sl h x y :=
  emb_bufK sl h x y

theorem offA_eq (a : Fin 4) (c : Dev nD) (h : Fin 8) : offA a c h = ![c.val, 0, 8 * (turn c a).val + h.val, 0] := by
  fin_cases a
  · exact k0_off1_eq c h
  · exact k0_off2_eq c h
  · refine (k0_off11_eq c 0 h).trans ?_
    show ![c.val, 0, 8 * ((c.val + 0 + 1) % 4) + h.val, 0] = ![c.val, 0, 8 * ((c.val + 1) % 4) + h.val, 0]
    rfl
  · refine (k0_off11_eq c 1 h).trans ?_
    show ![c.val, 0, 8 * ((c.val + 1 + 1) % 4) + h.val, 0] = ![c.val, 0, 8 * ((c.val + 2) % 4) + h.val, 0]
    rfl

theorem emb_srcK (a : Fin 4) (c : Dev nD) (h : Fin 8) (x : Fin 1024) (y : Fin 128) :
    (srcW KH a c h).view.emb (ix2 x y) = ix4 c x (⟨8 * (turn c a).val + h.val, by have h1 : h.val < 8 := h.isLt; have h2 : (turn c a).val < 4 := (turn c a).isLt; omega⟩ : Fin 32) y := by
  show (Rect.unit (s := S4x1024x32x128) _ _ (offA_inb a c h)).emb (Shape.reshapeEquiv _ (ix2 x y)) = _
  rw [sq_1a1b]
  refine ix4_ext _ _ ?_ ?_ ?_ ?_
  · show offA a c h 0 + 1 * 0 = c.val; rw [offA_eq]; show c.val + 1 * 0 = c.val; omega
  · show offA a c h 1 + 1 * x.val = x.val; rw [offA_eq]; show 0 + 1 * x.val = x.val; omega
  · show offA a c h 2 + 1 * 0 = 8 * (turn c a).val + h.val; rw [offA_eq]; rfl
  · show offA a c h 3 + 1 * y.val = y.val; rw [offA_eq]; show 0 + 1 * y.val = y.val; omega

theorem emb_col (s : Fin 3) (g : Fin 2) (x : Fin 1024) (y : Fin 512) :
    (colW s g).view.emb (ix2 x y) = ix4 s (0 : Fin 2) x (⟨512 * g.val + y.val, by have := g.isLt; have := y.isLt; omega⟩ : Fin 1024) := by
  show (Rect.unit (s := S3x2x1024x1024) _ _ (inbCol s g)).emb (Shape.reshapeEquiv _ (ix2 x y)) = _
  rw [reshapeEquiv_ix2_11ab]
  refine ix4_ext _ _ ?_ ?_ ?_ ?_
  · show s.val + 1 * 0 = s.val; omega
  · rfl
  · show 0 + 1 * x.val = x.val; omega
  · show 512 * g.val + 1 * y.val = 512 * g.val + y.val; omega
theorem emb_row (s : Fin 3) (j g : Fin 2) (x : Fin 512) (y : Fin 1024) :
    (rowW s j g).view.emb (ix2 x y) = ix4 s j (⟨512 * g.val + x.val, by have := g.isLt; have := x.isLt; omega⟩ : Fin 1024) y := by
  show (Rect.unit (s := S3x2x1024x1024) _ _ (inbRow s j g)).emb (Shape.reshapeEquiv _ (ix2 x y)) = _
  rw [reshapeEquiv_ix2_11ab]
  refine ix4_ext _ _ ?_ ?_ ?_ ?_
  · show s.val + 1 * 0 = s.val; omega
  · show j.val + 1 * 0 = j.val; omega
  · show 512 * g.val + 1 * x.val = 512 * g.val + x.val; omega
  · show 0 + 1 * y.val = y.val; omega
theorem emb_cq (g : Fin 2) (x : Fin 1024) (y : Fin 512) :
    (wqW g).view.emb (ix2 x y) = ix2 x (⟨512 * g.val + y.val, by have := g.isLt; have := y.isLt; omega⟩ : Fin 1024) := by
  show (Rect.unit (s := S1024x1024) _ _ (inbCq g)).emb (ix2 x y) = _
  funext a; fin_cases a
  · exact Fin.ext (show 0 + 1 * x.val = x.val by omega)
  · exact Fin.ext (show 512 * g.val + 1 * y.val = 512 * g.val + y.val by omega)
theorem emb_ro (g : Fin 2) (x : Fin 512) (y : Fin 1024) :
    (woW g).view.emb (ix2 x y) = ix2 (⟨512 * g.val + x.val, by have := g.isLt; have := x.isLt; omega⟩ : Fin 1024) y := by
  show (Rect.unit (s := S1024x1024) _ _ (inbRo g)).emb (ix2 x y) = _
  funext a; fin_cases a
  · exact Fin.ext (show 512 * g.val + 1 * x.val = 512 * g.val + x.val by omega)
  · exact Fin.ext (show 0 + 1 * y.val = y.val by omega)

theorem slot_val (a : Fin 4) : (slot a).val < 2 := (slot a).isLt

theorem land_K (M : Vec F S4x1024x32x128 .f32) (a : Fin 4) (c : Dev nD) (h : Fin 8) (fd : Vec F S2x8x1024x128 .f32) :
    ∀ i ∈ (bufW KB (slot a) h).view.set, (bufW KB (slot a) h).view.write (Elt F) fd ((srcW KH a c h).view.read (Elt F) M) Finset.univ i = kvC M a c i := by
  refine landed (bufW KB (slot a) h).view (srcW KH a c h).view fd M (kvC M a c) fun j => ?_
  rw [ix2_eta j]
  exact (congrArg M (emb_srcK a c h (j 0) (j 1))).trans (congrArg (kvC M a c) (emb_bufK (slot a) h (j 0) (j 1))).symm
theorem land_V (M : Vec F S4x1024x32x128 .f32) (a : Fin 4) (c : Dev nD) (h : Fin 8) (fd : Vec F S2x8x1024x128 .f32) :
    ∀ i ∈ (bufW VB (slot a) h).view.set, (bufW VB (slot a) h).view.write (Elt F) fd ((srcW VH a c h).view.read (Elt F) M) Finset.univ i = kvC M a c i := by
  refine landed (bufW VB (slot a) h).view (srcW VH a c h).view fd M (kvC M a c) fun j => ?_
  rw [ix2_eta j]
  exact (congrArg M (emb_srcK a c h (j 0) (j 1))).trans (congrArg (kvC M a c) (emb_bufV (slot a) h (j 0) (j 1))).symm

theorem land_cq (I : Ins F) (s : Fin 3) (g : Fin 2) (e : Dev nD) (fd : Vec F S3x2x1024x1024 .bf16) :
    ∀ i ∈ (colW s g).view.set, (colW s g).view.write (Elt F) fd ((wqW g).view.read (Elt F) (I.wq (whose e s))) Finset.univ i = cmC I e i := by
  refine landed (colW s g).view (wqW g).view fd (I.wq (whose e s)) (cmC I e) fun j => ?_
  rw [ix2_eta j]
  exact (congrArg (I.wq (whose e s)) (emb_cq g (j 0) (j 1))).trans ((congrArg (cmC I e) (emb_col s g (j 0) (j 1))).trans (if_pos rfl)).symm
theorem land_ro (I : Ins F) (s : Fin 3) (g : Fin 2) (e : Dev nD) (fd : Vec F S3x2x1024x1024 .bf16) :
    ∀ i ∈ (rowW s 1 g).view.set, (rowW s 1 g).view.write (Elt F) fd ((woW g).view.read (Elt F) (I.wo (whose e s))) Finset.univ i = cmC I e i := by
  refine landed (rowW s 1 g).view (woW g).view fd (I.wo (whose e s)) (cmC I e) fun j => ?_
  rw [ix2_eta j]
  exact (congrArg (I.wo (whose e s)) (emb_ro g (j 0) (j 1))).trans
    ((congrArg (cmC I e) (emb_row s 1 g (j 0) (j 1))).trans (if_neg (show ¬ (1 : ℕ) = 0 by omega))).symm
/-- A relayed page arrives as the page it was at the relay. -/
theorem land_fw (I : Ins F) (s s' : Fin 3) (j g : Fin 2) (e e' : Dev nD) (hw : whose e s = whose e' s') (fd : Vec F S3x2x1024x1024 .bf16) :
    ∀ i ∈ (rowW s' j g).view.set, (rowW s' j g).view.write (Elt F) fd ((rowW s j g).view.read (Elt F) (cmC I e)) Finset.univ i = cmC I e' i := by
  refine landed (rowW s' j g).view (rowW s j g).view fd (cmC I e) (cmC I e') fun x => ?_
  rw [ix2_eta x]
  refine (congrArg (cmC I e) (emb_row s j g (x 0) (x 1))).trans (Eq.trans ?_ (congrArg (cmC I e') (emb_row s' j g (x 0) (x 1))).symm)
  show (if j.val = 0 then I.wq (whose e s) _ else I.wo (whose e s) _) = (if j.val = 0 then I.wq (whose e' s') _ else I.wo (whose e' s') _)
  rw [hw]

/-! ## Cutting the buffers -/

theorem kvSlot_eq (sl : Fin 2) : kvSlot sl = Finset.univ.biUnion (kvWin sl) := by
  ext i
  simp only [kvSlot, kvWin, Finset.mem_filter, Finset.mem_biUnion, Finset.mem_univ, true_and]
  constructor
  · intro h; exact ⟨⟨(i 1).val, (i 1).isLt⟩, h, rfl⟩
  · rintro ⟨_, h, _⟩; exact h
theorem kvWin_disj (sl : Fin 2) : ∀ t ∈ (Finset.univ : Finset (Fin 8)), ∀ t' ∈ (Finset.univ : Finset (Fin 8)), t ≠ t' → Disjoint (kvWin sl t) (kvWin sl t') := by
  intro t _ t' _ ne
  refine Finset.disjoint_left.mpr fun i h h' => ne (Fin.ext ?_)
  have h1 := (Finset.mem_filter.mp h).2
  have h2 := (Finset.mem_filter.mp h').2
  omega
theorem kv_univ : (Finset.univ : Finset S2x8x1024x128.Idx) = kvSlot 0 ∪ kvSlot 1 := by
  ext i
  have h : (i 0).val < 2 := (i 0).isLt
  simp only [kvSlot, Finset.mem_filter, Finset.mem_union, Finset.mem_univ, true_and, true_iff]
  show (i 0).val = 0 ∨ (i 0).val = 1
  omega
theorem kv_disj : Disjoint (kvSlot 0) (kvSlot 1) := by
  refine Finset.disjoint_left.mpr fun i h h' => ?_
  have h1 : (i 0).val = 0 := (Finset.mem_filter.mp h).2
  have h2 : (i 0).val = 1 := (Finset.mem_filter.mp h').2
  omega
theorem cq_univ : (Finset.univ : Finset S1024x1024.Idx) = cqSet 0 ∪ cqSet 1 := by
  ext i
  have h : (i 1).val < 1024 := (i 1).isLt
  simp only [cqSet, Finset.mem_filter, Finset.mem_union, Finset.mem_univ, true_and, true_iff]
  show (i 1).val / 512 = 0 ∨ (i 1).val / 512 = 1
  omega
theorem cq_disj : Disjoint (cqSet 0) (cqSet 1) := by
  refine Finset.disjoint_left.mpr fun i h h' => ?_
  have h1 : (i 1).val / 512 = 0 := (Finset.mem_filter.mp h).2
  have h2 : (i 1).val / 512 = 1 := (Finset.mem_filter.mp h').2
  omega
theorem ro_univ : (Finset.univ : Finset S1024x1024.Idx) = roSet 0 ∪ roSet 1 := by
  ext i
  have h : (i 0).val < 1024 := (i 0).isLt
  simp only [roSet, Finset.mem_filter, Finset.mem_union, Finset.mem_univ, true_and, true_iff]
  show (i 0).val / 512 = 0 ∨ (i 0).val / 512 = 1
  omega
theorem ro_disj : Disjoint (roSet 0) (roSet 1) := by
  refine Finset.disjoint_left.mpr fun i h h' => ?_
  have h1 : (i 0).val / 512 = 0 := (Finset.mem_filter.mp h).2
  have h2 : (i 0).val / 512 = 1 := (Finset.mem_filter.mp h').2
  omega

theorem cm_univ : (Finset.univ : Finset S3x2x1024x1024.Idx) = cmSlot 0 ∪ (cmSlot 1 ∪ cmSlot 2) := by
  ext i
  have h : (i 0).val < 3 := (i 0).isLt
  simp only [cmSlot, Finset.mem_filter, Finset.mem_union, Finset.mem_univ, true_and, true_iff]
  show (i 0).val = 0 ∨ (i 0).val = 1 ∨ (i 0).val = 2
  omega
theorem cm_disj {s s' : Fin 3} (ne : s ≠ s') : Disjoint (cmSlot s) (cmSlot s') := by
  refine Finset.disjoint_left.mpr fun i h h' => ne (Fin.ext ?_)
  have h1 := (Finset.mem_filter.mp h).2
  have h2 := (Finset.mem_filter.mp h').2
  omega
/-- Slots 0 and 1 arrive as two halves of page 0's columns and two halves of page 1's rows. -/
theorem cmSlot_colrow (s : Fin 3) : cmSlot s = (cmCol s 0 ∪ cmRow s 1 0) ∪ (cmCol s 1 ∪ cmRow s 1 1) := by
  ext i
  have h1 : (i 1).val < 2 := (i 1).isLt
  have h2 : (i 2).val < 1024 := (i 2).isLt
  have h3 : (i 3).val < 1024 := (i 3).isLt
  simp only [cmSlot, cmCol, cmRow, Finset.mem_filter, Finset.mem_union, Finset.mem_univ, true_and]
  show (i 0).val = s.val ↔ ((i 0).val = s.val ∧ (i 1).val = 0 ∧ (i 3).val / 512 = 0 ∨ (i 0).val = s.val ∧ (i 1).val = 1 ∧ (i 2).val / 512 = 0)
    ∨ ((i 0).val = s.val ∧ (i 1).val = 0 ∧ (i 3).val / 512 = 1 ∨ (i 0).val = s.val ∧ (i 1).val = 1 ∧ (i 2).val / 512 = 1)
  omega
/-- Slot 2 arrives as four halves of rows. -/
theorem cmSlot_rows (s : Fin 3) : cmSlot s = (cmRow s 0 0 ∪ cmRow s 1 0) ∪ (cmRow s 0 1 ∪ cmRow s 1 1) := by
  ext i
  have h1 : (i 1).val < 2 := (i 1).isLt
  have h2 : (i 2).val < 1024 := (i 2).isLt
  simp only [cmSlot, cmRow, Finset.mem_filter, Finset.mem_union, Finset.mem_univ, true_and]
  show (i 0).val = s.val ↔ ((i 0).val = s.val ∧ (i 1).val = 0 ∧ (i 2).val / 512 = 0 ∨ (i 0).val = s.val ∧ (i 1).val = 1 ∧ (i 2).val / 512 = 0)
    ∨ ((i 0).val = s.val ∧ (i 1).val = 0 ∧ (i 2).val / 512 = 1 ∨ (i 0).val = s.val ∧ (i 1).val = 1 ∧ (i 2).val / 512 = 1)
  omega
theorem colrow_disj (s : Fin 3) (g g' : Fin 2) : Disjoint (cmCol s g) (cmRow s 1 g') := by
  refine Finset.disjoint_left.mpr fun i h h' => ?_
  have h1 := (Finset.mem_filter.mp h).2.2.1
  have h2 : (i 1).val = 1 := (Finset.mem_filter.mp h').2.2.1
  omega
theorem colcol_disj (s : Fin 3) : Disjoint (cmCol s 0) (cmCol s 1) := by
  refine Finset.disjoint_left.mpr fun i h h' => ?_
  have h1 : (i 3).val / 512 = 0 := (Finset.mem_filter.mp h).2.2.2
  have h2 : (i 3).val / 512 = 1 := (Finset.mem_filter.mp h').2.2.2
  omega
theorem row_disj (s : Fin 3) {j j' g g' : Fin 2} (ne : ¬ (j = j' ∧ g = g')) : Disjoint (cmRow s j g) (cmRow s j' g') := by
  refine Finset.disjoint_left.mpr fun i h h' => ne ?_
  have h1 := (Finset.mem_filter.mp h).2
  have h2 := (Finset.mem_filter.mp h').2
  exact ⟨Fin.ext (by omega), Fin.ext (by omega)⟩
theorem colrow_disj2 (s : Fin 3) : Disjoint (cmCol s 0 ∪ cmRow s 1 0) (cmCol s 1 ∪ cmRow s 1 1) :=
  Finset.disjoint_union_left.mpr ⟨Finset.disjoint_union_right.mpr ⟨colcol_disj s, colrow_disj s 0 1⟩,
    Finset.disjoint_union_right.mpr ⟨(colrow_disj s 1 0).symm, row_disj s (by decide)⟩⟩
theorem rows_disj2 (s : Fin 3) : Disjoint (cmRow s 0 0 ∪ cmRow s 1 0) (cmRow s 0 1 ∪ cmRow s 1 1) :=
  Finset.disjoint_union_left.mpr ⟨Finset.disjoint_union_right.mpr ⟨row_disj s (by decide), row_disj s (by decide)⟩,
    Finset.disjoint_union_right.mpr ⟨row_disj s (by decide), row_disj s (by decide)⟩⟩
theorem row_sub (s : Fin 3) (j g : Fin 2) : cmRow s j g ⊆ cmSlot s := by
  intro i hi
  exact Finset.mem_filter.mpr ⟨Finset.mem_univ _, (Finset.mem_filter.mp hi).2.1⟩

end Cert.KernelIdeal.Body
-- ==== Proof.Proto.lean ====
module

public import proofs.«01_k».proof.Proof.Geo
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.Transfers
public import Idealize.ShloMosaic.Lib.Ring.Trips
public import Idealize.ShloMosaic.Harness.Basic

@[expose] public section

set_option maxRecDepth 16384

/-!
# The exchange between the devices

Per device: one barrier cell, twelve send cells, twelve receive cells; all used once.

* The barrier of device `e` takes one unit from each neighbour. With its unit the right neighbour lends the windows of its
  exchange buffer that `e` copies rightwards into (copies 0 to 3, 8, 9), the left neighbour those of the leftward copies
  (4 to 7, 10, 11); each says beside it that round 0 of the receive cells of those copies has begun.
* Copy `k` of device `c` goes to `dstD c k`. Its landing gives the target's receive cell `k` the window back, holding what the
  filled exchange buffer holds there; its departure gives `c`'s send cell `k` the share of the source back.
* The local copies of keys and values use cells of their own, one flight at a time.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The exchange's rounds, with two duties to a round. -/
abbrev UE : Type := URounds (GSem nD τ sig) (Fin 2)
abbrev UU : Type := UR sig nD τ × (UE × Counters)
abbrev MM (F : FTy → Type) : Type := MT nD τ sig Unit (Elt F) ℕ UU ℕ

def EP : Emb (UR sig nD τ) (MM F) := embL
def EX : Emb (UE × Counters) (MM F) := embR
def ER : Emb UE (MM F) := (Emb.inl : Emb UE (UE × Counters)).trans EX
def EC : UEmb Counters (MM F) := ((UEmb.inr : UEmb Counters (UE × Counters)).trans (UEmb.inr : UEmb (UE × Counters) UU)).trans uEmb
instance EC_lands : (EC : UEmb Counters (MM F)).LandsIn (upEmb : UEmb _ (MM F)) := by unfold EC; infer_instance
instance ER_lands : (ER : Emb UE (MM F)).LandsIn (upEmb : UEmb _ (MM F)) := by unfold ER EX; infer_instance

variable (I : Ins F)

/-! ## Buffers held -/

def cmP (c : Dev nD) (S : Finset S3x2x1024x1024.Idx) (q : PosShare TreeShare) (f : Vec F S3x2x1024x1024 .bf16) : sProp (MM F) :=
  CM.view.loc (c : Thread nD τ) ↦[S]{q} f
def wqP (c : Dev nD) (S : Finset S1024x1024.Idx) (q : PosShare TreeShare) (f : Vec F S1024x1024 .bf16) : sProp (MM F) :=
  WQ.view.loc (c : Thread nD τ) ↦[S]{q} f
def woP (c : Dev nD) (S : Finset S1024x1024.Idx) (q : PosShare TreeShare) (f : Vec F S1024x1024 .bf16) : sProp (MM F) :=
  WO.view.loc (c : Thread nD τ) ↦[S]{q} f
def kbP (c : Dev nD) (S : Finset S2x8x1024x128.Idx) (f : Vec F S2x8x1024x128 .f32) : sProp (MM F) :=
  KB.view.loc (c : Thread nD τ) ↦[S]{fullShare} f
def vbP (c : Dev nD) (S : Finset S2x8x1024x128.Idx) (f : Vec F S2x8x1024x128 .f32) : sProp (MM F) :=
  VB.view.loc (c : Thread nD τ) ↦[S]{fullShare} f
def khP (c : Dev nD) (q : PosShare TreeShare) (f : Vec F S4x1024x32x128 .f32) : sProp (MM F) :=
  KH.view.loc (c : Thread nD τ) ↦{q} f
def vhP (c : Dev nD) (q : PosShare TreeShare) (f : Vec F S4x1024x32x128 .f32) : sProp (MM F) :=
  VH.view.loc (c : Thread nD τ) ↦{q} f
def xP (c : Dev nD) (f : Vec F S1x1024x1024 .f32) : sProp (MM F) := X.view.loc (c : Thread nD τ) ↦{fullShare} f
def outP (c : Dev nD) (f : Vec F S1x1024x1024 .f32) : sProp (MM F) := OUT.view.loc (c : Thread nD τ) ↦{fullShare} f
def qbP (c : Dev nD) (f : Vec F S1024x1024 .bf16) : sProp (MM F) := QB.view.loc (c : Thread nD τ) ↦{fullShare} f
def cxP (c : Dev nD) (f : Vec F S1024x1024 .bf16) : sProp (MM F) := CX.view.loc (c : Thread nD τ) ↦{fullShare} f
def biP (c : Dev nD) (f : Vec F S1024x1024 .bf16) : sProp (MM F) := BI.view.loc (c : Thread nD τ) ↦{fullShare} f

/-! ## Cells and copies -/

abbrev bar (c : Dev nD) : GSem nD τ sig := ((c : Thread nD τ), .reg sB)
abbrev snd (c : Dev nD) (k : Fin 12) : GSem nD τ sig := ((c : Thread nD τ), .dma (sS k))
abbrev rcv (c : Dev nD) (k : Fin 12) : GSem nD τ sig := ((c : Thread nD τ), .dma (sR k))

theorem sS_val (k : Fin 12) : (sS k).val = 4 + k.val := by revert k; decide
theorem sR_val (k : Fin 12) : (sR k).val = 16 + k.val := by revert k; decide
theorem sL_val (sl kv : Fin 2) (h : Fin 8) : (sL sl kv h).val = 28 + (sl.val * 16 + kv.val * 8 + h.val) := by revert sl kv h; decide

/-- Whether copy `k` goes to the right. -/
def goesR : Fin 12 → Bool
  | 0 => true | 1 => true | 2 => true | 3 => true | 4 => false | 5 => false | 6 => false | 7 => false
  | 8 => true | 9 => true | 10 => false | 11 => false
def dstD (c : Dev nD) (k : Fin 12) : Dev nD := if goesR k then rg c else lf c
/-- The window copy `k` lands in. -/
def win : Fin 12 → Finset S3x2x1024x1024.Idx
  | 0 => cmCol 0 0 | 1 => cmRow 0 1 0 | 2 => cmCol 0 1 | 3 => cmRow 0 1 1
  | 4 => cmCol 1 0 | 5 => cmRow 1 1 0 | 6 => cmCol 1 1 | 7 => cmRow 1 1 1
  | 8 => cmRow 2 0 0 | 9 => cmRow 2 1 0 | 10 => cmRow 2 0 1 | 11 => cmRow 2 1 1
/-- What every copy credits. -/
def NC : ℕ := (colW 0 0).view.dmaCredit
theorem NC_pos : 0 < NC := View.dmaCredit_pos _ (by decide)
theorem NC_col (s : Fin 3) (g : Fin 2) : (colW s g).view.dmaCredit = NC := by unfold NC; rfl
theorem NC_row (s : Fin 3) (j g : Fin 2) : (rowW s j g).view.dmaCredit = NC := by unfold NC; rfl

/-- The source of copy `k` on device `c`, at the share that is lent to it. -/
def sendPay (c : Dev nD) : Fin 12 → sProp (MM F)
  | 0 => wqP c (cqSet 0) (Ring.shares3 fullShare 0) (I.wq c) | 1 => woP c (roSet 0) (Ring.shares3 fullShare 0) (I.wo c)
  | 2 => wqP c (cqSet 1) (Ring.shares3 fullShare 0) (I.wq c) | 3 => woP c (roSet 1) (Ring.shares3 fullShare 0) (I.wo c)
  | 4 => wqP c (cqSet 0) (Ring.shares3 fullShare 1) (I.wq c) | 5 => woP c (roSet 0) (Ring.shares3 fullShare 1) (I.wo c)
  | 6 => wqP c (cqSet 1) (Ring.shares3 fullShare 1) (I.wq c) | 7 => woP c (roSet 1) (Ring.shares3 fullShare 1) (I.wo c)
  | 8 => cmP c (cmRow 0 0 0) fullShare.right (cmC I c) | 9 => cmP c (cmRow 0 1 0) fullShare.right (cmC I c)
  | 10 => cmP c (cmRow 1 0 1) fullShare.right (cmC I c) | 11 => cmP c (cmRow 1 1 1) fullShare.right (cmC I c)
/-- What copy `k` leaves on device `c`. -/
def recvPay (c : Dev nD) (k : Fin 12) : sProp (MM F) := cmP c (win k) fullShare (cmC I c)
/-- Device `e` lends its window `k`. -/
def lend (e : Dev nD) (k : Fin 12) : sProp (MM F) := iprop((∃ f, cmP e (win k) fullShare f) ∗ reached ER (rcv e k) 0)
def barPay (e : Dev nD) : Fin 2 → sProp (MM F)
  | 0 => iprop(lend (rg e) 0 ∗ lend (rg e) 1 ∗ lend (rg e) 2 ∗ lend (rg e) 3 ∗ lend (rg e) 8 ∗ lend (rg e) 9)
  | 1 => iprop(lend (lf e) 4 ∗ lend (lf e) 5 ∗ lend (lf e) 6 ∗ lend (lf e) 7 ∗ lend (lf e) 10 ∗ lend (lf e) 11)

/-! ## The schedule -/

/-- What kind of cell a semaphore is: the barrier, a send, a receive, or none of the exchange's. -/
inductive Role where
  | bar | snd (k : Fin 12) | rcv (k : Fin 12) | none
  deriving DecidableEq

def role : SemLoc sig → Role
  | .reg _ => .bar
  | .dma s => if h : 4 ≤ s.val ∧ s.val < 16 then .snd ⟨s.val - 4, by omega⟩ else if h : 16 ≤ s.val ∧ s.val < 28 then .rcv ⟨s.val - 16, by omega⟩ else .none

theorem role_bar : role (.reg sB) = .bar := rfl
theorem role_snd (k : Fin 12) : role (.dma (sS k)) = .snd k := by revert k; decide
theorem role_rcv (k : Fin 12) : role (.dma (sR k)) = .rcv k := by revert k; decide
theorem role_ld (sl kv : Fin 2) (h : Fin 8) : role (.dma (sL sl kv h)) = .none := by revert sl kv h; decide

def dutyOf : Role → Finset (Fin 2) | .bar => Finset.univ | .snd _ => {0} | .rcv _ => {0} | .none => ∅
def amtOf : Role → ℕ | .bar => 1 | _ => NC
def payOf (c : Dev nD) : Role → Fin 2 → sProp (MM F)
  | .bar, d => barPay c d | .snd k, _ => sendPay I c k | .rcv k, _ => recvPay I c k | .none, _ => iprop(emp)

def Rd : Rounds.Schedule (GSem nD τ sig) (Fin 2) (MM F) where
  duties g r := if r = 0 ∧ g.1.2 = .tc then dutyOf (role g.2) else ∅
  unitless _ := False
  amount g _ _ := amtOf (role g.2)
  payload g _ d := payOf I g.1.1 (role g.2) d
  amount_pos g _ _ _ := by
    show 0 < amtOf (role g.2)
    cases role g.2 <;> first | exact Nat.one_pos | exact NC_pos

instance cmP_st (c S q f) : BI.Storable (upEmb : UEmb _ (MM F)) (cmP (F := F) c S q f) := by unfold cmP; infer_instance
instance wqP_st (c S q f) : BI.Storable (upEmb : UEmb _ (MM F)) (wqP (F := F) c S q f) := by unfold wqP; infer_instance
instance woP_st (c S q f) : BI.Storable (upEmb : UEmb _ (MM F)) (woP (F := F) c S q f) := by unfold woP; infer_instance
instance lend_st (e k) : BI.Storable (upEmb : UEmb _ (MM F)) (lend (F := F) e k) := by unfold lend; infer_instance
instance barPay_st (e d) : BI.Storable (upEmb : UEmb _ (MM F)) (barPay (F := F) e d) := by
  match d with
  | 0 => unfold barPay; infer_instance
  | 1 => unfold barPay; infer_instance
instance sendPay_st (c k) : BI.Storable (upEmb : UEmb _ (MM F)) (sendPay I c k) := by
  fin_cases k <;> (dsimp only [sendPay]; infer_instance)
instance recvPay_st (c k) : BI.Storable (upEmb : UEmb _ (MM F)) (recvPay I c k) := by unfold recvPay; infer_instance
instance payOf_st (c r d) : BI.Storable (upEmb : UEmb _ (MM F)) (payOf I c r d) := by
  cases r <;> (dsimp only [payOf]; infer_instance)
instance Rd_st (g : GSem nD τ sig) (r : ℕ) (d : Fin 2) : BI.Storable (upEmb : UEmb _ (MM F)) ((Rd I).payload g r d) := payOf_st I _ _ _

theorem duties_bar (c : Dev nD) : (Rd I).duties (bar c) 0 = Finset.univ := by dsimp only [Rd]; exact if_pos ⟨rfl, rfl⟩
theorem duties_snd (c : Dev nD) (k : Fin 12) : (Rd I).duties (snd c k) 0 = {0} := by
  dsimp only [Rd]; rw [role_snd]; exact if_pos ⟨rfl, rfl⟩
theorem duties_rcv (c : Dev nD) (k : Fin 12) : (Rd I).duties (rcv c k) 0 = {0} := by
  dsimp only [Rd]; rw [role_rcv]; exact if_pos ⟨rfl, rfl⟩
theorem duties_later (g : GSem nD τ sig) : ∀ r, 1 ≤ r → (Rd I).duties g r = ∅ := fun r hr => by dsimp only [Rd]; exact if_neg fun h => by omega
theorem amount_bar (c : Dev nD) (d : Fin 2) : (Rd I).amount (bar c) 0 d = 1 := rfl
theorem amount_snd (c : Dev nD) (k : Fin 12) (d : Fin 2) : (Rd I).amount (snd c k) 0 d = NC := congrArg amtOf (role_snd k)
theorem amount_rcv (c : Dev nD) (k : Fin 12) (d : Fin 2) : (Rd I).amount (rcv c k) 0 d = NC := congrArg amtOf (role_rcv k)
theorem payload_bar (c : Dev nD) (d : Fin 2) : (Rd I).payload (bar c) 0 d = barPay c d := rfl
theorem payload_snd (c : Dev nD) (k : Fin 12) (d : Fin 2) : (Rd I).payload (snd c k) 0 d = sendPay I c k :=
  congrArg (fun r => payOf I c r d) (role_snd k)
theorem payload_rcv (c : Dev nD) (k : Fin 12) (d : Fin 2) : (Rd I).payload (rcv c k) 0 d = recvPay I c k :=
  congrArg (fun r => payOf I c r d) (role_rcv k)
theorem expect_bar (c : Dev nD) : (Rd I).expect (bar c) 0 = 2 := by
  unfold Schedule.expect Schedule.amountOf; rw [duties_bar]; rfl
theorem expect_snd (c : Dev nD) (k : Fin 12) : (Rd I).expect (snd c k) 0 = NC := by
  unfold Schedule.expect Schedule.amountOf; rw [duties_snd, Finset.sum_singleton, amount_snd]
theorem expect_rcv (c : Dev nD) (k : Fin 12) : (Rd I).expect (rcv c k) 0 = NC := by
  unfold Schedule.expect Schedule.amountOf; rw [duties_rcv, Finset.sum_singleton, amount_rcv]
theorem rest_bar (c : Dev nD) : bigSep ((Rd I).duties (bar c) 0 \ ∅) (fun d => (Rd I).payload (bar c) 0 d) = iprop(barPay c 0 ∗ barPay c 1) := by
  rw [Finset.sdiff_empty, duties_bar]; exact BI.bigSep_fin_two (fun d : Fin 2 => (barPay c d : sProp (MM F)))
theorem rest_snd (c : Dev nD) (k : Fin 12) : bigSep ((Rd I).duties (snd c k) 0 \ ∅) (fun d => (Rd I).payload (snd c k) 0 d) = sendPay I c k := by
  rw [Finset.sdiff_empty, duties_snd, bigSep_singleton, payload_snd]
theorem rest_rcv (c : Dev nD) (k : Fin 12) : bigSep ((Rd I).duties (rcv c k) 0 \ ∅) (fun d => (Rd I).payload (rcv c k) 0 d) = recvPay I c k := by
  rw [Finset.sdiff_empty, duties_rcv, bigSep_singleton, payload_rcv]

/-! ## What a device owes, and the levels -/

/-- What device `c` owes for the copies `l`. -/
def owL (c : Dev nD) : List (Fin 12) → CellTallies nD τ sig Unit
  | [] => 0
  | k :: l => owL c l + tallyAt (rcv (dstD c k) k) () NC
abbrev all12 : List (Fin 12) := [0, 1, 2, 3, 4, 5, 6, 7, 8, 9, 10, 11]
def O₀ (c : Dev nD) : CellTallies nD τ sig Unit := owL c all12 + tallyAt (bar (rg c)) () 1 + tallyAt (bar (lf c)) () 1

def LL (g : GSem nD τ sig) : Finset Unit := if g.1.2 = .tc then {()} else ∅
def lvR : Role → ℕ | .bar => 1 | .rcv k => if k.val < 8 then 2 else 3 | _ => 0
def lv (g : GSem nD τ sig) (_ : Unit) : ℕ := lvR (role g.2)
theorem LL_of_ne (g : GSem nD τ sig) (h : g.1.2 ≠ .tc) : LL g = ∅ := if_neg h
theorem LL_tc (c : Dev nD) (sm : SemLoc sig) : LL ((c : Thread nD τ), sm) = {()} := if_pos rfl

theorem owL_pos {c : Dev nD} {l : List (Fin 12)} {g : GSem nD τ sig} {u : Unit} (h : 0 < owL c l g u) : ∃ k ∈ l, g = rcv (dstD c k) k := by
  induction l with
  | nil => exact absurd h (Nat.lt_irrefl 0)
  | cons k l ih =>
    unfold owL at h
    rw [Pi.add_apply, Finsupp.add_apply] at h
    rcases Nat.add_pos_iff_pos_or_pos.mp h with h | h
    · obtain ⟨k', hk, e⟩ := ih h; exact ⟨k', List.mem_cons_of_mem _ hk, e⟩
    · rw [tallyAt_apply] at h
      split at h
      · next hg => exact ⟨k, List.mem_cons_self .., hg.1⟩
      · exact absurd h (Nat.lt_irrefl 0)

theorem mayWait (c : Dev nD) (sm : SemLoc sig) (l : List (Fin 12)) (cut : ℕ) (h1 : lvR (role sm) ≤ cut) (h2 : ∀ k ∈ l, cut < lvR (.rcv k)) :
    (levAts LL lv : sProp (MM F)) ⊢ MayWait (c : Thread nD τ) sm () (owL c l) :=
  MayOwe.of_cut (L := LL) (lev := lv) cut (fun p hp => by rw [Finset.mem_singleton.mp hp, LL_tc]; exact Finset.mem_singleton_self _)
    (fun g u hg => by obtain ⟨k, -, rfl⟩ := owL_pos hg; rw [LL_tc]; exact Finset.mem_singleton_self _)
    (fun p hp => by rw [Finset.mem_singleton.mp hp]; exact h1)
    (fun g u hg => by
      obtain ⟨k, hk, rfl⟩ := owL_pos hg
      show cut < lvR (role (.dma (sR k)))
      rw [role_rcv]; exact h2 k hk)

/-! ## The records -/

/-- The twenty-four cells of a device that open with the kernel. -/
def oSnd : Dev nD × Fin 12 ↪ GSem nD τ sig := ⟨fun p => snd p.1 p.2, fun a b h => by
  refine Prod.ext (congrArg (fun g : GSem nD τ sig => g.1.1) h) ?_
  have := congrArg (fun g : GSem nD τ sig => role g.2) h
  simp only [role_snd] at this
  exact Role.snd.inj this⟩
def oRcv : Dev nD × Fin 12 ↪ GSem nD τ sig := ⟨fun p => rcv p.1 p.2, fun a b h => by
  refine Prod.ext (congrArg (fun g : GSem nD τ sig => g.1.1) h) ?_
  have := congrArg (fun g : GSem nD τ sig => role g.2) h
  simp only [role_rcv] at this
  exact Role.rcv.inj this⟩
def oBar : Dev nD ↪ GSem nD τ sig := ⟨fun c => bar c, fun _ _ h => congrArg (fun g : GSem nD τ sig => g.1.1) h⟩
def barCells : Finset (GSem nD τ sig) := Finset.univ.map oBar
def scCells : Finset (GSem nD τ sig) := Finset.univ.map oSnd ∪ Finset.univ.map oRcv

theorem bar_mem (c : Dev nD) : bar c ∈ barCells ∪ scCells :=
  Finset.mem_union_left _ (Finset.mem_map_of_mem oBar (Finset.mem_univ c))
theorem snd_mem (c : Dev nD) (k : Fin 12) : snd c k ∈ barCells ∪ scCells :=
  Finset.mem_union_right _ (Finset.mem_union_left _ (Finset.mem_map_of_mem oSnd (Finset.mem_univ (c, k))))
theorem rcv_mem (c : Dev nD) (k : Fin 12) : rcv c k ∈ barCells ∪ scCells :=
  Finset.mem_union_right _ (Finset.mem_union_right _ (Finset.mem_map_of_mem oRcv (Finset.mem_univ (c, k))))

def recs (κ : GSem nD τ sig → ℕ) : sProp (MM F) :=
  iprop((bigSep (barCells ∪ scCells) fun g => cellInv ER (Rd I) (κ g) g) ∗ (bigSep barCells fun g => reached ER g 0) ∗ levAts LL lv)
instance recs_persistent (κ : GSem nD τ sig → ℕ) : BI.Persistent (recs I κ) := by unfold recs; infer_instance

theorem recs_inv (κ : GSem nD τ sig → ℕ) {g : GSem nD τ sig} (hg : g ∈ barCells ∪ scCells) : recs I κ ⊢ cellInv ER (Rd I) (κ g) g := by
  unfold recs
  iintro ⟨H, -⟩
  iapply (show (bigSep (barCells ∪ scCells) fun g => cellInv ER (Rd I) (κ g) g) ⊢ cellInv ER (Rd I) (κ g) g from bigSep_elim hg) $$ H
theorem recs_bar (κ : GSem nD τ sig → ℕ) (c : Dev nD) : recs I κ ⊢ reached ER (bar c) 0 := by
  unfold recs
  iintro ⟨-, H, -⟩
  iapply (show (bigSep barCells fun g => (reached ER g 0 : sProp (MM F))) ⊢ reached ER (bar c) 0 from bigSep_elim (Finset.mem_map_of_mem oBar (Finset.mem_univ c))) $$ H
theorem recs_lev (κ : GSem nD τ sig → ℕ) : recs I κ ⊢ levAts LL lv := by
  unfold recs
  iintro ⟨-, -, H⟩
  iexact H

end Cert.KernelIdeal.Body
-- ==== Proof.Steps.lean ====
module

public import proofs.«01_k».proof.Proof.Proto
public import Idealize.ShloMosaic.Lib.Scf

@[expose] public section

set_option maxRecDepth 16384

/-!
# One operation at a time

What each load, store, copy, signal and wait of the kernel needs and gives, with the continuation's condition as an arbitrary `Q`.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

abbrev V0 : Variants := Variants.none
abbrev WP (c : Dev nD) {α : Type} (p : PR F α) (Q : α → sProp (MM F)) : sProp (MM F) :=
  wp frame (wpE (defs₀ (F := F)) V0 (c : Thread nD τ) none) Set.univ p Q

theorem w_ret (c : Dev nD) {α : Type} (x : α) (Q : α → sProp (MM F)) : Q x ⊢ WP c (.ret x) Q := by
  show _ ⊢ wp frame (wpE (defs₀ (F := F)) V0 (c : Thread nD τ) none) Set.univ (.ret x) Q
  rw [wp_ret]; iintro H; imodintro; iexact H

theorem w_bind (c : Dev nD) {α β : Type} (p : PR F α) (k : α → PR F β) (Q : β → sProp (MM F)) :
    WP c (p >>= k) Q = WP c p (fun a => WP c (k a) Q) := wp_bind ..

theorem w_load (c : Dev nD) {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) (Q : (r.shape.Idx → Elt F e) → sProp (MM F)) :
    iprop((m.view.loc (c : Thread nD τ) ↦[S]{q} f) ∗ ((m.view.loc (c : Thread nD τ) ↦[S]{q} f) -∗ Q (m.view.readAt (Elt F) r f)))
      ⊢ WP c (Prog.lift (.load m r hl)) Q := by
  iintro ⟨H, Hk⟩
  iapply (wp_load V0 (c : Thread nD τ) none Set.univ (k := .ret) hS) $$ H
  iintro H
  iapply (w_ret c)
  iapply Hk $$ H

theorem w_store (c : Dev nD) {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {f : Buf (Elt F) ((m.access r).loc (c : Thread nD τ))} (Q : PUnit → sProp (MM F)) :
    iprop(((m.access r).loc (c : Thread nD τ) ↦{fullShare} f)
        ∗ (((m.access r).loc (c : Thread nD τ) ↦{fullShare} ((m.access r).write (Elt F) f w Finset.univ)) -∗ Q ⟨⟩))
      ⊢ WP c (Prog.lift (.store m r w Finset.univ hx hm)) Q := by
  iintro ⟨H, Hk⟩
  iapply (wp_store V0 (c : Thread nD τ) none Set.univ (k := .ret) (Finset.subset_univ _)) $$ H
  iintro H
  iapply (w_ret c)
  iapply Hk $$ H

/-! ## Copies to a neighbour -/

/-- What device `c` pays copy `k` with. -/
def sendRt (c : Dev nD) (k : Fin 12) : sProp (MM F) :=
  iprop(dutyTok ER (snd c k) 0 0 ∗ reached ER (snd c k) 0 ∗ dutyTok ER (rcv (dstD c k) k) 0 0)

theorem w_send (κ : GSem nD τ sig → ℕ) (c : Dev nD) (k : Fin 12) {s : Shape} (src dst : Memref sig .tc .vmem s .bf16)
    (h₁ : src.view.WordExact) (h₂ : dst.view.WordExact) (hN : dst.view.dmaCredit = NC)
    (q : PosShare TreeShare) (fs : Buf (Elt F) (src.view.loc (c : Thread nD τ)))
    (hsrc : sendPay I c k = (src.view.loc (c : Thread nD τ) ↦[src.view.set]{q} fs))
    (hdst : ∀ fd, cmP (F := F) (dstD c k) (win k) fullShare fd ⊢ ∃ fd', (dst.view.loc (dstD c k : Thread nD τ) ↦[dst.view.set]{fullShare} fd'))
    (hland : ∀ fd, (dst.view.loc (dstD c k : Thread nD τ) ↦[dst.view.set]{fullShare} dst.view.write (Elt F) fd (src.view.read (Elt F) fs) Finset.univ : sProp (MM F))
      ⊢ recvPay I (dstD c k) k)
    (l : List (Fin 12)) (W : Waits sig Unit) (Q : PUnit → sProp (MM F)) :
    iprop(recs I κ ∗ sendRt c k ∗ sendPay I c k ∗ lend (dstD c k) k ∗ owes (c : Thread nD τ) (owL c (k :: l)) W
        ∗ ((cred (tallyAt (snd c k) () NC) ∗ owes (c : Thread nD τ) (owL c l) W) -∗ Q ⟨⟩))
      ⊢ WP c (sendOp (dstD c k) src dst k h₁ h₂) Q := by
  unfold sendRt lend
  rw [hsrc]
  iintro ⟨#HR, ⟨HtS, #HrS, HtV⟩, Hs, ⟨⟨%fd, Hd⟩, #HrV⟩, HO, Hk⟩
  ihave Hd := (hdst fd) $$ Hd
  icases Hd with ⟨%fd', Hd⟩
  iapply (Rounds.wp_send_pointsTo V0 ER (Rd I) (c : Thread nD τ) none (c' := (dstD c k : Thread nD τ)) (src := src) (dst := dst)
      (sS := .dma (sS k)) (sem := .dma (sR k)) (q := q) (fs := fs) (κ₁ := κ (snd c k)) (κ₂ := κ (rcv (dstD c k) k))
      (r₁ := 0) (r₂ := 0) (d₁ := 0) (d₂ := 0) (fd := fd') (k := .ret)
      (by rw [duties_snd]; exact Finset.mem_singleton_self _) (by rw [duties_rcv]; exact Finset.mem_singleton_self _)
      () () NC hN (amount_snd I c k 0) (amount_rcv I (dstD c k) k 0) (owL c l) rfl (W := W)
      (by rw [payload_snd, hsrc])
      (by rw [payload_rcv]; exact hland fd')) $$ [Hs Hd HO HtS HtV]
  · isplitr; · iapply (recs_inv I κ (snd_mem c k)); iexact HR
    isplitr; · iapply (recs_inv I κ (rcv_mem (dstD c k) k)); iexact HR
    isplitl [Hs]; · iexact Hs
    isplitl [Hd]; · iexact Hd
    isplitl [HO]; · iexact HO
    isplitl [HtS]; · iexact HtS
    isplitr; · iexact HrS
    isplitl [HtV]; · iexact HtV
    iexact HrV
  iintro H
  iapply (w_ret c)
  iapply Hk $$ H

/-- A wait on receive cell `k`. -/
theorem w_recv (κ : GSem nD τ sig → ℕ) (c : Dev nD) (k : Fin 12) {s : Shape} (src dst : Memref sig .tc .vmem s .bf16)
    (h₁ : src.view.WordExact) (h₂ : dst.view.WordExact) (hN : dst.view.dmaCredit = NC)
    (l : List (Fin 12)) (hl : ∀ k' ∈ l, lvR (.rcv k) < lvR (.rcv k')) (W : Waits sig Unit) (Q : PUnit → sProp (MM F)) :
    iprop(recs I κ ∗ cred (tallyAt (rcv c k) () NC) ∗ atPos ER (rcv c k) 0 ∅ 0 ∗ owes (c : Thread nD τ) (owL c l) W
        ∗ ((recvPay I c k ∗ atPos ER (rcv c k) 1 ∅ 0 ∗ owes (c : Thread nD τ) (owL c l) (insert (SemLoc.dma (sR k), ()) W)) -∗ Q ⟨⟩))
      ⊢ WP c (recvOp src dst k h₁ h₂) Q := by
  iintro ⟨#HR, Hc, Hat, HO, Hk⟩
  iapply (Rounds.wp_wait_rest_token V0 ER (Rd I) (c : Thread nD τ) none (κ := κ (rcv c k)) (k := .ret)
      (wpE_waitDma2_eq (src := src) (dst := dst) V0 (c : Thread nD τ) none Set.univ) (Set.mem_univ _) () (O := owL c l) (W := W) (R := 0) (m := 0) (T := ∅)
      (by rw [hN, Nat.zero_add, expect_rcv])) $$ [Hc HO Hat]
  · isplitr; · iapply (recs_inv I κ (rcv_mem c k)); iexact HR
    isplitl [Hc]; · iapply (Entails.of_eq (by rw [hN])) $$ Hc
    isplitl [HO]; · iexact HO
    isplitr
    · iapply (mayWait c (.dma (sR k)) l (lvR (.rcv k)) (by rw [role_rcv]) hl)
      iapply (recs_lev I κ); iexact HR
    iexact Hat
  iintro ⟨HO, Hat, -, Hp⟩
  ihave Hp := (Entails.of_eq (rest_rcv I c k)) $$ Hp
  iapply (w_ret c)
  iapply Hk
  isplitl [Hp]; · iexact Hp
  isplitl [Hat]; · iexact Hat
  iexact HO

/-- A wait on send cell `k`. -/
theorem w_sent (κ : GSem nD τ sig → ℕ) (c : Dev nD) (k : Fin 12) {s : Shape} (src dst : Memref sig .tc .vmem s .bf16)
    (h₁ : src.view.WordExact) (h₂ : dst.view.WordExact) (hN : src.view.dmaCredit = NC)
    (l : List (Fin 12)) (W : Waits sig Unit) (Q : PUnit → sProp (MM F)) :
    iprop(recs I κ ∗ cred (tallyAt (snd c k) () NC) ∗ atPos ER (snd c k) 0 ∅ 0 ∗ owes (c : Thread nD τ) (owL c l) W
        ∗ ((sendPay I c k ∗ atPos ER (snd c k) 1 ∅ 0 ∗ owes (c : Thread nD τ) (owL c l) (insert (SemLoc.dma (sS k), ()) W)) -∗ Q ⟨⟩))
      ⊢ WP c (sentOp src dst k h₁ h₂) Q := by
  iintro ⟨#HR, Hc, Hat, HO, Hk⟩
  iapply (Rounds.wp_wait_rest_token V0 ER (Rd I) (c : Thread nD τ) none (κ := κ (snd c k)) (k := .ret)
      (wpE_waitDma2_eq (src := dst) (dst := src) V0 (c : Thread nD τ) none Set.univ) (Set.mem_univ _) () (O := owL c l) (W := W) (R := 0) (m := 0) (T := ∅)
      (by rw [hN, Nat.zero_add, expect_snd])) $$ [Hc HO Hat]
  · isplitr; · iapply (recs_inv I κ (snd_mem c k)); iexact HR
    isplitl [Hc]; · rw [hN]; iexact Hc
    isplitl [HO]; · iexact HO
    isplitr
    · iapply (mayWait c (.dma (sS k)) l 0 (by rw [role_snd]; exact le_refl 0) (fun k' _ => by dsimp only [lvR]; split <;> decide))
      iapply (recs_lev I κ); iexact HR
    iexact Hat
  iintro ⟨HO, Hat, -, Hp⟩
  ihave Hp := (Entails.of_eq (rest_snd I c k)) $$ Hp
  iapply (w_ret c)
  iapply Hk
  isplitl [Hp]; · iexact Hp
  isplitl [Hat]; · iexact Hat
  iexact HO

/-! ## The greeting -/

theorem O₀_eq (c : Dev nD) : O₀ c = owL c all12 + tallyAt (bar (rg c)) () 1 + tallyAt (bar (lf c)) () 1 := rfl

theorem w_greet (κ : GSem nD τ sig → ℕ) (c : Dev nD) (W : Waits sig Unit) (Q : PUnit → sProp (MM F)) :
    iprop(recs I κ ∗ dutyTok ER (bar (lf c)) 0 0 ∗ dutyTok ER (bar (rg c)) 0 1 ∗ atPos ER (bar c) 0 ∅ 0 ∗ cred (tallyAt (bar c) () 2)
        ∗ barPay (lf c) 0 ∗ barPay (rg c) 1 ∗ owes (c : Thread nD τ) (O₀ c) W
        ∗ ((barPay c 0 ∗ barPay c 1 ∗ atPos ER (bar c) 1 ∅ 0 ∗ owes (c : Thread nD τ) (owL c all12) (insert (SemLoc.reg sB, ()) W)) -∗ Q ⟨⟩))
      ⊢ WP c (greetP c) Q := by
  rw [O₀_eq]
  unfold greetP
  rw [show (⟨k0_dev1 c, k0_dev1_lt c⟩ : Dev nD) = lf c from Fin.ext (k0_dev1_eq c), show (⟨k0_dev2 c, k0_dev2_lt c⟩ : Dev nD) = rg c from Fin.ext (k0_dev2_eq c)]
  iintro ⟨#HR, Ht0, Ht1, Hat, Hc, Hp0, Hp1, HO, Hk⟩
  rw [w_bind]
  unfold semSignalWord
  iapply (Rounds.wp_signal V0 ER (Rd I) (c : Thread nD τ) none (dst := (lf c : Thread nD τ)) (sem := sB) (r := 0) (d := 0) (κ := κ (bar (lf c))) (k := .ret)
      (by rw [duties_bar]; exact Finset.mem_univ _) (amount_bar I (lf c) 0) () (owL c all12 + tallyAt (bar (rg c)) () 1) rfl) $$ [HO Ht0 Hp0]
  · isplitr; · iapply (recs_inv I κ (bar_mem (lf c))); iexact HR
    isplitl [HO]; · iexact HO
    isplitl [Ht0]; · iexact Ht0
    isplitl [Hp0]; · rw [payload_bar]; iexact Hp0
    iapply (recs_bar I κ (lf c)); iexact HR
  iintro HO
  iapply (w_ret c)
  rw [w_bind]
  iapply (Rounds.wp_signal V0 ER (Rd I) (c : Thread nD τ) none (dst := (rg c : Thread nD τ)) (sem := sB) (r := 0) (d := 1) (κ := κ (bar (rg c))) (k := .ret)
      (by rw [duties_bar]; exact Finset.mem_univ _) (amount_bar I (rg c) 1) () (owL c all12) rfl) $$ [HO Ht1 Hp1]
  · isplitr; · iapply (recs_inv I κ (bar_mem (rg c))); iexact HR
    isplitl [HO]; · iexact HO
    isplitl [Ht1]; · iexact Ht1
    isplitl [Hp1]; · rw [payload_bar]; iexact Hp1
    iapply (recs_bar I κ (rg c)); iexact HR
  iintro HO
  iapply (w_ret c)
  unfold semWaitWord
  iapply (Rounds.wp_wait_rest_token V0 ER (Rd I) (c : Thread nD τ) none (κ := κ (bar c)) (k := .ret)
      (wpE_semWait_eq V0 (c : Thread nD τ) none Set.univ) (Set.mem_univ _) () (O := owL c all12) (W := W) (R := 0) (m := 0) (T := ∅)
      ((Nat.zero_add 2).trans (expect_bar I c).symm)) $$ [Hc HO Hat]
  · isplitr; · iapply (recs_inv I κ (bar_mem c)); iexact HR
    isplitl [Hc]; · iexact Hc
    isplitl [HO]; · iexact HO
    isplitr
    · iapply (mayWait c (.reg sB) all12 1 (le_refl 1) (fun k' _ => by dsimp only [lvR]; split <;> decide))
      iapply (recs_lev I κ); iexact HR
    iexact Hat
  iintro ⟨HO, Hat, -, Hp⟩
  ihave Hp := (Entails.of_eq (rest_bar I c)) $$ Hp
  icases Hp with ⟨Hp0, Hp1⟩
  iapply (w_ret c)
  iapply Hk
  isplitl [Hp0]; · iexact Hp0
  isplitl [Hp1]; · iexact Hp1
  isplitl [Hat]; · iexact Hat
  iexact HO

end Cert.KernelIdeal.Body
-- ==== Proof.Loads.lean ====
module

public import proofs.«01_k».proof.Proof.Steps

@[expose] public section

set_option maxRecDepth 16384

/-!
# The local copies of keys and values

One flight per head and per array; all sixteen of a turn start together and are waited for together.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

def NL : ℕ := (bufW KB 0 0).view.dmaCredit
theorem NL_pos : 0 < NL := View.dmaCredit_pos _ (by decide)
theorem NL_K (sl : Fin 2) (h : Fin 8) : (bufW KB sl h).view.dmaCredit = NL := by unfold NL; rfl
theorem NL_V (sl : Fin 2) (h : Fin 8) : (bufW VB sl h).view.dmaCredit = NL := by unfold NL; rfl

/-- The share of the keys (values) that head `h`'s copies read at. -/
abbrev tok (h : Fin 8) : PosShare TreeShare := Transfers.shareTok fullShare 8 h

/-- Head `h` of turn `a` on its way. -/
def flyK (c : Dev nD) (a : Fin 4) (h : Fin 8) : sProp (MM F) :=
  iprop(Transfers.Flight EC (c : Thread nD τ) (.dma (sL (slot a) 0 h)) () NL
      iprop(kbP c (kvWin (slot a) h) (kvC (I.kh c) a c)
        ∗ ((srcW KH a c h).view.loc (c : Thread nD τ) ↦[(srcW KH a c h).view.set]{tok h} (I.kh c)))
    ∗ ((srcW KH a c h).view.loc (c : Thread nD τ) ↦[Finset.univ \ (srcW KH a c h).view.set]{tok h} (I.kh c)))

theorem cutK (c : Dev nD) (a : Fin 4) (h : Fin 8) : khP c (tok h) (I.kh c)
    ⊢ (iprop(((srcW KH a c h).view.loc (c : Thread nD τ) ↦[(srcW KH a c h).view.set]{tok h} (I.kh c))
      ∗ ((srcW KH a c h).view.loc (c : Thread nD τ) ↦[Finset.univ \ (srcW KH a c h).view.set]{tok h} (I.kh c))) : sProp (MM F)) :=
  (pointsTo_split_subset (ℓ := (srcW KH a c h).view.loc (c : Thread nD τ)) (q := tok h) (f := I.kh c) (Finset.subset_univ (srcW KH a c h).view.set)).1
theorem uncutK (c : Dev nD) (a : Fin 4) (h : Fin 8) : (iprop(((srcW KH a c h).view.loc (c : Thread nD τ) ↦[(srcW KH a c h).view.set]{tok h} (I.kh c))
      ∗ ((srcW KH a c h).view.loc (c : Thread nD τ) ↦[Finset.univ \ (srcW KH a c h).view.set]{tok h} (I.kh c))) : sProp (MM F))
    ⊢ khP c (tok h) (I.kh c) :=
  (pointsTo_split_subset (ℓ := (srcW KH a c h).view.loc (c : Thread nD τ)) (q := tok h) (f := I.kh c) (Finset.subset_univ (srcW KH a c h).view.set)).2

theorem w_ldK (c : Dev nD) (a : Fin 4) (h : Fin 8) (f : Vec F S2x8x1024x128 .f32) (Q : PUnit → sProp (MM F)) :
    iprop(khP c (tok h) (I.kh c) ∗ kbP c (kvWin (slot a) h) f ∗ semVal ((c : Thread nD τ), .dma (sL (slot a) 0 h)) 0 ∗ (flyK I c a h -∗ Q ⟨⟩))
      ⊢ WP c (kS a c h) Q := by
  unfold kS ldStart flyK kbP
  iintro ⟨Hs, Hd, Hv, Hk⟩
  ihave Hs := (cutK I c a h) $$ Hs
  icases Hs with ⟨Hs, Hr⟩
  iapply (Transfers.wp_dmaLocal EC V0 (c : Thread nD τ) none (src := srcW KH a c h) (dst := bufW KB (slot a) h) (sm := .dma (sL (slot a) 0 h)) (k := .ret)
      (q := tok h) (fs := I.kh c) (Sd := (bufW KB (slot a) h).view.set) (fd := f) () NL (NL_K (slot a) h) NL_pos (Finset.Subset.refl _)) $$ [Hs Hd Hv]
  · isplitl [Hs]; · iexact Hs
    isplitl [Hd]; · iapply (Entails.of_eq (by rw [set_bufW_K]; rfl)) $$ Hd
    iexact Hv
  iintro H
  iapply (w_ret c)
  iapply Hk
  isplitl [H]
  · iapply (Transfers.Flight_mono EC (c : Thread nD τ) ?_) $$ H
    refine sep_mono_left (Entails.of_eq ?_)
    exact (pointsTo_congr (ℓ := (bufW KB (slot a) h).view.loc (c : Thread nD τ)) (land_K (I.kh c) a c h f)).trans (by rw [set_bufW_K]; rfl)
  iexact Hr

theorem w_wtK (κ : GSem nD τ sig → ℕ) (c : Dev nD) (a : Fin 4) (h : Fin 8) (l : List (Fin 12)) (W : Waits sig Unit) (Q : PUnit → sProp (MM F)) :
    iprop(recs I κ ∗ flyK I c a h ∗ owes (c : Thread nD τ) (owL c l) W
        ∗ (((khP c (tok h) (I.kh c) ∗ kbP c (kvWin (slot a) h) (kvC (I.kh c) a c) ∗ semVal ((c : Thread nD τ), .dma (sL (slot a) 0 h)) 0)
            ∗ owes (c : Thread nD τ) (owL c l) (insert (SemLoc.dma (sL (slot a) 0 h), ()) W)) -∗ Q ⟨⟩))
      ⊢ WP c (kW a c h) Q := by
  unfold kW ldWait flyK
  iintro ⟨#HR, ⟨Hf, Hr⟩, HO, Hk⟩
  iapply (Transfers.wp_waitLocalO EC V0 (c : Thread nD τ) none (srcw := srcW KH a c h) (dstw := bufW KB (slot a) h) (sem := sL (slot a) 0 h) (k := .ret)
      () (NL_K (slot a) h)) $$ [Hf HO]
  · isplitl [Hf]; · iexact Hf
    isplitl [HO]; · iexact HO
    iapply (mayWait c (.dma (sL (slot a) 0 h)) l 0 (by rw [role_ld]; exact le_refl 0) (fun k' _ => by dsimp only [lvR]; split <;> decide))
    iapply (recs_lev I κ); iexact HR
  iintro ⟨⟨Hd, Hs⟩, Hv, HO⟩
  iapply (w_ret c)
  iapply Hk
  isplitr [HO]
  · isplitl [Hs Hr]
    · iapply (uncutK I c a h)
      isplitl [Hs]; · iexact Hs
      iexact Hr
    isplitl [Hd]; · iexact Hd
    iexact Hv
  iexact HO

/-- Head `h` of turn `a` on its way. -/
def flyV (c : Dev nD) (a : Fin 4) (h : Fin 8) : sProp (MM F) :=
  iprop(Transfers.Flight EC (c : Thread nD τ) (.dma (sL (slot a) 1 h)) () NL
      iprop(vbP c (kvWin (slot a) h) (kvC (I.vh c) a c)
        ∗ ((srcW VH a c h).view.loc (c : Thread nD τ) ↦[(srcW VH a c h).view.set]{tok h} (I.vh c)))
    ∗ ((srcW VH a c h).view.loc (c : Thread nD τ) ↦[Finset.univ \ (srcW VH a c h).view.set]{tok h} (I.vh c)))

theorem cutV (c : Dev nD) (a : Fin 4) (h : Fin 8) : vhP c (tok h) (I.vh c)
    ⊢ (iprop(((srcW VH a c h).view.loc (c : Thread nD τ) ↦[(srcW VH a c h).view.set]{tok h} (I.vh c))
      ∗ ((srcW VH a c h).view.loc (c : Thread nD τ) ↦[Finset.univ \ (srcW VH a c h).view.set]{tok h} (I.vh c))) : sProp (MM F)) :=
  (pointsTo_split_subset (ℓ := (srcW VH a c h).view.loc (c : Thread nD τ)) (q := tok h) (f := I.vh c) (Finset.subset_univ (srcW VH a c h).view.set)).1
theorem uncutV (c : Dev nD) (a : Fin 4) (h : Fin 8) : (iprop(((srcW VH a c h).view.loc (c : Thread nD τ) ↦[(srcW VH a c h).view.set]{tok h} (I.vh c))
      ∗ ((srcW VH a c h).view.loc (c : Thread nD τ) ↦[Finset.univ \ (srcW VH a c h).view.set]{tok h} (I.vh c))) : sProp (MM F))
    ⊢ vhP c (tok h) (I.vh c) :=
  (pointsTo_split_subset (ℓ := (srcW VH a c h).view.loc (c : Thread nD τ)) (q := tok h) (f := I.vh c) (Finset.subset_univ (srcW VH a c h).view.set)).2

theorem w_ldV (c : Dev nD) (a : Fin 4) (h : Fin 8) (f : Vec F S2x8x1024x128 .f32) (Q : PUnit → sProp (MM F)) :
    iprop(vhP c (tok h) (I.vh c) ∗ vbP c (kvWin (slot a) h) f ∗ semVal ((c : Thread nD τ), .dma (sL (slot a) 1 h)) 0 ∗ (flyV I c a h -∗ Q ⟨⟩))
      ⊢ WP c (vS a c h) Q := by
  unfold vS ldStart flyV vbP
  iintro ⟨Hs, Hd, Hv, Hk⟩
  ihave Hs := (cutV I c a h) $$ Hs
  icases Hs with ⟨Hs, Hr⟩
  iapply (Transfers.wp_dmaLocal EC V0 (c : Thread nD τ) none (src := srcW VH a c h) (dst := bufW VB (slot a) h) (sm := .dma (sL (slot a) 1 h)) (k := .ret)
      (q := tok h) (fs := I.vh c) (Sd := (bufW VB (slot a) h).view.set) (fd := f) () NL (NL_V (slot a) h) NL_pos (Finset.Subset.refl _)) $$ [Hs Hd Hv]
  · isplitl [Hs]; · iexact Hs
    isplitl [Hd]; · iapply (Entails.of_eq (by rw [set_bufW_V]; rfl)) $$ Hd
    iexact Hv
  iintro H
  iapply (w_ret c)
  iapply Hk
  isplitl [H]
  · iapply (Transfers.Flight_mono EC (c : Thread nD τ) ?_) $$ H
    refine sep_mono_left (Entails.of_eq ?_)
    exact (pointsTo_congr (ℓ := (bufW VB (slot a) h).view.loc (c : Thread nD τ)) (land_V (I.vh c) a c h f)).trans (by rw [set_bufW_V]; rfl)
  iexact Hr

theorem w_wtV (κ : GSem nD τ sig → ℕ) (c : Dev nD) (a : Fin 4) (h : Fin 8) (l : List (Fin 12)) (W : Waits sig Unit) (Q : PUnit → sProp (MM F)) :
    iprop(recs I κ ∗ flyV I c a h ∗ owes (c : Thread nD τ) (owL c l) W
        ∗ (((vhP c (tok h) (I.vh c) ∗ vbP c (kvWin (slot a) h) (kvC (I.vh c) a c) ∗ semVal ((c : Thread nD τ), .dma (sL (slot a) 1 h)) 0)
            ∗ owes (c : Thread nD τ) (owL c l) (insert (SemLoc.dma (sL (slot a) 1 h), ()) W)) -∗ Q ⟨⟩))
      ⊢ WP c (vW a c h) Q := by
  unfold vW ldWait flyV
  iintro ⟨#HR, ⟨Hf, Hr⟩, HO, Hk⟩
  iapply (Transfers.wp_waitLocalO EC V0 (c : Thread nD τ) none (srcw := srcW VH a c h) (dstw := bufW VB (slot a) h) (sem := sL (slot a) 1 h) (k := .ret)
      () (NL_V (slot a) h)) $$ [Hf HO]
  · isplitl [Hf]; · iexact Hf
    isplitl [HO]; · iexact HO
    iapply (mayWait c (.dma (sL (slot a) 1 h)) l 0 (by rw [role_ld]; exact le_refl 0) (fun k' _ => by dsimp only [lvR]; split <;> decide))
    iapply (recs_lev I κ); iexact HR
  iintro ⟨⟨Hd, Hs⟩, Hv, HO⟩
  iapply (w_ret c)
  iapply Hk
  isplitr [HO]
  · isplitl [Hs Hr]
    · iapply (uncutV I c a h)
      isplitl [Hs]; · iexact Hs
      iexact Hr
    isplitl [Hd]; · iexact Hd
    iexact Hv
  iexact HO

/-! ## A whole turn -/

/-- Head `h`'s read shares of keys and values. -/
def hd (c : Dev nD) (h : Fin 8) : sProp (MM F) := iprop(khP c (tok h) (I.kh c) ∗ vhP c (tok h) (I.vh c))
/-- Slot `sl`'s two load cells of head `h`, at rest. -/
def sem2 (c : Dev nD) (sl : Fin 2) (h : Fin 8) : sProp (MM F) :=
  iprop(semVal ((c : Thread nD τ), .dma (sL sl 0 h)) 0 ∗ semVal ((c : Thread nD τ), .dma (sL sl 1 h)) 0)
def hds (c : Dev nD) : sProp (MM F) := bigSep Finset.univ (hd I c)
def sems (c : Dev nD) (sl : Fin 2) : sProp (MM F) := bigSep Finset.univ (sem2 (F := F) c sl)
def idle (c : Dev nD) (a : Fin 4) (f g : Vec F S2x8x1024x128 .f32) (h : Fin 8) : sProp (MM F) :=
  iprop(hd I c h ∗ sem2 c (slot a) h ∗ kbP c (kvWin (slot a) h) f ∗ vbP c (kvWin (slot a) h) g)
def busy (c : Dev nD) (a : Fin 4) (h : Fin 8) : sProp (MM F) := iprop(flyK I c a h ∗ flyV I c a h)

theorem bigSep_fin8 (Φ : Fin 8 → sProp (MM F)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem slots_split (c : Dev nD) (sl : Fin 2) (f : Vec F S2x8x1024x128 .f32) :
    kbP c (kvSlot sl) f = bigSep Finset.univ fun h => kbP (F := F) c (kvWin sl h) f := by
  unfold kbP; rw [kvSlot_eq]
  exact pointsTo_biUnion (ℓ := KB.view.loc (c : Thread nD τ)) Finset.univ (kvWin sl) (kvWin_disj sl)
theorem vslots_split (c : Dev nD) (sl : Fin 2) (f : Vec F S2x8x1024x128 .f32) :
    vbP c (kvSlot sl) f = bigSep Finset.univ fun h => vbP (F := F) c (kvWin sl h) f := by
  unfold vbP; rw [kvSlot_eq]
  exact pointsTo_biUnion (ℓ := VB.view.loc (c : Thread nD τ)) Finset.univ (kvWin sl) (kvWin_disj sl)

theorem idle_intro (c : Dev nD) (a : Fin 4) (f g : Vec F S2x8x1024x128 .f32) :
    iprop(hds I c ∗ sems c (slot a) ∗ kbP c (kvSlot (slot a)) f ∗ vbP c (kvSlot (slot a)) g) ⊢ bigSep Finset.univ (idle I c a f g) := by
  rw [slots_split, vslots_split]
  unfold hds sems idle
  iintro ⟨H1, H2, H3, H4⟩
  iapply Smoke.bigSep_pair; isplitl [H1]; · iexact H1
  iapply Smoke.bigSep_pair; isplitl [H2]; · iexact H2
  iapply Smoke.bigSep_pair; isplitl [H3]; · iexact H3
  iexact H4
theorem idle_elim (c : Dev nD) (a : Fin 4) (f g : Vec F S2x8x1024x128 .f32) :
    bigSep Finset.univ (idle I c a f g) ⊢ iprop(hds I c ∗ sems c (slot a) ∗ kbP c (kvSlot (slot a)) f ∗ vbP c (kvSlot (slot a)) g) := by
  rw [slots_split, vslots_split]
  unfold hds sems idle
  iintro H
  ihave H := Smoke.bigSep_unpair $$ H; icases H with ⟨H1, H⟩
  ihave H := Smoke.bigSep_unpair $$ H; icases H with ⟨H2, H⟩
  ihave H := Smoke.bigSep_unpair $$ H; icases H with ⟨H3, H4⟩
  isplitl [H1]; · iexact H1
  isplitl [H2]; · iexact H2
  isplitl [H3]; · iexact H3
  iexact H4

theorem w_head (c : Dev nD) (a : Fin 4) (h : Fin 8) (f g : Vec F S2x8x1024x128 .f32) {α : Type} (p : PR F α) (Q : α → sProp (MM F)) :
    iprop(idle I c a f g h ∗ (busy I c a h -∗ WP c p Q)) ⊢ WP c (kS a c h >>= fun _ => vS a c h >>= fun _ => p) Q := by
  unfold idle busy hd sem2
  iintro ⟨⟨⟨Hk, Hv⟩, ⟨Hs, Ht⟩, HK, HV⟩, H⟩
  rw [w_bind]
  iapply (w_ldK I c a h f)
  isplitl [Hk]; · iexact Hk
  isplitl [HK]; · iexact HK
  isplitl [Hs]; · iexact Hs
  iintro HF
  rw [w_bind]
  iapply (w_ldV I c a h g)
  isplitl [Hv]; · iexact Hv
  isplitl [HV]; · iexact HV
  isplitl [Ht]; · iexact Ht
  iintro HG
  iapply H
  isplitl [HF]; · iexact HF
  iexact HG
theorem w_head' (c : Dev nD) (a : Fin 4) (h : Fin 8) (f g : Vec F S2x8x1024x128 .f32) (Q : PUnit → sProp (MM F)) :
    iprop(idle I c a f g h ∗ (busy I c a h -∗ Q ⟨⟩)) ⊢ WP c (kS a c h >>= fun _ => vS a c h) Q := by
  unfold idle busy hd sem2
  iintro ⟨⟨⟨Hk, Hv⟩, ⟨Hs, Ht⟩, HK, HV⟩, H⟩
  rw [w_bind]
  iapply (w_ldK I c a h f)
  isplitl [Hk]; · iexact Hk
  isplitl [HK]; · iexact HK
  isplitl [Hs]; · iexact Hs
  iintro HF
  iapply (w_ldV I c a h g)
  isplitl [Hv]; · iexact Hv
  isplitl [HV]; · iexact HV
  isplitl [Ht]; · iexact Ht
  iintro HG
  iapply H
  isplitl [HF]; · iexact HF
  iexact HG

/-- The copies of a turn on their way. -/
def away (c : Dev nD) (a : Fin 4) : sProp (MM F) := bigSep Finset.univ (busy I c a)

theorem w_start (c : Dev nD) (a : Fin 4) (f g : Vec F S2x8x1024x128 .f32) (Q : PUnit → sProp (MM F)) :
    iprop(hds I c ∗ sems c (slot a) ∗ kbP c (kvSlot (slot a)) f ∗ vbP c (kvSlot (slot a)) g ∗ (away I c a -∗ Q ⟨⟩)) ⊢ WP c (startP a c) Q := by
  unfold startP away
  rw [bigSep_fin8 (busy I c a)]
  iintro ⟨H1, H2, H3, H4, Hk⟩
  ihave H := (idle_intro I c a f g) $$ [H1 H2 H3 H4]
  · isplitl [H1]; · iexact H1
    isplitl [H2]; · iexact H2
    isplitl [H3]; · iexact H3
    iexact H4
  ihave H := (Entails.of_eq (bigSep_fin8 (idle I c a f g))) $$ H
  icases H with ⟨H0, H1, H2, H3, H4, H5, H6, H7⟩
  iapply (w_head I c a 0 f g); isplitl [H0]; · iexact H0
  iintro H0
  iapply (w_head I c a 1 f g); isplitl [H1]; · iexact H1
  iintro H1
  iapply (w_head I c a 2 f g); isplitl [H2]; · iexact H2
  iintro H2
  iapply (w_head I c a 3 f g); isplitl [H3]; · iexact H3
  iintro H3
  iapply (w_head I c a 4 f g); isplitl [H4]; · iexact H4
  iintro H4
  iapply (w_head I c a 5 f g); isplitl [H5]; · iexact H5
  iintro H5
  iapply (w_head I c a 6 f g); isplitl [H6]; · iexact H6
  iintro H6
  iapply (w_head' I c a 7 f g); isplitl [H7]; · iexact H7
  iintro H7
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem w_tail (κ : GSem nD τ sig → ℕ) (c : Dev nD) (a : Fin 4) (h : Fin 8) (l : List (Fin 12)) {α : Type} (p : PR F α) (Q : α → sProp (MM F)) :
    iprop(recs I κ ∗ busy I c a h ∗ (∃ W, owes (c : Thread nD τ) (owL c l) W)
        ∗ ((idle I c a (kvC (I.kh c) a c) (kvC (I.vh c) a c) h ∗ (∃ W, owes (c : Thread nD τ) (owL c l) W)) -∗ WP c p Q))
      ⊢ WP c (kW a c h >>= fun _ => vW a c h >>= fun _ => p) Q := by
  unfold idle busy hd sem2
  iintro ⟨#HR, ⟨HF, HG⟩, ⟨%W, HO⟩, H⟩
  rw [w_bind]
  iapply (w_wtK I κ c a h l W)
  isplitr; · iexact HR
  isplitl [HF]; · iexact HF
  isplitl [HO]; · iexact HO
  iintro ⟨⟨Hk, HK, Hs⟩, HO⟩
  rw [w_bind]
  iapply (w_wtV I κ c a h l _)
  isplitr; · iexact HR
  isplitl [HG]; · iexact HG
  isplitl [HO]; · iexact HO
  iintro ⟨⟨Hv, HV, Ht⟩, HO⟩
  iapply H
  isplitr [HO]
  · isplitl [Hk Hv]; · isplitl [Hk] <;> iassumption
    isplitl [Hs Ht]; · isplitl [Hs] <;> iassumption
    isplitl [HK] <;> iassumption
  iexists _; iexact HO
theorem w_tail' (κ : GSem nD τ sig → ℕ) (c : Dev nD) (a : Fin 4) (h : Fin 8) (l : List (Fin 12)) (Q : PUnit → sProp (MM F)) :
    iprop(recs I κ ∗ busy I c a h ∗ (∃ W, owes (c : Thread nD τ) (owL c l) W)
        ∗ ((idle I c a (kvC (I.kh c) a c) (kvC (I.vh c) a c) h ∗ (∃ W, owes (c : Thread nD τ) (owL c l) W)) -∗ Q ⟨⟩))
      ⊢ WP c (kW a c h >>= fun _ => vW a c h) Q := by
  unfold idle busy hd sem2
  iintro ⟨#HR, ⟨HF, HG⟩, ⟨%W, HO⟩, H⟩
  rw [w_bind]
  iapply (w_wtK I κ c a h l W)
  isplitr; · iexact HR
  isplitl [HF]; · iexact HF
  isplitl [HO]; · iexact HO
  iintro ⟨⟨Hk, HK, Hs⟩, HO⟩
  iapply (w_wtV I κ c a h l _)
  isplitr; · iexact HR
  isplitl [HG]; · iexact HG
  isplitl [HO]; · iexact HO
  iintro ⟨⟨Hv, HV, Ht⟩, HO⟩
  iapply H
  isplitr [HO]
  · isplitl [Hk Hv]; · isplitl [Hk] <;> iassumption
    isplitl [Hs Ht]; · isplitl [Hs] <;> iassumption
    isplitl [HK] <;> iassumption
  iexists _; iexact HO

theorem w_wait (κ : GSem nD τ sig → ℕ) (c : Dev nD) (a : Fin 4) (l : List (Fin 12)) (Q : PUnit → sProp (MM F)) :
    iprop(recs I κ ∗ away I c a ∗ (∃ W, owes (c : Thread nD τ) (owL c l) W)
        ∗ ((hds I c ∗ sems c (slot a) ∗ kbP c (kvSlot (slot a)) (kvC (I.kh c) a c) ∗ vbP c (kvSlot (slot a)) (kvC (I.vh c) a c)
            ∗ (∃ W, owes (c : Thread nD τ) (owL c l) W)) -∗ Q ⟨⟩)) ⊢ WP c (waitP a c) Q := by
  unfold waitP away
  rw [bigSep_fin8 (busy I c a)]
  iintro ⟨#HR, ⟨H0, H1, H2, H3, H4, H5, H6, H7⟩, HO, Hk⟩
  iapply (w_tail I κ c a 0 l); isplitr; · iexact HR
  isplitl [H0]; · iexact H0
  isplitl [HO]; · iexact HO
  iintro ⟨H0, HO⟩
  iapply (w_tail I κ c a 1 l); isplitr; · iexact HR
  isplitl [H1]; · iexact H1
  isplitl [HO]; · iexact HO
  iintro ⟨H1, HO⟩
  iapply (w_tail I κ c a 2 l); isplitr; · iexact HR
  isplitl [H2]; · iexact H2
  isplitl [HO]; · iexact HO
  iintro ⟨H2, HO⟩
  iapply (w_tail I κ c a 3 l); isplitr; · iexact HR
  isplitl [H3]; · iexact H3
  isplitl [HO]; · iexact HO
  iintro ⟨H3, HO⟩
  iapply (w_tail I κ c a 4 l); isplitr; · iexact HR
  isplitl [H4]; · iexact H4
  isplitl [HO]; · iexact HO
  iintro ⟨H4, HO⟩
  iapply (w_tail I κ c a 5 l); isplitr; · iexact HR
  isplitl [H5]; · iexact H5
  isplitl [HO]; · iexact HO
  iintro ⟨H5, HO⟩
  iapply (w_tail I κ c a 6 l); isplitr; · iexact HR
  isplitl [H6]; · iexact H6
  isplitl [HO]; · iexact HO
  iintro ⟨H6, HO⟩
  iapply (w_tail' I κ c a 7 l); isplitr; · iexact HR
  isplitl [H7]; · iexact H7
  isplitl [HO]; · iexact HO
  iintro ⟨H7, HO⟩
  ihave H := (Entails.of_eq (bigSep_fin8 (idle I c a (kvC (I.kh c) a c) (kvC (I.vh c) a c))).symm) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave H := (idle_elim I c a _ _) $$ H
  icases H with ⟨H1, H2, H3, H4⟩
  iapply Hk
  isplitl [H1]; · iexact H1
  isplitl [H2]; · iexact H2
  isplitl [H3]; · iexact H3
  isplitl [H4]; · iexact H4
  iexact HO

end Cert.KernelIdeal.Body
-- ==== Proof.Trips.lean ====
module

public import proofs.«01_k».proof.Proof.Loads

@[expose] public section

set_option maxRecDepth 16384

/-!
# The five turns of computation

What a trip, a loop and a whole turn leave in the query, context and output buffers.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

/-! ## Loads and stores by buffer -/

theorem w_lQB (c : Dev nD) (r : LoadRect S1024x1024) (hl : QB.view.LoadsAt r) (f : Vec F S1024x1024 .bf16) (Q : (r.shape.Idx → Elt F .bf16) → sProp (MM F)) :
    iprop(qbP c f ∗ (qbP c f -∗ Q (QB.view.readAt (Elt F) r f))) ⊢ WP c (Prog.lift (.load QB r hl)) Q :=
  w_load c (m := QB) (S := Finset.univ) (Finset.subset_univ _) Q
theorem w_lCX (c : Dev nD) (r : LoadRect S1024x1024) (hl : CX.view.LoadsAt r) (f : Vec F S1024x1024 .bf16) (Q : (r.shape.Idx → Elt F .bf16) → sProp (MM F)) :
    iprop(cxP c f ∗ (cxP c f -∗ Q (CX.view.readAt (Elt F) r f))) ⊢ WP c (Prog.lift (.load CX r hl)) Q :=
  w_load c (m := CX) (S := Finset.univ) (Finset.subset_univ _) Q
theorem w_lBIr (c : Dev nD) (r : LoadRect S1024x1024) (hl : BI.view.LoadsAt r) (f : Vec F S1024x1024 .bf16) (Q : (r.shape.Idx → Elt F .bf16) → sProp (MM F)) :
    iprop(biP c f ∗ (biP c f -∗ Q (BI.view.readAt (Elt F) r f))) ⊢ WP c (Prog.lift (.load BI r hl)) Q :=
  w_load c (m := BI) (S := Finset.univ) (Finset.subset_univ _) Q

theorem w_lKB (c : Dev nD) (r : LoadRect S2x8x1024x128) (hl : KB.view.LoadsAt r) {S : Finset S2x8x1024x128.Idx} (hS : r.set ⊆ S) (f : Vec F S2x8x1024x128 .f32)
    (Q : (r.shape.Idx → Elt F .f32) → sProp (MM F)) :
    iprop(kbP c S f ∗ (kbP c S f -∗ Q (KB.view.readAt (Elt F) r f))) ⊢ WP c (Prog.lift (.load KB r hl)) Q :=
  w_load c (m := KB) (S := S) (by intro i hi; obtain ⟨j, hj, rfl⟩ := Finset.mem_map.mp hi; exact hS hj) Q
theorem w_lVB (c : Dev nD) (r : LoadRect S2x8x1024x128) (hl : VB.view.LoadsAt r) {S : Finset S2x8x1024x128.Idx} (hS : r.set ⊆ S) (f : Vec F S2x8x1024x128 .f32)
    (Q : (r.shape.Idx → Elt F .f32) → sProp (MM F)) :
    iprop(vbP c S f ∗ (vbP c S f -∗ Q (VB.view.readAt (Elt F) r f))) ⊢ WP c (Prog.lift (.load VB r hl)) Q :=
  w_load c (m := VB) (S := S) (by intro i hi; obtain ⟨j, hj, rfl⟩ := Finset.mem_map.mp hi; exact hS hj) Q
theorem w_lCM (c : Dev nD) (r : LoadRect S3x2x1024x1024) (hl : CM.view.LoadsAt r) {S : Finset S3x2x1024x1024.Idx} (hS : r.set ⊆ S) (q : PosShare TreeShare)
    (f : Vec F S3x2x1024x1024 .bf16) (Q : (r.shape.Idx → Elt F .bf16) → sProp (MM F)) :
    iprop(cmP c S q f ∗ (cmP c S q f -∗ Q (CM.view.readAt (Elt F) r f))) ⊢ WP c (Prog.lift (.load CM r hl)) Q :=
  w_load c (m := CM) (S := S) (by intro i hi; obtain ⟨j, hj, rfl⟩ := Finset.mem_map.mp hi; exact hS hj) Q

/-- The context buffer with one rectangle replaced. -/
def cxW (r : Rect S1024x1024) (f : Vec F S1024x1024 .bf16) (w : r.shape.Idx → Elt F .bf16) : Vec F S1024x1024 .bf16 :=
  View.write (Elt F) (v := (CX.access r : View sig .tc _ _ _)) f w Finset.univ
theorem w_sCX (c : Dev nD) (r : Rect S1024x1024) (w : r.shape.Idx → Elt F .bf16) (hx : (CX.access r).Stores Finset.univ)
    (hm : (Finset.univ : Finset r.shape.Idx) = Finset.univ ∨ ∀ a, r.stride a = 1) (f : Vec F S1024x1024 .bf16) (Q : PUnit → sProp (MM F)) :
    iprop(cxP c f ∗ (cxP c (cxW r f w) -∗ Q ⟨⟩)) ⊢ WP c (Prog.lift (.store CX r w Finset.univ hx hm)) Q :=
  by unfold cxP cxW; exact w_store c (m := CX) (r := r) (w := w) (hx := hx) (hm := hm) (f := f) Q

/-! ## A trip -/

variable (fq : Vec F S1024x1024 .bf16) (fk fv : Vec F S2x8x1024x128 .f32) (fb : Vec F S1024x1024 .bf16)

/-- The context of each band of a trip. -/
def tb0 (o : Trip) : Vec F S256x128 .bf16 :=
  band0 (QB.view.readAt (Elt F) o.rq0.toLoadRect fq) (KB.view.readAt (Elt F) o.rb0.toLoadRect fk) (BI.view.readAt (Elt F) rm0.toLoadRect fb) (VB.view.readAt (Elt F) o.rb0.toLoadRect fv)
def tb1 (o : Trip) : Vec F S256x128 .bf16 :=
  band1 (QB.view.readAt (Elt F) o.rq1.toLoadRect fq) (KB.view.readAt (Elt F) o.rb1.toLoadRect fk) (BI.view.readAt (Elt F) rm1.toLoadRect fb) (VB.view.readAt (Elt F) o.rb1.toLoadRect fv)
def tb2 (o : Trip) : Vec F S256x128 .bf16 :=
  band2 (QB.view.readAt (Elt F) o.rq2.toLoadRect fq) (KB.view.readAt (Elt F) o.rb2.toLoadRect fk) (BI.view.readAt (Elt F) rm2.toLoadRect fb) (VB.view.readAt (Elt F) o.rb2.toLoadRect fv)
def tb3 (o : Trip) : Vec F S256x128 .bf16 :=
  band3 (QB.view.readAt (Elt F) o.rq3.toLoadRect fq) (KB.view.readAt (Elt F) o.rb3.toLoadRect fk) (BI.view.readAt (Elt F) rm3.toLoadRect fb) (VB.view.readAt (Elt F) o.rb3.toLoadRect fv)

/-- The context buffer after each band of a trip. -/
def tw0 (o : Trip) (f : Vec F S1024x1024 .bf16) : Vec F S1024x1024 .bf16 := cxW o.rq0 f (tb0 fq fk fv fb o)
def tw1 (o : Trip) (f : Vec F S1024x1024 .bf16) : Vec F S1024x1024 .bf16 := cxW o.rq1 f (tb1 fq fk fv fb o)
def tw2 (o : Trip) (f : Vec F S1024x1024 .bf16) : Vec F S1024x1024 .bf16 := cxW o.rq2 f (tb2 fq fk fv fb o)
def tw3 (o : Trip) (f : Vec F S1024x1024 .bf16) : Vec F S1024x1024 .bf16 := cxW o.rq3 f (tb3 fq fk fv fb o)
def tripW (o : Trip) (f : Vec F S1024x1024 .bf16) : Vec F S1024x1024 .bf16 :=
  tw3 fq fk fv fb o (tw2 fq fk fv fb o (tw1 fq fk fv fb o (tw0 fq fk fv fb o f)))

/-- A trip stays inside the staged turn. -/
structure Trip.In (o : Trip) (sl : Fin 2) : Prop where
  i0 : o.rb0.toLoadRect.set ⊆ kvSlot sl
  i1 : o.rb1.toLoadRect.set ⊆ kvSlot sl
  i2 : o.rb2.toLoadRect.set ⊆ kvSlot sl
  i3 : o.rb3.toLoadRect.set ⊆ kvSlot sl

/-- What a loop holds: everything it reads, and the context buffer. -/
def held (c : Dev nD) (sl : Fin 2) (fc : Vec F S1024x1024 .bf16) : sProp (MM F) :=
  iprop(qbP c fq ∗ kbP c (kvSlot sl) fk ∗ vbP c (kvSlot sl) fv ∗ biP c fb ∗ cxP c fc)

theorem w_trip (c : Dev nD) (sl : Fin 2) (o : Trip) (h : o.In sl) (f : Vec F S1024x1024 .bf16) (Q : Unit → sProp (MM F)) :
    iprop(held fq fk fv fb c sl f ∗ (held fq fk fv fb c sl (tripW fq fk fv fb o f) -∗ Q ⟨⟩)) ⊢ WP c (tripP (F := F) o) Q := by
  unfold tripP held
  iintro ⟨⟨Hq, Hk, Hv, Hb, Hc⟩, HQ⟩
  rw [w_bind]; iapply (w_lQB c) $$ [$Hq Hk Hv Hb Hc HQ]; iintro Hq
  rw [w_bind]; iapply (w_lKB c _ _ h.i0) $$ [$Hk Hq Hv Hb Hc HQ]; iintro Hk
  rw [w_bind]; iapply (w_lBIr c) $$ [$Hb Hq Hv Hk Hc HQ]; iintro Hb
  rw [w_bind]; iapply (w_lVB c _ _ h.i0) $$ [$Hv Hq Hk Hb Hc HQ]; iintro Hv
  rw [w_bind]; iapply (w_lCX c) $$ [$Hc Hq Hk Hb Hv HQ]; iintro Hc
  rw [w_bind]; iapply (w_sCX c) $$ [$Hc Hq Hk Hb Hv HQ]; iintro Hc
  rw [w_bind]; iapply (w_lQB c) $$ [$Hq Hk Hv Hb Hc HQ]; iintro Hq
  rw [w_bind]; iapply (w_lKB c _ _ h.i1) $$ [$Hk Hq Hv Hb Hc HQ]; iintro Hk
  rw [w_bind]; iapply (w_lBIr c) $$ [$Hb Hq Hv Hk Hc HQ]; iintro Hb
  rw [w_bind]; iapply (w_lVB c _ _ h.i1) $$ [$Hv Hq Hk Hb Hc HQ]; iintro Hv
  rw [w_bind]; iapply (w_lCX c) $$ [$Hc Hq Hk Hb Hv HQ]; iintro Hc
  rw [w_bind]; iapply (w_sCX c) $$ [$Hc Hq Hk Hb Hv HQ]; iintro Hc
  rw [w_bind]; iapply (w_lQB c) $$ [$Hq Hk Hv Hb Hc HQ]; iintro Hq
  rw [w_bind]; iapply (w_lKB c _ _ h.i2) $$ [$Hk Hq Hv Hb Hc HQ]; iintro Hk
  rw [w_bind]; iapply (w_lBIr c) $$ [$Hb Hq Hv Hk Hc HQ]; iintro Hb
  rw [w_bind]; iapply (w_lVB c _ _ h.i2) $$ [$Hv Hq Hk Hb Hc HQ]; iintro Hv
  rw [w_bind]; iapply (w_lCX c) $$ [$Hc Hq Hk Hb Hv HQ]; iintro Hc
  rw [w_bind]; iapply (w_sCX c) $$ [$Hc Hq Hk Hb Hv HQ]; iintro Hc
  rw [w_bind]; iapply (w_lQB c) $$ [$Hq Hk Hv Hb Hc HQ]; iintro Hq
  rw [w_bind]; iapply (w_lKB c _ _ h.i3) $$ [$Hk Hq Hv Hb Hc HQ]; iintro Hk
  rw [w_bind]; iapply (w_lBIr c) $$ [$Hb Hq Hv Hk Hc HQ]; iintro Hb
  rw [w_bind]; iapply (w_lVB c _ _ h.i3) $$ [$Hv Hq Hk Hb Hc HQ]; iintro Hv
  rw [w_bind]; iapply (w_lCX c) $$ [$Hc Hq Hk Hb Hv HQ]; iintro Hc
  rw [w_bind]; iapply (w_sCX c) $$ [$Hc Hq Hk Hb Hv HQ]; iintro Hc
  iapply (w_ret c)
  iapply HQ
  isplitl [Hq]; · iexact Hq
  isplitl [Hk]; · iexact Hk
  isplitl [Hv]; · iexact Hv
  isplitl [Hb]; · iexact Hb
  unfold tripW tw3 tw2 tw1 tw0 tb0 tb1 tb2 tb3
  iexact Hc

/-! ## Loops -/

/-- The context buffer after `k` trips. -/
def loopW {n : ℕ} (tr : Fin n → Trip) (f : Vec F S1024x1024 .bf16) : ℕ → Vec F S1024x1024 .bf16
  | 0 => f
  | k + 1 => if h : k < n then tripW fq fk fv fb (tr ⟨k, h⟩) (loopW tr f k) else loopW tr f k

theorem loopW_succ {n : ℕ} (tr : Fin n → Trip) (f : Vec F S1024x1024 .bf16) (k : Fin n) :
    loopW fq fk fv fb tr f (k.val + 1) = tripW fq fk fv fb (tr k) (loopW fq fk fv fb tr f k.val) := by
  rw [loopW, dif_pos k.isLt]

theorem w_loop (c : Dev nD) (sl : Fin 2) (l : Scf.Loop 32) (hok : l.OK) (tr : Fin l.trips → Trip) (h : ∀ t, (tr t).In sl) (f : Vec F S1024x1024 .bf16) (Q : Unit → sProp (MM F)) :
    iprop(held fq fk fv fb c sl f ∗ (held fq fk fv fb c sl (loopW fq fk fv fb tr f l.trips) -∗ Q ⟨⟩)) ⊢ WP c (Scf.Loop.for l hok ⟨⟩ (fun t _ => tripP (F := F) (tr t))) Q := by
  iintro ⟨H, HQ⟩
  iapply (Scf.wp_for frame (wpE (defs₀ (F := F)) V0 (c : Thread nD τ) none) Set.univ l.lb l.ub l.st hok ⟨⟩ (fun t _ => tripP (F := F) (tr t))
    (fun k _ => held fq fk fv fb c sl (loopW fq fk fv fb tr f k)) (by
      intro k acc
      iintro H
      iapply (w_trip fq fk fv fb c sl (tr k) (h k)) $$ [$H]
      iintro H
      rw [loopW_succ]
      iexact H)) $$ [H HQ]
  isplitl [H]
  · iexact H
  · iintro %acc H
    iapply HQ $$ H

theorem rb_in {off : Fin 4 → ℕ} {n : ℕ} {inb : ∀ a, off a + (![1, 1, n, 128] : Fin 4 → ℕ) a ≤ S2x8x1024x128.size a} (sl : Fin 2) (h : off 0 = sl.val) :
    (Rect.unit (s := S2x8x1024x128) off ![1, 1, n, 128] inb).toLoadRect.set ⊆ kvSlot sl := by
  intro i hi
  have := (mem_unit (s := S2x8x1024x128) (off := off) (size := ![1, 1, n, 128]) (inb := inb) i).mp hi
  have h0 := this 0
  simp only [kvSlot, Finset.mem_filter, Finset.mem_univ, true_and]
  simp at h0
  omega

theorem in1 (t : Fin k0_t1_loop.trips) : (trip1 t).In 0 :=
  ⟨rb_in 0 (by simp [trip1, k0_off4_eq]), rb_in 0 (by simp [trip1, k0_off6_eq]), rb_in 0 (by simp [trip1, k0_off8_eq]), rb_in 0 (by simp [trip1, k0_off10_eq])⟩
theorem in2 (t : Fin k0_t2_loop.trips) : (trip2 t).In 1 :=
  ⟨rb_in 1 (by simp [trip2, k0_off13_eq]), rb_in 1 (by simp [trip2, k0_off15_eq]), rb_in 1 (by simp [trip2, k0_off17_eq]), rb_in 1 (by simp [trip2, k0_off19_eq])⟩
theorem in3 (t : Fin k0_t3_loop.trips) : (trip3 t).In 1 :=
  ⟨rb_in 1 (by simp [trip3, k0_off21_eq]), rb_in 1 (by simp [trip3, k0_off23_eq]), rb_in 1 (by simp [trip3, k0_off25_eq]), rb_in 1 (by simp [trip3, k0_off27_eq])⟩
theorem in4 (t : Fin k0_t4_loop.trips) : (trip4 t).In 0 :=
  ⟨rb_in 0 (by simp [trip4, k0_off29_eq]), rb_in 0 (by simp [trip4, k0_off31_eq]), rb_in 0 (by simp [trip4, k0_off33_eq]), rb_in 0 (by simp [trip4, k0_off35_eq])⟩
theorem in5 (t : Fin k0_t5_loop.trips) : (trip5 t).In 1 :=
  ⟨rb_in 1 (by simp [trip5, k0_off37_eq]), rb_in 1 (by simp [trip5, k0_off39_eq]), rb_in 1 (by simp [trip5, k0_off41_eq]), rb_in 1 (by simp [trip5, k0_off43_eq])⟩

end Cert.KernelIdeal.Body
-- ==== Proof.Turns.lean ====
module

public import proofs.«01_k».proof.Proof.Trips

@[expose] public section

set_option maxRecDepth 16384

/-!
# A whole turn of computation

Queries are projected, the loop fills the context buffer, and the context's projection is added to the output.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

theorem z2 : (![0, 0] : Fin 2 → ℕ) = fun _ => 0 := by funext a; fin_cases a <;> rfl
theorem z3 : (![0, 0, 0] : Fin 3 → ℕ) = fun _ => 0 := by funext a; fin_cases a <;> rfl

/-! ## Whole buffers -/

theorem w_lX (c : Dev nD) (f : Vec F S1x1024x1024 .f32) (Q : Vec F S1x1024x1024 .f32 → sProp (MM F)) : iprop(xP c f ∗ (xP c f -∗ Q f)) ⊢ WP c (lX (F := F)) Q := by
  have h := w_load (F := F) c (m := X) (r := rX.toLoadRect) (hl := View.loadsAt_vmem h_S1x1024x1024) (S := Finset.univ) (q := fullShare) (f := f) (Finset.subset_univ _) Q
  rw [show X.view.readAt (Elt F) rX.toLoadRect f = f from Memref.readAt_unit_zero (Elt F) cc0_stg0_0 (off := ![0, 0, 0]) z3 inb_S1x1024x1024_S1x1024x1024_0_0_0 f] at h
  exact h
theorem w_lO (c : Dev nD) (f : Vec F S1x1024x1024 .f32) (Q : Vec F S1x1024x1024 .f32 → sProp (MM F)) : iprop(outP c f ∗ (outP c f -∗ Q f)) ⊢ WP c (lO (F := F)) Q := by
  have h := w_load (F := F) c (m := OUT) (r := rX.toLoadRect) (hl := View.loadsAt_vmem h_S1x1024x1024) (S := Finset.univ) (q := fullShare) (f := f) (Finset.subset_univ _) Q
  rw [show OUT.view.readAt (Elt F) rX.toLoadRect f = f from Memref.readAt_unit_zero (Elt F) cc0_stg3_0 (off := ![0, 0, 0]) z3 inb_S1x1024x1024_S1x1024x1024_0_0_0 f] at h
  exact h
theorem w_lBI (c : Dev nD) (f : Vec F S1024x1024 .bf16) (Q : Vec F S1024x1024 .bf16 → sProp (MM F)) : iprop(biP c f ∗ (biP c f -∗ Q f)) ⊢ WP c (lBI (F := F)) Q := by
  have h := w_load (F := F) c (m := BI) (r := rW.toLoadRect) (hl := View.loadsAt_vmem h_S1024x1024) (S := Finset.univ) (q := fullShare) (f := f) (Finset.subset_univ _) Q
  rw [show BI.view.readAt (Elt F) rW.toLoadRect f = f from Memref.readAt_unit_zero (Elt F) cc0_scratch5 (off := ![0, 0]) z2 inb_S1024x1024_S1024x1024_0_0 f] at h
  exact h
theorem w_lQ (c : Dev nD) (f : Vec F S1024x1024 .bf16) (Q : Vec F S1024x1024 .bf16 → sProp (MM F)) : iprop(qbP c f ∗ (qbP c f -∗ Q f)) ⊢ WP c (lQ (F := F)) Q := by
  have h := w_load (F := F) c (m := QB) (r := rW.toLoadRect) (hl := View.loadsAt_vmem h_S1024x1024) (S := Finset.univ) (q := fullShare) (f := f) (Finset.subset_univ _) Q
  rw [show QB.view.readAt (Elt F) rW.toLoadRect f = f from Memref.readAt_unit_zero (Elt F) cc0_scratch3 (off := ![0, 0]) z2 inb_S1024x1024_S1024x1024_0_0 f] at h
  exact h
theorem w_lC (c : Dev nD) (f : Vec F S1024x1024 .bf16) (Q : Vec F S1024x1024 .bf16 → sProp (MM F)) : iprop(cxP c f ∗ (cxP c f -∗ Q f)) ⊢ WP c (lC (F := F)) Q := by
  have h := w_load (F := F) c (m := CX) (r := rW.toLoadRect) (hl := View.loadsAt_vmem h_S1024x1024) (S := Finset.univ) (q := fullShare) (f := f) (Finset.subset_univ _) Q
  rw [show CX.view.readAt (Elt F) rW.toLoadRect f = f from Memref.readAt_unit_zero (Elt F) cc0_scratch4 (off := ![0, 0]) z2 inb_S1024x1024_S1024x1024_0_0 f] at h
  exact h
theorem w_lWQ (c : Dev nD) (q : PosShare TreeShare) (f : Vec F S1024x1024 .bf16) (Q : Vec F S1024x1024 .bf16 → sProp (MM F)) :
    iprop(wqP c Finset.univ q f ∗ (wqP c Finset.univ q f -∗ Q f)) ⊢ WP c (lWQ (F := F)) Q := by
  have h := w_load (F := F) c (m := WQ) (r := rW.toLoadRect) (hl := View.loadsAt_vmem h_S1024x1024) (S := Finset.univ) (q := q) (f := f) (Finset.subset_univ _) Q
  rw [show WQ.view.readAt (Elt F) rW.toLoadRect f = f from Memref.readAt_unit_zero (Elt F) cc0_stg1_0 (off := ![0, 0]) z2 inb_S1024x1024_S1024x1024_0_0 f] at h
  exact h
theorem w_lWO (c : Dev nD) (q : PosShare TreeShare) (f : Vec F S1024x1024 .bf16) (Q : Vec F S1024x1024 .bf16 → sProp (MM F)) :
    iprop(woP c Finset.univ q f ∗ (woP c Finset.univ q f -∗ Q f)) ⊢ WP c (lWO (F := F)) Q := by
  have h := w_load (F := F) c (m := WO) (r := rW.toLoadRect) (hl := View.loadsAt_vmem h_S1024x1024) (S := Finset.univ) (q := q) (f := f) (Finset.subset_univ _) Q
  rw [show WO.view.readAt (Elt F) rW.toLoadRect f = f from Memref.readAt_unit_zero (Elt F) cc0_stg2_0 (off := ![0, 0]) z2 inb_S1024x1024_S1024x1024_0_0 f] at h
  exact h

theorem w_sBI (c : Dev nD) (w f : Vec F S1024x1024 .bf16) (Q : PUnit → sProp (MM F)) : iprop(biP c f ∗ (biP c w -∗ Q ⟨⟩)) ⊢ WP c (sBI (F := F) w) Q := by
  have h := w_store (F := F) c (m := BI) (r := rW) (w := w) (hx := View.stores_vmem h_S1024x1024 ((wh cc0_scratch5).storeExact_slice rfl _ packedbf16_S1024x1024_S1024x1024_0_0) (fun _ => rfl)) (hm := .inl rfl) (f := f) Q
  rw [show View.write (Elt F) (v := (BI.access rW : View sig .tc _ _ _)) f w Finset.univ = w from Memref.write_access_unit_zero_univ (Elt F) cc0_scratch5 (off := ![0, 0]) z2 inb_S1024x1024_S1024x1024_0_0 f w] at h
  exact h
theorem w_sQ (c : Dev nD) (w f : Vec F S1024x1024 .bf16) (Q : PUnit → sProp (MM F)) : iprop(qbP c f ∗ (qbP c w -∗ Q ⟨⟩)) ⊢ WP c (sQ (F := F) w) Q := by
  have h := w_store (F := F) c (m := QB) (r := rW) (w := w) (hx := View.stores_vmem h_S1024x1024 ((wh cc0_scratch3).storeExact_slice rfl _ packedbf16_S1024x1024_S1024x1024_0_0) (fun _ => rfl)) (hm := .inl rfl) (f := f) Q
  rw [show View.write (Elt F) (v := (QB.access rW : View sig .tc _ _ _)) f w Finset.univ = w from Memref.write_access_unit_zero_univ (Elt F) cc0_scratch3 (off := ![0, 0]) z2 inb_S1024x1024_S1024x1024_0_0 f w] at h
  exact h
theorem w_sO (c : Dev nD) (w f : Vec F S1x1024x1024 .f32) (Q : PUnit → sProp (MM F)) : iprop(outP c f ∗ (outP c w -∗ Q ⟨⟩)) ⊢ WP c (sO (F := F) w) Q := by
  have h := w_store (F := F) c (m := OUT) (r := rX) (w := w) (hx := View.stores_vmem_bits_univ h_S1x1024x1024 rfl) (hm := .inl rfl) (f := f) Q
  rw [show View.write (Elt F) (v := (OUT.access rX : View sig .tc _ _ _)) f w Finset.univ = w from Memref.write_access_unit_zero_univ (Elt F) cc0_stg3_0 (off := ![0, 0, 0]) z3 inb_S1x1024x1024_S1x1024x1024_0_0_0 f w] at h
  exact h

/-- The query buffer with one rectangle replaced. -/
def qbW (r : Rect S1024x1024) (f : Vec F S1024x1024 .bf16) (w : r.shape.Idx → Elt F .bf16) : Vec F S1024x1024 .bf16 :=
  View.write (Elt F) (v := (QB.access r : View sig .tc _ _ _)) f w Finset.univ
theorem w_sQB (c : Dev nD) (r : Rect S1024x1024) (w : r.shape.Idx → Elt F .bf16) (hx : (QB.access r).Stores Finset.univ)
    (hm : (Finset.univ : Finset r.shape.Idx) = Finset.univ ∨ ∀ a, r.stride a = 1) (f : Vec F S1024x1024 .bf16) (Q : PUnit → sProp (MM F)) :
    iprop(qbP c f ∗ (qbP c (qbW r f w) -∗ Q ⟨⟩)) ⊢ WP c (Prog.lift (.store QB r w Finset.univ hx hm)) Q :=
  by unfold qbP qbW; exact w_store c (m := QB) (r := r) (w := w) (hx := hx) (hm := hm) (f := f) Q

/-! ## What a turn reads from the exchange buffer -/

def pcol (s : Fin 3) (g : Fin 2) (f : Vec F S3x2x1024x1024 .bf16) : Vec F S1x1x1024x512 .bf16 := CM.view.readAt (Elt F) (rcol s g).toLoadRect f
def prow (s : Fin 3) (j g : Fin 2) (f : Vec F S3x2x1024x1024 .bf16) : Vec F S1x1x512x1024 .bf16 := CM.view.readAt (Elt F) (rrow s j g).toLoadRect f
def ppg (s : Fin 3) (j : Fin 2) (f : Vec F S3x2x1024x1024 .bf16) : Vec F S1x1x1024x1024 .bf16 := CM.view.readAt (Elt F) (rpg s j).toLoadRect f
def chalf0 (f : Vec F S1024x1024 .bf16) : Vec F S1024x512 .bf16 := CX.view.readAt (Elt F) rC0.toLoadRect f
def chalf1 (f : Vec F S1024x1024 .bf16) : Vec F S1024x512 .bf16 := CX.view.readAt (Elt F) rC1.toLoadRect f

variable (x0 : Vec F S1x1024x1024 .f32) (fk fv : Vec F S2x8x1024x128 .f32) (wq wo : Vec F S1024x1024 .bf16) (fm : Vec F S3x2x1024x1024 .bf16)

/-! ## The queries, the context and the output after each turn -/

def q1F : Vec F S1024x1024 .bf16 := k0_pay39 (k0_pay38 (k0_pay36 x0) wq)
def o1F (fc : Vec F S1024x1024 .bf16) : Vec F S1x1024x1024 .f32 := k0_pay41 (k0_pay37 wo) fc
def q2F (fq : Vec F S1024x1024 .bf16) : Vec F S1024x1024 .bf16 := qbW rC0 fq (k0_pay43 (k0_pay36 x0) (pcol 0 0 fm))
def o2F (fc : Vec F S1024x1024 .bf16) (o : Vec F S1x1024x1024 .f32) : Vec F S1x1024x1024 .f32 := k0_pay45 (k0_pay42 (prow 0 1 0 fm)) (chalf0 fc) o
def q3F (fq : Vec F S1024x1024 .bf16) : Vec F S1024x1024 .bf16 := qbW rC1 fq (k0_pay47 (k0_pay36 x0) (pcol 0 1 fm))
def o3F (fc : Vec F S1024x1024 .bf16) (o : Vec F S1x1024x1024 .f32) : Vec F S1x1024x1024 .f32 := k0_pay49 (k0_pay46 (prow 0 1 1 fm)) (chalf1 fc) o
def q4F : Vec F S1024x1024 .bf16 := k0_pay51 (k0_pay36 x0) (k0_pay50 (ppg 1 0 fm))
def o4F (fc : Vec F S1024x1024 .bf16) (o : Vec F S1x1024x1024 .f32) : Vec F S1x1024x1024 .f32 := k0_pay53 (ppg 1 1 fm) fc o
def q5F : Vec F S1024x1024 .bf16 := k0_pay54 (k0_pay36 x0) (ppg 2 0 fm)
def o5F (fc : Vec F S1024x1024 .bf16) (o : Vec F S1x1024x1024 .f32) : Vec F S1x1024x1024 .f32 := k0_pay57 (k0_pay56 (ppg 2 1 fm) fc o)

def c1F (fq fc : Vec F S1024x1024 .bf16) : Vec F S1024x1024 .bf16 := loopW fq fk fv biasV trip1 fc k0_t1_loop.trips
def c2F (fq fc : Vec F S1024x1024 .bf16) : Vec F S1024x1024 .bf16 := loopW fq fk fv biasV trip2 fc k0_t2_loop.trips
def c3F (fq fc : Vec F S1024x1024 .bf16) : Vec F S1024x1024 .bf16 := loopW fq fk fv biasV trip3 fc k0_t3_loop.trips
def c4F (fq fc : Vec F S1024x1024 .bf16) : Vec F S1024x1024 .bf16 := loopW fq fk fv biasV trip4 fc k0_t4_loop.trips
def c5F (fq fc : Vec F S1024x1024 .bf16) : Vec F S1024x1024 .bf16 := loopW fq fk fv biasV trip5 fc k0_t5_loop.trips

/-! ## The turns -/

variable (fq fc : Vec F S1024x1024 .bf16) (fo : Vec F S1x1024x1024 .f32)

/-- What a turn holds apart from the weights. -/
def turnS (c : Dev nD) (sl : Fin 2) (fq fc : Vec F S1024x1024 .bf16) (fo : Vec F S1x1024x1024 .f32) : sProp (MM F) :=
  iprop(qbP c fq ∗ kbP c (kvSlot sl) fk ∗ vbP c (kvSlot sl) fv ∗ biP c biasV ∗ cxP c fc ∗ outP c fo)

theorem w_loop1 (c : Dev nD) (Q : Unit → sProp (MM F)) :
    iprop(held fq fk fv biasV c 0 fc ∗ (held fq fk fv biasV c 0 (c1F fk fv fq fc) -∗ Q ⟨⟩)) ⊢ WP c (loop1 (F := F)) Q := w_loop fq fk fv biasV c 0 _ _ _ in1 fc Q
theorem w_loop2 (c : Dev nD) (Q : Unit → sProp (MM F)) :
    iprop(held fq fk fv biasV c 1 fc ∗ (held fq fk fv biasV c 1 (c2F fk fv fq fc) -∗ Q ⟨⟩)) ⊢ WP c (loop2 (F := F)) Q := w_loop fq fk fv biasV c 1 _ _ _ in2 fc Q
theorem w_loop3 (c : Dev nD) (Q : Unit → sProp (MM F)) :
    iprop(held fq fk fv biasV c 1 fc ∗ (held fq fk fv biasV c 1 (c3F fk fv fq fc) -∗ Q ⟨⟩)) ⊢ WP c (loop3 (F := F)) Q := w_loop fq fk fv biasV c 1 _ _ _ in3 fc Q
theorem w_loop4 (c : Dev nD) (Q : Unit → sProp (MM F)) :
    iprop(held fq fk fv biasV c 0 fc ∗ (held fq fk fv biasV c 0 (c4F fk fv fq fc) -∗ Q ⟨⟩)) ⊢ WP c (loop4 (F := F)) Q := w_loop fq fk fv biasV c 0 _ _ _ in4 fc Q
theorem w_loop5 (c : Dev nD) (Q : Unit → sProp (MM F)) :
    iprop(held fq fk fv biasV c 1 fc ∗ (held fq fk fv biasV c 1 (c5F fk fv fq fc) -∗ Q ⟨⟩)) ⊢ WP c (loop5 (F := F)) Q := w_loop fq fk fv biasV c 1 _ _ _ in5 fc Q

theorem w_lcol (c : Dev nD) (s : Fin 3) (g : Fin 2) (S : Finset S3x2x1024x1024.Idx) (hS : cmCol s g ⊆ S) (q : PosShare TreeShare) (Q : Vec F S1x1x1024x512 .bf16 → sProp (MM F)) :
    iprop(cmP c S q fm ∗ (cmP c S q fm -∗ Q (pcol s g fm))) ⊢ WP c (lcol (F := F) s g) Q :=
  w_lCM c (rcol s g).toLoadRect _ (S := S) ((le_of_eq (set_rcol s g)).trans hS) q fm Q
theorem w_lrow (c : Dev nD) (s : Fin 3) (j g : Fin 2) (S : Finset S3x2x1024x1024.Idx) (hS : cmRow s j g ⊆ S) (q : PosShare TreeShare) (Q : Vec F S1x1x512x1024 .bf16 → sProp (MM F)) :
    iprop(cmP c S q fm ∗ (cmP c S q fm -∗ Q (prow s j g fm))) ⊢ WP c (lrow (F := F) s j g) Q :=
  w_lCM c (rrow s j g).toLoadRect _ (S := S) ((le_of_eq (set_rrow s j g)).trans hS) q fm Q
theorem w_lpg (c : Dev nD) (s : Fin 3) (j : Fin 2) (q : PosShare TreeShare) (Q : Vec F S1x1x1024x1024 .bf16 → sProp (MM F)) :
    iprop(cmP c (cmSlot s) q fm ∗ (cmP c (cmSlot s) q fm -∗ Q (ppg s j fm))) ⊢ WP c (lpg (F := F) s j) Q :=
  w_lCM c _ _ (rpg_sub s j) q fm Q

theorem col_sub (s : Fin 3) (g : Fin 2) : cmCol s g ⊆ cmSlot s := by
  intro i hi
  exact Finset.mem_filter.mpr ⟨Finset.mem_univ _, (Finset.mem_filter.mp hi).2.1⟩

theorem w_proc1 (c : Dev nD) (qa qb : PosShare TreeShare) (Q : PUnit → sProp (MM F)) :
    iprop(wqP c Finset.univ qa wq ∗ woP c Finset.univ qb wo ∗ turnS fk fv c 0 fq fc fo
      ∗ ((wqP c Finset.univ qa wq ∗ woP c Finset.univ qb wo
          ∗ turnS fk fv c 0 (q1F x0 wq) (c1F fk fv (q1F x0 wq) fc) (o1F wo (c1F fk fv (q1F x0 wq) fc))) -∗ Q ⟨⟩)) ⊢ WP c (proc1P (F := F) x0) Q := by
  unfold proc1P turnS
  iintro ⟨Hwq, Hwo, ⟨Hq, Hk, Hv, Hb, Hc, Ho⟩, HQ⟩
  rw [w_bind]; iapply (w_lWQ c) $$ [$Hwq Hwo Hq Hk Hv Hb Hc Ho HQ]; iintro Hwq
  rw [w_bind]; iapply (w_lWO c) $$ [$Hwo Hwq Hq Hk Hv Hb Hc Ho HQ]; iintro Hwo
  rw [w_bind]; iapply (w_lQ c) $$ [$Hq Hwq Hwo Hk Hv Hb Hc Ho HQ]; iintro Hq
  rw [w_bind]; iapply (w_sQ c) $$ [$Hq Hwq Hwo Hk Hv Hb Hc Ho HQ]; iintro Hq
  rw [w_bind]; iapply (w_loop1 fk fv (q1F x0 wq) fc c) $$ [Hq Hwq Hwo Hk Hv Hb Hc Ho HQ]
  unfold held
  isplitl [Hq Hk Hv Hb Hc]
  · unfold q1F; iframe
  iintro ⟨Hq, Hk, Hv, Hb, Hc⟩
  rw [w_bind]; iapply (w_lC c) $$ [$Hc Hq Hwq Hwo Hk Hv Hb Ho HQ]; iintro Hc
  rw [w_bind]; iapply (w_lO c) $$ [$Ho Hc Hq Hwq Hwo Hk Hv Hb HQ]; iintro Ho
  iapply (w_sO c) $$ [$Ho Hc Hq Hwq Hwo Hk Hv Hb HQ]; iintro Ho
  iapply HQ
  unfold o1F
  iframe

theorem w_proc2 (c : Dev nD) (qa : PosShare TreeShare) (Q : PUnit → sProp (MM F)) :
    iprop(cmP c (cmCol 0 0) qa fm ∗ cmP c (cmRow 0 1 0) qa fm ∗ turnS fk fv c 1 fq fc fo
      ∗ ((cmP c (cmCol 0 0) qa fm ∗ cmP c (cmRow 0 1 0) qa fm
          ∗ turnS fk fv c 1 (q2F x0 fm fq) (c2F fk fv (q2F x0 fm fq) fc) (o2F fm (c2F fk fv (q2F x0 fm fq) fc) fo)) -∗ Q ⟨⟩)) ⊢ WP c (proc2P (F := F) x0) Q := by
  unfold proc2P turnS
  iintro ⟨Hwq, Hwo, ⟨Hq, Hk, Hv, Hb, Hc, Ho⟩, HQ⟩
  rw [w_bind]; iapply (w_lcol fm c 0 0 _ (Finset.Subset.refl _)) $$ [$Hwq Hwo Hq Hk Hv Hb Hc Ho HQ]; iintro Hwq
  rw [w_bind]; iapply (w_lrow fm c 0 1 0 _ (Finset.Subset.refl _)) $$ [$Hwo Hwq Hq Hk Hv Hb Hc Ho HQ]; iintro Hwo
  unfold lQ0 sQ0 lC0
  rw [w_bind]; iapply (w_lQB c) $$ [$Hq Hwq Hwo Hk Hv Hb Hc Ho HQ]; iintro Hq
  rw [w_bind]; iapply (w_sQB c) $$ [$Hq Hwq Hwo Hk Hv Hb Hc Ho HQ]; iintro Hq
  rw [w_bind]; iapply (w_loop2 fk fv (q2F x0 fm fq) fc c) $$ [Hq Hwq Hwo Hk Hv Hb Hc Ho HQ]
  unfold held
  isplitl [Hq Hk Hv Hb Hc]
  · unfold q2F; iframe
  iintro ⟨Hq, Hk, Hv, Hb, Hc⟩
  rw [w_bind]; iapply (w_lCX c) $$ [$Hc Hq Hwq Hwo Hk Hv Hb Ho HQ]; iintro Hc
  rw [w_bind]; iapply (w_lO c) $$ [$Ho Hc Hq Hwq Hwo Hk Hv Hb HQ]; iintro Ho
  rw [w_bind]; iapply (w_lO c) $$ [$Ho Hc Hq Hwq Hwo Hk Hv Hb HQ]; iintro Ho
  iapply (w_sO c) $$ [$Ho Hc Hq Hwq Hwo Hk Hv Hb HQ]; iintro Ho
  iapply HQ
  unfold o2F chalf0
  iframe

theorem w_proc3 (c : Dev nD) (qa : PosShare TreeShare) (Q : PUnit → sProp (MM F)) :
    iprop(cmP c (cmSlot 0) qa fm ∗ turnS fk fv c 1 fq fc fo
      ∗ ((cmP c (cmSlot 0) qa fm
          ∗ turnS fk fv c 1 (q3F x0 fm fq) (c3F fk fv (q3F x0 fm fq) fc) (o3F fm (c3F fk fv (q3F x0 fm fq) fc) fo)) -∗ Q ⟨⟩)) ⊢ WP c (proc3P (F := F) x0) Q := by
  unfold proc3P turnS
  iintro ⟨Hw, ⟨Hq, Hk, Hv, Hb, Hc, Ho⟩, HQ⟩
  rw [w_bind]; iapply (w_lcol fm c 0 1 _ (col_sub _ _)) $$ [$Hw Hq Hk Hv Hb Hc Ho HQ]; iintro Hw
  rw [w_bind]; iapply (w_lrow fm c 0 1 1 _ (row_sub _ _ _)) $$ [$Hw Hq Hk Hv Hb Hc Ho HQ]; iintro Hw
  unfold lQ1 sQ1 lC1
  rw [w_bind]; iapply (w_lQB c) $$ [$Hq Hw Hk Hv Hb Hc Ho HQ]; iintro Hq
  rw [w_bind]; iapply (w_sQB c) $$ [$Hq Hw Hk Hv Hb Hc Ho HQ]; iintro Hq
  rw [w_bind]; iapply (w_loop3 fk fv (q3F x0 fm fq) fc c) $$ [Hq Hw Hk Hv Hb Hc Ho HQ]
  unfold held
  isplitl [Hq Hk Hv Hb Hc]
  · unfold q3F; iframe
  iintro ⟨Hq, Hk, Hv, Hb, Hc⟩
  rw [w_bind]; iapply (w_lCX c) $$ [$Hc Hq Hw Hk Hv Hb Ho HQ]; iintro Hc
  rw [w_bind]; iapply (w_lO c) $$ [$Ho Hc Hq Hw Hk Hv Hb HQ]; iintro Ho
  rw [w_bind]; iapply (w_lO c) $$ [$Ho Hc Hq Hw Hk Hv Hb HQ]; iintro Ho
  iapply (w_sO c) $$ [$Ho Hc Hq Hw Hk Hv Hb HQ]; iintro Ho
  iapply HQ
  unfold o3F chalf1
  iframe

theorem w_proc4 (c : Dev nD) (qa : PosShare TreeShare) (Q : PUnit → sProp (MM F)) :
    iprop(cmP c (cmSlot 1) qa fm ∗ turnS fk fv c 0 fq fc fo
      ∗ ((cmP c (cmSlot 1) qa fm
          ∗ turnS fk fv c 0 (q4F x0 fm) (c4F fk fv (q4F x0 fm) fc) (o4F fm (c4F fk fv (q4F x0 fm) fc) fo)) -∗ Q ⟨⟩)) ⊢ WP c (proc4P (F := F) x0) Q := by
  unfold proc4P turnS
  iintro ⟨Hw, ⟨Hq, Hk, Hv, Hb, Hc, Ho⟩, HQ⟩
  rw [w_bind]; iapply (w_lpg fm c 1 0) $$ [$Hw Hq Hk Hv Hb Hc Ho HQ]; iintro Hw
  rw [w_bind]; iapply (w_lpg fm c 1 1) $$ [$Hw Hq Hk Hv Hb Hc Ho HQ]; iintro Hw
  rw [w_bind]; iapply (w_lQ c) $$ [$Hq Hw Hk Hv Hb Hc Ho HQ]; iintro Hq
  rw [w_bind]; iapply (w_sQ c) $$ [$Hq Hw Hk Hv Hb Hc Ho HQ]; iintro Hq
  rw [w_bind]; iapply (w_loop4 fk fv (q4F x0 fm) fc c) $$ [Hq Hw Hk Hv Hb Hc Ho HQ]
  unfold held
  isplitl [Hq Hk Hv Hb Hc]
  · unfold q4F; iframe
  iintro ⟨Hq, Hk, Hv, Hb, Hc⟩
  rw [w_bind]; iapply (w_lC c) $$ [$Hc Hq Hw Hk Hv Hb Ho HQ]; iintro Hc
  rw [w_bind]; iapply (w_lO c) $$ [$Ho Hc Hq Hw Hk Hv Hb HQ]; iintro Ho
  rw [w_bind]; iapply (w_lO c) $$ [$Ho Hc Hq Hw Hk Hv Hb HQ]; iintro Ho
  iapply (w_sO c) $$ [$Ho Hc Hq Hw Hk Hv Hb HQ]; iintro Ho
  iapply HQ
  unfold o4F
  iframe

theorem w_proc5 (c : Dev nD) (qa : PosShare TreeShare) (Q : PUnit → sProp (MM F)) :
    iprop(cmP c (cmSlot 2) qa fm ∗ turnS fk fv c 1 fq fc fo
      ∗ ((cmP c (cmSlot 2) qa fm
          ∗ turnS fk fv c 1 (q5F x0 fm) (c5F fk fv (q5F x0 fm) fc) (o5F fm (c5F fk fv (q5F x0 fm) fc) fo)) -∗ Q ⟨⟩)) ⊢ WP c (proc5P (F := F) x0) Q := by
  unfold proc5P turnS
  iintro ⟨Hw, ⟨Hq, Hk, Hv, Hb, Hc, Ho⟩, HQ⟩
  rw [w_bind]; iapply (w_lpg fm c 2 0) $$ [$Hw Hq Hk Hv Hb Hc Ho HQ]; iintro Hw
  rw [w_bind]; iapply (w_lpg fm c 2 1) $$ [$Hw Hq Hk Hv Hb Hc Ho HQ]; iintro Hw
  rw [w_bind]; iapply (w_lQ c) $$ [$Hq Hw Hk Hv Hb Hc Ho HQ]; iintro Hq
  rw [w_bind]; iapply (w_sQ c) $$ [$Hq Hw Hk Hv Hb Hc Ho HQ]; iintro Hq
  rw [w_bind]; iapply (w_loop5 fk fv (q5F x0 fm) fc c) $$ [Hq Hw Hk Hv Hb Hc Ho HQ]
  unfold held
  isplitl [Hq Hk Hv Hb Hc]
  · unfold q5F; iframe
  iintro ⟨Hq, Hk, Hv, Hb, Hc⟩
  rw [w_bind]; iapply (w_lC c) $$ [$Hc Hq Hw Hk Hv Hb Ho HQ]; iintro Hc
  rw [w_bind]; iapply (w_lO c) $$ [$Ho Hc Hq Hw Hk Hv Hb HQ]; iintro Ho
  rw [w_bind]; iapply (w_lO c) $$ [$Ho Hc Hq Hw Hk Hv Hb HQ]; iintro Ho
  iapply (w_sO c) $$ [$Ho Hc Hq Hw Hk Hv Hb HQ]; iintro Ho
  iapply HQ
  unfold o5F
  iframe

theorem w_mask (c : Dev nD) (fb : Vec F S1024x1024 .bf16) (Q : Vec F S1x1024x1024 .f32 → sProp (MM F)) :
    iprop(biP c fb ∗ xP c x0 ∗ ((biP c biasV ∗ xP c x0) -∗ Q x0)) ⊢ WP c (maskP (F := F)) Q := by
  unfold maskP
  iintro ⟨Hb, Hx, HQ⟩
  rw [w_bind]; iapply (w_lBI c) $$ [$Hb Hx HQ]; iintro Hb
  rw [w_bind]; iapply (w_sBI c) $$ [$Hb Hx HQ]; iintro Hb
  iapply (w_lX c) $$ [$Hx Hb HQ]; iintro Hx
  iapply HQ; iframe

end Cert.KernelIdeal.Body
-- ==== Proof.Exchange.lean ====
module

public import proofs.«01_k».proof.Proof.Turns

@[expose] public section

set_option maxRecDepth 16384

/-!
# The exchange of the weights

The twelve copies one by one, and the stages that start them and wait for them.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

/-- What device `c` still owes, whatever it has waited for. -/
def ow (c : Dev nD) (l : List (Fin 12)) : sProp (MM F) := iprop(∃ W, owes (c : Thread nD τ) (owL c l) W)
/-- What copy `k` starts from. -/
def sk (c : Dev nD) (k : Fin 12) : sProp (MM F) := iprop(sendRt c k ∗ sendPay I c k ∗ lend (dstD c k) k)
/-- Copy `k` is on its way. -/
def ck (c : Dev nD) (k : Fin 12) : sProp (MM F) := cred (tallyAt (snd c k) () NC)
/-- What the wait for an arrival starts from, and where the cell stands after it. -/
def rk (c : Dev nD) (k : Fin 12) : sProp (MM F) := iprop(cred (tallyAt (rcv c k) () NC) ∗ atPos ER (rcv c k) 0 ∅ 0)
def rz (c : Dev nD) (k : Fin 12) : sProp (MM F) := atPos ER (rcv c k) 1 ∅ 0
/-- The same for a departure. -/
def s0 (c : Dev nD) (k : Fin 12) : sProp (MM F) := atPos ER (snd c k) 0 ∅ 0
def sz (c : Dev nD) (k : Fin 12) : sProp (MM F) := atPos ER (snd c k) 1 ∅ 0

section One
variable (κ : GSem nD τ sig → ℕ) (c : Dev nD) (k : Fin 12) (l : List (Fin 12)) (Q : PUnit → sProp (MM F))

theorem col_pt (e : Dev nD) (s : Fin 3) (g : Fin 2) (f : Vec F S3x2x1024x1024 .bf16) :
    (((colW s g).view.loc (e : Thread nD τ) ↦[(colW s g).view.set]{fullShare} f) : sProp (MM F)) = cmP e (cmCol s g) fullShare f :=
  congrArg (fun S : Finset S3x2x1024x1024.Idx => (CM.view.loc (e : Thread nD τ) ↦[S]{fullShare} f : sProp (MM F))) (set_colW s g)
theorem row_pt (e : Dev nD) (s : Fin 3) (j g : Fin 2) (q : PosShare TreeShare) (f : Vec F S3x2x1024x1024 .bf16) :
    (((rowW s j g).view.loc (e : Thread nD τ) ↦[(rowW s j g).view.set]{q} f) : sProp (MM F)) = cmP e (cmRow s j g) q f :=
  congrArg (fun S : Finset S3x2x1024x1024.Idx => (CM.view.loc (e : Thread nD τ) ↦[S]{q} f : sProp (MM F))) (set_rowW s j g)
theorem wq_pt (g : Fin 2) (q : PosShare TreeShare) (f : Vec F S1024x1024 .bf16) :
    (((wqW g).view.loc (c : Thread nD τ) ↦[(wqW g).view.set]{q} f) : sProp (MM F)) = wqP c (cqSet g) q f :=
  congrArg (fun S : Finset S1024x1024.Idx => (WQ.view.loc (c : Thread nD τ) ↦[S]{q} f : sProp (MM F))) (set_wqW g)
theorem wo_pt (g : Fin 2) (q : PosShare TreeShare) (f : Vec F S1024x1024 .bf16) :
    (((woW g).view.loc (c : Thread nD τ) ↦[(woW g).view.set]{q} f) : sProp (MM F)) = woP c (roSet g) q f :=
  congrArg (fun S : Finset S1024x1024.Idx => (WO.view.loc (c : Thread nD τ) ↦[S]{q} f : sProp (MM F))) (set_woW g)

theorem w_cq (s : Fin 3) (g : Fin 2) (sh : PosShare TreeShare) (hp : sendPay I c k = wqP c (cqSet g) sh (I.wq c)) (hw : win k = cmCol s g) (hwho : whose (dstD c k) s = c)
    (d : Dev nD) (hd : d = dstD c k) (h₁ : (wqW g).view.WordExact) (h₂ : (colW s g).view.WordExact) :
    iprop(recs I κ ∗ sk I c k ∗ ow c (k :: l) ∗ ((ck c k ∗ ow c l) -∗ Q ⟨⟩)) ⊢ WP c (sendOp d (wqW g) (colW s g) k h₁ h₂) Q := by
  subst hd
  unfold sk ow ck
  iintro ⟨#HR, ⟨Ht, Hp, Hl⟩, ⟨%W, HO⟩, HQ⟩
  iapply (w_send I κ c k (wqW g) (colW s g) h₁ h₂ (NC_col s g) sh (I.wq c) (hp.trans (wq_pt c g sh (I.wq c)).symm)
    (fun fd => by
      rw [hw]
      iintro H; iexists fd
      iapply (Entails.of_eq (col_pt (dstD c k) s g fd).symm) $$ H)
    (fun fd => by
      have h := land_cq I s g (dstD c k) fd
      rw [hwho] at h
      unfold recvPay
      rw [hw]
      exact (Entails.of_eq (pointsTo_congr h)).trans (Entails.of_eq (col_pt (dstD c k) s g (cmC I (dstD c k)))))
    l W Q) $$ [$HR $Ht $Hp $Hl $HO HQ]
  iintro ⟨Hc, HO⟩
  iapply HQ
  isplitl [Hc]; · iexact Hc
  iexists _; iexact HO

theorem w_ro (s : Fin 3) (g : Fin 2) (sh : PosShare TreeShare) (hp : sendPay I c k = woP c (roSet g) sh (I.wo c)) (hw : win k = cmRow s 1 g) (hwho : whose (dstD c k) s = c)
    (d : Dev nD) (hd : d = dstD c k) (h₁ : (woW g).view.WordExact) (h₂ : (rowW s 1 g).view.WordExact) :
    iprop(recs I κ ∗ sk I c k ∗ ow c (k :: l) ∗ ((ck c k ∗ ow c l) -∗ Q ⟨⟩)) ⊢ WP c (sendOp d (woW g) (rowW s 1 g) k h₁ h₂) Q := by
  subst hd
  unfold sk ow ck
  iintro ⟨#HR, ⟨Ht, Hp, Hl⟩, ⟨%W, HO⟩, HQ⟩
  iapply (w_send I κ c k (woW g) (rowW s 1 g) h₁ h₂ (NC_row s 1 g) sh (I.wo c) (hp.trans (wo_pt c g sh (I.wo c)).symm)
    (fun fd => by
      rw [hw]
      iintro H; iexists fd
      iapply (Entails.of_eq (row_pt (dstD c k) s 1 g fullShare fd).symm) $$ H)
    (fun fd => by
      have h := land_ro I s g (dstD c k) fd
      rw [hwho] at h
      unfold recvPay
      rw [hw]
      exact (Entails.of_eq (pointsTo_congr h)).trans (Entails.of_eq (row_pt (dstD c k) s 1 g fullShare (cmC I (dstD c k)))))
    l W Q) $$ [$HR $Ht $Hp $Hl $HO HQ]
  iintro ⟨Hc, HO⟩
  iapply HQ
  isplitl [Hc]; · iexact Hc
  iexists _; iexact HO

theorem w_fw (s s' : Fin 3) (j g : Fin 2) (hp : sendPay I c k = cmP c (cmRow s j g) fullShare.right (cmC I c)) (hw : win k = cmRow s' j g)
    (hwho : whose c s = whose (dstD c k) s')
    (d : Dev nD) (hd : d = dstD c k) (h₁ : (rowW s j g).view.WordExact) (h₂ : (rowW s' j g).view.WordExact) :
    iprop(recs I κ ∗ sk I c k ∗ ow c (k :: l) ∗ ((ck c k ∗ ow c l) -∗ Q ⟨⟩)) ⊢ WP c (sendOp d (rowW s j g) (rowW s' j g) k h₁ h₂) Q := by
  subst hd
  unfold sk ow ck
  iintro ⟨#HR, ⟨Ht, Hp, Hl⟩, ⟨%W, HO⟩, HQ⟩
  iapply (w_send I κ c k (rowW s j g) (rowW s' j g) h₁ h₂ (NC_row s' j g) fullShare.right (cmC I c) (hp.trans (row_pt c s j g fullShare.right (cmC I c)).symm)
    (fun fd => by
      rw [hw]
      iintro H; iexists fd
      iapply (Entails.of_eq (row_pt (dstD c k) s' j g fullShare fd).symm) $$ H)
    (fun fd => by
      have h := land_fw I s s' j g c (dstD c k) hwho fd
      unfold recvPay
      rw [hw]
      exact (Entails.of_eq (pointsTo_congr h)).trans (Entails.of_eq (row_pt (dstD c k) s' j g fullShare (cmC I (dstD c k)))))
    l W Q) $$ [$HR $Ht $Hp $Hl $HO HQ]
  iintro ⟨Hc, HO⟩
  iapply HQ
  isplitl [Hc]; · iexact Hc
  iexists _; iexact HO

theorem w_rcv {s : Shape} (src dst : Memref sig .tc .vmem s .bf16) (h₁ : src.view.WordExact) (h₂ : dst.view.WordExact) (hN : dst.view.dmaCredit = NC)
    (hl : ∀ k' ∈ l, lvR (.rcv k) < lvR (.rcv k')) :
    iprop(recs I κ ∗ rk c k ∗ ow c l ∗ ((recvPay I c k ∗ rz c k ∗ ow c l) -∗ Q ⟨⟩)) ⊢ WP c (recvOp src dst k h₁ h₂) Q := by
  unfold rk ow rz
  iintro ⟨#HR, ⟨Hc, Ha⟩, ⟨%W, HO⟩, HQ⟩
  iapply (w_recv I κ c k src dst h₁ h₂ hN l hl W Q) $$ [$HR $Hc $Ha $HO HQ]
  iintro ⟨Hp, Ha, HO⟩
  iapply HQ
  isplitl [Hp]; · iexact Hp
  isplitl [Ha]; · iexact Ha
  iexists _; iexact HO

theorem w_snt {s : Shape} (src dst : Memref sig .tc .vmem s .bf16) (h₁ : src.view.WordExact) (h₂ : dst.view.WordExact) (hN : src.view.dmaCredit = NC) :
    iprop(recs I κ ∗ ck c k ∗ s0 c k ∗ ow c l ∗ ((sendPay I c k ∗ sz c k ∗ ow c l) -∗ Q ⟨⟩)) ⊢ WP c (sentOp src dst k h₁ h₂) Q := by
  unfold ck s0 ow sz
  iintro ⟨#HR, Hc, Ha, ⟨%W, HO⟩, HQ⟩
  iapply (w_sent I κ c k src dst h₁ h₂ hN l W Q) $$ [$HR $Hc $Ha $HO HQ]
  iintro ⟨Hp, Ha, HO⟩
  iapply HQ
  isplitl [Hp]; · iexact Hp
  isplitl [Ha]; · iexact Ha
  iexists _; iexact HO

end One

theorem NC_wq (g : Fin 2) : (wqW g).view.dmaCredit = NC := by unfold NC; rfl
theorem NC_wo (g : Fin 2) : (woW g).view.dmaCredit = NC := by unfold NC; rfl
theorem who_rg (c : Dev nD) : whose (rg c) 0 = c := lf_rg c
theorem who_lf (c : Dev nD) : whose (lf c) 1 = c := rg_lf c
theorem who_fr (c : Dev nD) : whose c 0 = whose (rg c) 2 := (op_rg c).symm
theorem who_fl (c : Dev nD) : whose c 1 = whose (lf c) 2 := (op_lf c).symm

section Each
variable (κ : GSem nD τ sig → ℕ) (c : Dev nD) (l : List (Fin 12)) (Q : PUnit → sProp (MM F))

theorem w_send0 : iprop(recs I κ ∗ sk I c 0 ∗ ow c (0 :: l) ∗ ((ck c 0 ∗ ow c l) -∗ Q ⟨⟩)) ⊢ WP c (send0 (F := F) c) Q :=
  w_cq I κ c 0 l Q 0 0 (Ring.shares3 fullShare 0) rfl rfl (who_rg c) _ (Fin.ext (k0_dev3_eq c)) _ _
theorem w_send1 : iprop(recs I κ ∗ sk I c 1 ∗ ow c (1 :: l) ∗ ((ck c 1 ∗ ow c l) -∗ Q ⟨⟩)) ⊢ WP c (send1 (F := F) c) Q :=
  w_ro I κ c 1 l Q 0 0 (Ring.shares3 fullShare 0) rfl rfl (who_rg c) _ (Fin.ext (k0_dev4_eq c)) _ _
theorem w_send2 : iprop(recs I κ ∗ sk I c 2 ∗ ow c (2 :: l) ∗ ((ck c 2 ∗ ow c l) -∗ Q ⟨⟩)) ⊢ WP c (send2 (F := F) c) Q :=
  w_cq I κ c 2 l Q 0 1 (Ring.shares3 fullShare 0) rfl rfl (who_rg c) _ (Fin.ext (k0_dev5_eq c)) _ _
theorem w_send3 : iprop(recs I κ ∗ sk I c 3 ∗ ow c (3 :: l) ∗ ((ck c 3 ∗ ow c l) -∗ Q ⟨⟩)) ⊢ WP c (send3 (F := F) c) Q :=
  w_ro I κ c 3 l Q 0 1 (Ring.shares3 fullShare 0) rfl rfl (who_rg c) _ (Fin.ext (k0_dev6_eq c)) _ _
theorem w_send4 : iprop(recs I κ ∗ sk I c 4 ∗ ow c (4 :: l) ∗ ((ck c 4 ∗ ow c l) -∗ Q ⟨⟩)) ⊢ WP c (send4 (F := F) c) Q :=
  w_cq I κ c 4 l Q 1 0 (Ring.shares3 fullShare 1) rfl rfl (who_lf c) _ (Fin.ext (k0_dev7_eq c)) _ _
theorem w_send5 : iprop(recs I κ ∗ sk I c 5 ∗ ow c (5 :: l) ∗ ((ck c 5 ∗ ow c l) -∗ Q ⟨⟩)) ⊢ WP c (send5 (F := F) c) Q :=
  w_ro I κ c 5 l Q 1 0 (Ring.shares3 fullShare 1) rfl rfl (who_lf c) _ (Fin.ext (k0_dev8_eq c)) _ _
theorem w_send6 : iprop(recs I κ ∗ sk I c 6 ∗ ow c (6 :: l) ∗ ((ck c 6 ∗ ow c l) -∗ Q ⟨⟩)) ⊢ WP c (send6 (F := F) c) Q :=
  w_cq I κ c 6 l Q 1 1 (Ring.shares3 fullShare 1) rfl rfl (who_lf c) _ (Fin.ext (k0_dev9_eq c)) _ _
theorem w_send7 : iprop(recs I κ ∗ sk I c 7 ∗ ow c (7 :: l) ∗ ((ck c 7 ∗ ow c l) -∗ Q ⟨⟩)) ⊢ WP c (send7 (F := F) c) Q :=
  w_ro I κ c 7 l Q 1 1 (Ring.shares3 fullShare 1) rfl rfl (who_lf c) _ (Fin.ext (k0_dev10_eq c)) _ _
theorem w_send8 : iprop(recs I κ ∗ sk I c 8 ∗ ow c (8 :: l) ∗ ((ck c 8 ∗ ow c l) -∗ Q ⟨⟩)) ⊢ WP c (send8 (F := F) c) Q :=
  w_fw I κ c 8 l Q 0 2 0 0 rfl rfl (who_fr c) _ (Fin.ext (k0_dev11_eq c)) _ _
theorem w_send9 : iprop(recs I κ ∗ sk I c 9 ∗ ow c (9 :: l) ∗ ((ck c 9 ∗ ow c l) -∗ Q ⟨⟩)) ⊢ WP c (send9 (F := F) c) Q :=
  w_fw I κ c 9 l Q 0 2 1 0 rfl rfl (who_fr c) _ (Fin.ext (k0_dev12_eq c)) _ _
theorem w_send10 : iprop(recs I κ ∗ sk I c 10 ∗ ow c (10 :: l) ∗ ((ck c 10 ∗ ow c l) -∗ Q ⟨⟩)) ⊢ WP c (send10 (F := F) c) Q :=
  w_fw I κ c 10 l Q 1 2 0 1 rfl rfl (who_fl c) _ (Fin.ext (k0_dev13_eq c)) _ _
theorem w_send11 : iprop(recs I κ ∗ sk I c 11 ∗ ow c (11 :: l) ∗ ((ck c 11 ∗ ow c l) -∗ Q ⟨⟩)) ⊢ WP c (send11 (F := F) c) Q :=
  w_fw I κ c 11 l Q 1 2 1 1 rfl rfl (who_fl c) _ (Fin.ext (k0_dev14_eq c)) _ _
theorem w_recv0 (hl : ∀ k' ∈ l, lvR (.rcv 0) < lvR (.rcv k')) : iprop(recs I κ ∗ rk c 0 ∗ ow c l ∗ ((recvPay I c 0 ∗ rz c 0 ∗ ow c l) -∗ Q ⟨⟩)) ⊢ WP c (recv0 (F := F)) Q :=
  w_rcv I κ c 0 l Q _ _ _ _ (NC_col 0 0) hl
theorem w_sent0 : iprop(recs I κ ∗ ck c 0 ∗ s0 c 0 ∗ ow c l ∗ ((sendPay I c 0 ∗ sz c 0 ∗ ow c l) -∗ Q ⟨⟩)) ⊢ WP c (sent0 (F := F)) Q :=
  w_snt I κ c 0 l Q _ _ _ _ (NC_wq 0)
theorem w_recv1 (hl : ∀ k' ∈ l, lvR (.rcv 1) < lvR (.rcv k')) : iprop(recs I κ ∗ rk c 1 ∗ ow c l ∗ ((recvPay I c 1 ∗ rz c 1 ∗ ow c l) -∗ Q ⟨⟩)) ⊢ WP c (recv1 (F := F)) Q :=
  w_rcv I κ c 1 l Q _ _ _ _ (NC_row 0 1 0) hl
theorem w_sent1 : iprop(recs I κ ∗ ck c 1 ∗ s0 c 1 ∗ ow c l ∗ ((sendPay I c 1 ∗ sz c 1 ∗ ow c l) -∗ Q ⟨⟩)) ⊢ WP c (sent1 (F := F)) Q :=
  w_snt I κ c 1 l Q _ _ _ _ (NC_wo 0)
theorem w_recv2 (hl : ∀ k' ∈ l, lvR (.rcv 2) < lvR (.rcv k')) : iprop(recs I κ ∗ rk c 2 ∗ ow c l ∗ ((recvPay I c 2 ∗ rz c 2 ∗ ow c l) -∗ Q ⟨⟩)) ⊢ WP c (recv2 (F := F)) Q :=
  w_rcv I κ c 2 l Q _ _ _ _ (NC_col 0 1) hl
theorem w_sent2 : iprop(recs I κ ∗ ck c 2 ∗ s0 c 2 ∗ ow c l ∗ ((sendPay I c 2 ∗ sz c 2 ∗ ow c l) -∗ Q ⟨⟩)) ⊢ WP c (sent2 (F := F)) Q :=
  w_snt I κ c 2 l Q _ _ _ _ (NC_wq 1)
theorem w_recv3 (hl : ∀ k' ∈ l, lvR (.rcv 3) < lvR (.rcv k')) : iprop(recs I κ ∗ rk c 3 ∗ ow c l ∗ ((recvPay I c 3 ∗ rz c 3 ∗ ow c l) -∗ Q ⟨⟩)) ⊢ WP c (recv3 (F := F)) Q :=
  w_rcv I κ c 3 l Q _ _ _ _ (NC_row 0 1 1) hl
theorem w_sent3 : iprop(recs I κ ∗ ck c 3 ∗ s0 c 3 ∗ ow c l ∗ ((sendPay I c 3 ∗ sz c 3 ∗ ow c l) -∗ Q ⟨⟩)) ⊢ WP c (sent3 (F := F)) Q :=
  w_snt I κ c 3 l Q _ _ _ _ (NC_wo 1)
theorem w_recv4 (hl : ∀ k' ∈ l, lvR (.rcv 4) < lvR (.rcv k')) : iprop(recs I κ ∗ rk c 4 ∗ ow c l ∗ ((recvPay I c 4 ∗ rz c 4 ∗ ow c l) -∗ Q ⟨⟩)) ⊢ WP c (recv4 (F := F)) Q :=
  w_rcv I κ c 4 l Q _ _ _ _ (NC_col 1 0) hl
theorem w_sent4 : iprop(recs I κ ∗ ck c 4 ∗ s0 c 4 ∗ ow c l ∗ ((sendPay I c 4 ∗ sz c 4 ∗ ow c l) -∗ Q ⟨⟩)) ⊢ WP c (sent4 (F := F)) Q :=
  w_snt I κ c 4 l Q _ _ _ _ (NC_wq 0)
theorem w_recv5 (hl : ∀ k' ∈ l, lvR (.rcv 5) < lvR (.rcv k')) : iprop(recs I κ ∗ rk c 5 ∗ ow c l ∗ ((recvPay I c 5 ∗ rz c 5 ∗ ow c l) -∗ Q ⟨⟩)) ⊢ WP c (recv5 (F := F)) Q :=
  w_rcv I κ c 5 l Q _ _ _ _ (NC_row 1 1 0) hl
theorem w_sent5 : iprop(recs I κ ∗ ck c 5 ∗ s0 c 5 ∗ ow c l ∗ ((sendPay I c 5 ∗ sz c 5 ∗ ow c l) -∗ Q ⟨⟩)) ⊢ WP c (sent5 (F := F)) Q :=
  w_snt I κ c 5 l Q _ _ _ _ (NC_wo 0)
theorem w_recv6 (hl : ∀ k' ∈ l, lvR (.rcv 6) < lvR (.rcv k')) : iprop(recs I κ ∗ rk c 6 ∗ ow c l ∗ ((recvPay I c 6 ∗ rz c 6 ∗ ow c l) -∗ Q ⟨⟩)) ⊢ WP c (recv6 (F := F)) Q :=
  w_rcv I κ c 6 l Q _ _ _ _ (NC_col 1 1) hl
theorem w_sent6 : iprop(recs I κ ∗ ck c 6 ∗ s0 c 6 ∗ ow c l ∗ ((sendPay I c 6 ∗ sz c 6 ∗ ow c l) -∗ Q ⟨⟩)) ⊢ WP c (sent6 (F := F)) Q :=
  w_snt I κ c 6 l Q _ _ _ _ (NC_wq 1)
theorem w_recv7 (hl : ∀ k' ∈ l, lvR (.rcv 7) < lvR (.rcv k')) : iprop(recs I κ ∗ rk c 7 ∗ ow c l ∗ ((recvPay I c 7 ∗ rz c 7 ∗ ow c l) -∗ Q ⟨⟩)) ⊢ WP c (recv7 (F := F)) Q :=
  w_rcv I κ c 7 l Q _ _ _ _ (NC_row 1 1 1) hl
theorem w_sent7 : iprop(recs I κ ∗ ck c 7 ∗ s0 c 7 ∗ ow c l ∗ ((sendPay I c 7 ∗ sz c 7 ∗ ow c l) -∗ Q ⟨⟩)) ⊢ WP c (sent7 (F := F)) Q :=
  w_snt I κ c 7 l Q _ _ _ _ (NC_wo 1)
theorem w_recv8 (hl : ∀ k' ∈ l, lvR (.rcv 8) < lvR (.rcv k')) : iprop(recs I κ ∗ rk c 8 ∗ ow c l ∗ ((recvPay I c 8 ∗ rz c 8 ∗ ow c l) -∗ Q ⟨⟩)) ⊢ WP c (recv8 (F := F)) Q :=
  w_rcv I κ c 8 l Q _ _ _ _ (NC_row 2 0 0) hl
theorem w_sent8 : iprop(recs I κ ∗ ck c 8 ∗ s0 c 8 ∗ ow c l ∗ ((sendPay I c 8 ∗ sz c 8 ∗ ow c l) -∗ Q ⟨⟩)) ⊢ WP c (sent8 (F := F)) Q :=
  w_snt I κ c 8 l Q _ _ _ _ (NC_row 0 0 0)
theorem w_recv9 (hl : ∀ k' ∈ l, lvR (.rcv 9) < lvR (.rcv k')) : iprop(recs I κ ∗ rk c 9 ∗ ow c l ∗ ((recvPay I c 9 ∗ rz c 9 ∗ ow c l) -∗ Q ⟨⟩)) ⊢ WP c (recv9 (F := F)) Q :=
  w_rcv I κ c 9 l Q _ _ _ _ (NC_row 2 1 0) hl
theorem w_sent9 : iprop(recs I κ ∗ ck c 9 ∗ s0 c 9 ∗ ow c l ∗ ((sendPay I c 9 ∗ sz c 9 ∗ ow c l) -∗ Q ⟨⟩)) ⊢ WP c (sent9 (F := F)) Q :=
  w_snt I κ c 9 l Q _ _ _ _ (NC_row 0 1 0)
theorem w_recv10 (hl : ∀ k' ∈ l, lvR (.rcv 10) < lvR (.rcv k')) : iprop(recs I κ ∗ rk c 10 ∗ ow c l ∗ ((recvPay I c 10 ∗ rz c 10 ∗ ow c l) -∗ Q ⟨⟩)) ⊢ WP c (recv10 (F := F)) Q :=
  w_rcv I κ c 10 l Q _ _ _ _ (NC_row 2 0 1) hl
theorem w_sent10 : iprop(recs I κ ∗ ck c 10 ∗ s0 c 10 ∗ ow c l ∗ ((sendPay I c 10 ∗ sz c 10 ∗ ow c l) -∗ Q ⟨⟩)) ⊢ WP c (sent10 (F := F)) Q :=
  w_snt I κ c 10 l Q _ _ _ _ (NC_row 1 0 1)
theorem w_recv11 (hl : ∀ k' ∈ l, lvR (.rcv 11) < lvR (.rcv k')) : iprop(recs I κ ∗ rk c 11 ∗ ow c l ∗ ((recvPay I c 11 ∗ rz c 11 ∗ ow c l) -∗ Q ⟨⟩)) ⊢ WP c (recv11 (F := F)) Q :=
  w_rcv I κ c 11 l Q _ _ _ _ (NC_row 2 1 1) hl
theorem w_sent11 : iprop(recs I κ ∗ ck c 11 ∗ s0 c 11 ∗ ow c l ∗ ((sendPay I c 11 ∗ sz c 11 ∗ ow c l) -∗ Q ⟨⟩)) ⊢ WP c (sent11 (F := F)) Q :=
  w_snt I κ c 11 l Q _ _ _ _ (NC_row 1 1 1)

/-- The first eight copies. -/
theorem w_sends : iprop(recs I κ ∗ sk I c 0 ∗ sk I c 1 ∗ sk I c 2 ∗ sk I c 3 ∗ sk I c 4 ∗ sk I c 5 ∗ sk I c 6 ∗ sk I c 7 ∗ ow c all12
      ∗ ((ck c 0 ∗ ck c 1 ∗ ck c 2 ∗ ck c 3 ∗ ck c 4 ∗ ck c 5 ∗ ck c 6 ∗ ck c 7 ∗ ow c [8, 9, 10, 11]) -∗ Q ⟨⟩)) ⊢ WP c (sendsP (F := F) c) Q := by
  unfold sendsP
  iintro ⟨#HR, H0, H1, H2, H3, H4, H5, H6, H7, HO, HQ⟩
  rw [w_bind]; iapply (w_send0 I κ c) $$ [$HR $H0 $HO H1 H2 H3 H4 H5 H6 H7 HQ]; iintro ⟨H0, HO⟩
  rw [w_bind]; iapply (w_send1 I κ c) $$ [$HR $H1 $HO H0 H2 H3 H4 H5 H6 H7 HQ]; iintro ⟨H1, HO⟩
  rw [w_bind]; iapply (w_send2 I κ c) $$ [$HR $H2 $HO H0 H1 H3 H4 H5 H6 H7 HQ]; iintro ⟨H2, HO⟩
  rw [w_bind]; iapply (w_send3 I κ c) $$ [$HR $H3 $HO H0 H1 H2 H4 H5 H6 H7 HQ]; iintro ⟨H3, HO⟩
  rw [w_bind]; iapply (w_send4 I κ c) $$ [$HR $H4 $HO H0 H1 H2 H3 H5 H6 H7 HQ]; iintro ⟨H4, HO⟩
  rw [w_bind]; iapply (w_send5 I κ c) $$ [$HR $H5 $HO H0 H1 H2 H3 H4 H6 H7 HQ]; iintro ⟨H5, HO⟩
  rw [w_bind]; iapply (w_send6 I κ c) $$ [$HR $H6 $HO H0 H1 H2 H3 H4 H5 H7 HQ]; iintro ⟨H6, HO⟩
  iapply (w_send7 I κ c) $$ [$HR $H7 $HO H0 H1 H2 H3 H4 H5 H6 HQ]; iintro ⟨H7, HO⟩
  iapply HQ; iframe

/-- The first eight arrivals but two, and the four halves passed on: what is kept of the two pages is handed over by `hs8` to `hs11`. -/
theorem w_relay_a (Q : PUnit → sProp (MM F)) (kk : PUnit → PR F PUnit) : iprop(recs I κ ∗ rk c 2 ∗ rk c 3 ∗ ow c [8, 9, 10, 11]
      ∗ ((recvPay I c 2 ∗ rz c 2 ∗ recvPay I c 3 ∗ rz c 3 ∗ ow c [8, 9, 10, 11]) -∗ WP c (kk ⟨⟩) Q)) ⊢ WP c (recv2 (F := F) >>= fun _ => recv3 (F := F) >>= kk) Q := by
  iintro ⟨#HR, H2, H3, HO, HQ⟩
  rw [w_bind]; iapply (w_recv2 I κ c _ _ (by decide)) $$ [$HR $H2 $HO H3 HQ]; iintro ⟨H2, Z2, HO⟩
  rw [w_bind]; iapply (w_recv3 I κ c _ _ (by decide)) $$ [$HR $H3 $HO H2 Z2 HQ]; iintro ⟨H3, Z3, HO⟩
  iapply HQ; iframe

theorem w_late : iprop(recs I κ ∗ rk c 8 ∗ rk c 9 ∗ rk c 10 ∗ rk c 11 ∗ ow c []
      ∗ ((recvPay I c 8 ∗ rz c 8 ∗ recvPay I c 9 ∗ rz c 9 ∗ recvPay I c 10 ∗ rz c 10 ∗ recvPay I c 11 ∗ rz c 11 ∗ ow c []) -∗ Q ⟨⟩)) ⊢ WP c (lateP (F := F)) Q := by
  unfold lateP
  iintro ⟨#HR, H8, H9, H10, H11, HO, HQ⟩
  rw [w_bind]; iapply (w_recv8 I κ c _ _ (by decide)) $$ [$HR $H8 $HO H9 H10 H11 HQ]; iintro ⟨H8, Z8, HO⟩
  rw [w_bind]; iapply (w_recv9 I κ c _ _ (by decide)) $$ [$HR $H9 $HO H8 Z8 H10 H11 HQ]; iintro ⟨H9, Z9, HO⟩
  rw [w_bind]; iapply (w_recv10 I κ c _ _ (by decide)) $$ [$HR $H10 $HO H8 Z8 H9 Z9 H11 HQ]; iintro ⟨H10, Z10, HO⟩
  iapply (w_recv11 I κ c _ _ (by decide)) $$ [$HR $H11 $HO H8 Z8 H9 Z9 H10 Z10 HQ]; iintro ⟨H11, Z11, HO⟩
  iapply HQ; iframe

theorem w_done : iprop(recs I κ ∗ ck c 0 ∗ s0 c 0 ∗ ck c 1 ∗ s0 c 1 ∗ ck c 2 ∗ s0 c 2 ∗ ck c 3 ∗ s0 c 3 ∗ ck c 4 ∗ s0 c 4 ∗ ck c 5 ∗ s0 c 5 ∗ ck c 6 ∗ s0 c 6 ∗ ck c 7 ∗ s0 c 7 ∗ ck c 8 ∗ s0 c 8 ∗ ck c 9 ∗ s0 c 9 ∗ ck c 10 ∗ s0 c 10 ∗ ck c 11 ∗ s0 c 11 ∗ ow c []
      ∗ ((sendPay I c 0 ∗ sz c 0 ∗ sendPay I c 1 ∗ sz c 1 ∗ sendPay I c 2 ∗ sz c 2 ∗ sendPay I c 3 ∗ sz c 3 ∗ sendPay I c 4 ∗ sz c 4 ∗ sendPay I c 5 ∗ sz c 5 ∗ sendPay I c 6 ∗ sz c 6 ∗ sendPay I c 7 ∗ sz c 7 ∗ sendPay I c 8 ∗ sz c 8 ∗ sendPay I c 9 ∗ sz c 9 ∗ sendPay I c 10 ∗ sz c 10 ∗ sendPay I c 11 ∗ sz c 11 ∗ ow c []) -∗ Q ⟨⟩)) ⊢ WP c (doneP (F := F) >>= fun _ => sent11 (F := F)) Q := by
  unfold doneP
  iintro ⟨#HR, C0, A0, C1, A1, C2, A2, C3, A3, C4, A4, C5, A5, C6, A6, C7, A7, C8, A8, C9, A9, C10, A10, C11, A11, HO, HQ⟩
  simp only [bind_assoc]
  rw [w_bind]; iapply (w_sent0 I κ c) $$ [$HR $C0 $A0 $HO C1 A1 C2 A2 C3 A3 C4 A4 C5 A5 C6 A6 C7 A7 C8 A8 C9 A9 C10 A10 C11 A11 HQ]; iintro ⟨P0, A0, HO⟩
  rw [w_bind]; iapply (w_sent1 I κ c) $$ [$HR $C1 $A1 $HO P0 A0 C2 A2 C3 A3 C4 A4 C5 A5 C6 A6 C7 A7 C8 A8 C9 A9 C10 A10 C11 A11 HQ]; iintro ⟨P1, A1, HO⟩
  rw [w_bind]; iapply (w_sent2 I κ c) $$ [$HR $C2 $A2 $HO P0 A0 P1 A1 C3 A3 C4 A4 C5 A5 C6 A6 C7 A7 C8 A8 C9 A9 C10 A10 C11 A11 HQ]; iintro ⟨P2, A2, HO⟩
  rw [w_bind]; iapply (w_sent3 I κ c) $$ [$HR $C3 $A3 $HO P0 A0 P1 A1 P2 A2 C4 A4 C5 A5 C6 A6 C7 A7 C8 A8 C9 A9 C10 A10 C11 A11 HQ]; iintro ⟨P3, A3, HO⟩
  rw [w_bind]; iapply (w_sent4 I κ c) $$ [$HR $C4 $A4 $HO P0 A0 P1 A1 P2 A2 P3 A3 C5 A5 C6 A6 C7 A7 C8 A8 C9 A9 C10 A10 C11 A11 HQ]; iintro ⟨P4, A4, HO⟩
  rw [w_bind]; iapply (w_sent5 I κ c) $$ [$HR $C5 $A5 $HO P0 A0 P1 A1 P2 A2 P3 A3 P4 A4 C6 A6 C7 A7 C8 A8 C9 A9 C10 A10 C11 A11 HQ]; iintro ⟨P5, A5, HO⟩
  rw [w_bind]; iapply (w_sent6 I κ c) $$ [$HR $C6 $A6 $HO P0 A0 P1 A1 P2 A2 P3 A3 P4 A4 P5 A5 C7 A7 C8 A8 C9 A9 C10 A10 C11 A11 HQ]; iintro ⟨P6, A6, HO⟩
  rw [w_bind]; iapply (w_sent7 I κ c) $$ [$HR $C7 $A7 $HO P0 A0 P1 A1 P2 A2 P3 A3 P4 A4 P5 A5 P6 A6 C8 A8 C9 A9 C10 A10 C11 A11 HQ]; iintro ⟨P7, A7, HO⟩
  rw [w_bind]; iapply (w_sent8 I κ c) $$ [$HR $C8 $A8 $HO P0 A0 P1 A1 P2 A2 P3 A3 P4 A4 P5 A5 P6 A6 P7 A7 C9 A9 C10 A10 C11 A11 HQ]; iintro ⟨P8, A8, HO⟩
  rw [w_bind]; iapply (w_sent9 I κ c) $$ [$HR $C9 $A9 $HO P0 A0 P1 A1 P2 A2 P3 A3 P4 A4 P5 A5 P6 A6 P7 A7 P8 A8 C10 A10 C11 A11 HQ]; iintro ⟨P9, A9, HO⟩
  rw [w_bind]; iapply (w_sent10 I κ c) $$ [$HR $C10 $A10 $HO P0 A0 P1 A1 P2 A2 P3 A3 P4 A4 P5 A5 P6 A6 P7 A7 P8 A8 P9 A9 C11 A11 HQ]; iintro ⟨P10, A10, HO⟩
  iapply (w_sent11 I κ c) $$ [$HR $C11 $A11 $HO P0 A0 P1 A1 P2 A2 P3 A3 P4 A4 P5 A5 P6 A6 P7 A7 P8 A8 P9 A9 P10 A10 HQ]; iintro ⟨P11, A11, HO⟩
  iapply HQ; iframe

end Each

end Cert.KernelIdeal.Body
-- ==== Proof.Cover.lean ====
module

public import proofs.«01_k».proof.Proof.Turns

@[expose] public section

set_option maxRecDepth 16384

/-!
# The context buffer, element by element

A loop's trips write disjoint columns: each element is the band's context it belongs to, or what it was.
-/

noncomputable section

namespace Cert.KernelIdeal.Body

open Idealize.ShloMosaic Idealize.ShloMosaic.ValueIdx Cert.KernelIdeal.Gen

variable {F : FTy → Type} [FloatOps F] [Named F] (I : Ins F)

theorem cxW_in {off : Fin 2 → ℕ} {inb : ∀ a, off a + S256x128.size a ≤ S1024x1024.size a} (f : Vec F S1024x1024 .bf16) (w : Vec F S256x128 .bf16)
    (i : S1024x1024.Idx) (j : S256x128.Idx) (h0 : (i 0).val = off 0 + (j 0).val) (h1 : (i 1).val = off 1 + (j 1).val) :
    cxW (Rect.unit (s := S1024x1024) off S256x128.size inb) f w i = w j := by
  have hi : i = (CX.access (Rect.unit (s := S1024x1024) off S256x128.size inb) : View sig .tc _ _ _).emb j := by
    funext a
    refine Fin.ext ?_
    fin_cases a
    · show (i 0).val = off 0 + 1 * (j 0).val; omega
    · show (i 1).val = off 1 + 1 * (j 1).val; omega
  rw [hi]
  exact View.write_emb_of_mem (v := (CX.access (Rect.unit (s := S1024x1024) off S256x128.size inb) : View sig .tc _ _ _)) f w (Finset.mem_univ j)

theorem cxW_out {off : Fin 2 → ℕ} {inb : ∀ a, off a + S256x128.size a ≤ S1024x1024.size a} (f : Vec F S1024x1024 .bf16) (w : Vec F S256x128 .bf16)
    (i : S1024x1024.Idx) (h : ¬ ((off 0 ≤ (i 0).val ∧ (i 0).val < off 0 + 256) ∧ (off 1 ≤ (i 1).val ∧ (i 1).val < off 1 + 128))) :
    cxW (Rect.unit (s := S1024x1024) off S256x128.size inb) f w i = f i := by
  refine View.write_of_not_mem (v := (CX.access (Rect.unit (s := S1024x1024) off S256x128.size inb) : View sig .tc _ _ _)) f w Finset.univ fun hi => h ?_
  obtain ⟨j, -, e⟩ := Finset.mem_map.mp hi
  have e0 : (i 0).val = off 0 + 1 * (j 0).val := by rw [← e]; rfl
  have e1 : (i 1).val = off 1 + 1 * (j 1).val := by rw [← e]; rfl
  have l0 : (j 0).val < 256 := (j 0).isLt
  have l1 : (j 1).val < 128 := (j 1).isLt
  omega

variable (fq : Vec F S1024x1024 .bf16) (fk fv : Vec F S2x8x1024x128 .f32) (fb : Vec F S1024x1024 .bf16)

/-- The context of band `b`. -/
def tbAt (o : Trip) (b : ℕ) : Vec F S256x128 .bf16 :=
  if b = 0 then tb0 fq fk fv fb o else if b = 1 then tb1 fq fk fv fb o else if b = 2 then tb2 fq fk fv fb o else tb3 fq fk fv fb o

/-- A trip over the 128 columns from `C`. -/
structure Trip.At (o : Trip) (C : ℕ) : Prop where
  a0 : o.q0 = ![0, C]
  a1 : o.q1 = ![256, C]
  a2 : o.q2 = ![512, C]
  a3 : o.q3 = ![768, C]

theorem tripW_in {o : Trip} {C : ℕ} (h : o.At C) (f : Vec F S1024x1024 .bf16) (i : S1024x1024.Idx) (j : S256x128.Idx) (b : ℕ) (hb : b < 4)
    (h0 : (i 0).val = 256 * b + (j 0).val) (h1 : (i 1).val = C + (j 1).val) : tripW fq fk fv fb o f i = tbAt fq fk fv fb o b j := by
  obtain ⟨a0, a1, a2, a3⟩ := h
  have l0 : (j 0).val < 256 := (j 0).isLt
  have l1 : (j 1).val < 128 := (j 1).isLt
  have q00 : o.q0 0 = 0 := by rw [a0]; rfl
  have q10 : o.q1 0 = 256 := by rw [a1]; rfl
  have q20 : o.q2 0 = 512 := by rw [a2]; rfl
  have q30 : o.q3 0 = 768 := by rw [a3]; rfl
  have q01 : o.q0 1 = C := by rw [a0]; rfl
  have q11 : o.q1 1 = C := by rw [a1]; rfl
  have q21 : o.q2 1 = C := by rw [a2]; rfl
  have q31 : o.q3 1 = C := by rw [a3]; rfl
  unfold tripW tw3 tw2 tw1 tw0 tbAt
  obtain rfl | rfl | rfl | rfl : b = 0 ∨ b = 1 ∨ b = 2 ∨ b = 3 := by omega
  · rw [cxW_out _ _ i (by omega), cxW_out _ _ i (by omega), cxW_out _ _ i (by omega), cxW_in _ _ i j (by omega) (by omega)]; rfl
  · rw [cxW_out _ _ i (by omega), cxW_out _ _ i (by omega), cxW_in _ _ i j (by omega) (by omega)]; rfl
  · rw [cxW_out _ _ i (by omega), cxW_in _ _ i j (by omega) (by omega)]; rfl
  · rw [cxW_in _ _ i j (by omega) (by omega)]; rfl

theorem tripW_out {o : Trip} {C : ℕ} (h : o.At C) (f : Vec F S1024x1024 .bf16) (i : S1024x1024.Idx)
    (h1 : ¬ (C ≤ (i 1).val ∧ (i 1).val < C + 128)) : tripW fq fk fv fb o f i = f i := by
  obtain ⟨a0, a1, a2, a3⟩ := h
  have q01 : o.q0 1 = C := by rw [a0]; rfl
  have q11 : o.q1 1 = C := by rw [a1]; rfl
  have q21 : o.q2 1 = C := by rw [a2]; rfl
  have q31 : o.q3 1 = C := by rw [a3]; rfl
  unfold tripW tw3 tw2 tw1 tw0
  rw [cxW_out _ _ i (by omega), cxW_out _ _ i (by omega), cxW_out _ _ i (by omega), cxW_out _ _ i (by omega)]

theorem loopW_out {n : ℕ} (tr : Fin n → Trip) {cb : ℕ} (hA : ∀ t, (tr t).At (cb + 128 * t.val)) (f : Vec F S1024x1024 .bf16) (i : S1024x1024.Idx) :
    ∀ k, k ≤ n → ¬ (cb ≤ (i 1).val ∧ (i 1).val < cb + 128 * k) → loopW fq fk fv fb tr f k i = f i
  | 0, _, _ => rfl
  | k + 1, hk, h => by
    rw [loopW_succ fq fk fv fb tr f ⟨k, hk⟩, tripW_out fq fk fv fb (hA ⟨k, hk⟩) _ i (by show ¬ (cb + 128 * k ≤ _ ∧ _ < cb + 128 * k + 128); omega)]
    exact loopW_out tr hA f i k (by omega) (by omega)

theorem loopW_in {n : ℕ} (tr : Fin n → Trip) {cb : ℕ} (hA : ∀ t, (tr t).At (cb + 128 * t.val)) (f : Vec F S1024x1024 .bf16) (i : S1024x1024.Idx) (j : S256x128.Idx)
    (b : ℕ) (hb : b < 4) (t : Fin n) (h0 : (i 0).val = 256 * b + (j 0).val) (h1 : (i 1).val = cb + 128 * t.val + (j 1).val) :
    ∀ k, k ≤ n → t.val < k → loopW fq fk fv fb tr f k i = tbAt fq fk fv fb (tr t) b j
  | 0, _, h => absurd h (Nat.not_lt_zero _)
  | k + 1, hk, h => by
    rw [loopW_succ fq fk fv fb tr f ⟨k, hk⟩]
    have l1 : (j 1).val < 128 := (j 1).isLt
    by_cases e : t.val = k
    · obtain rfl : t = ⟨k, hk⟩ := Fin.ext e
      exact tripW_in fq fk fv fb (hA _) _ i j b hb h0 h1
    · rw [tripW_out fq fk fv fb (hA ⟨k, hk⟩) _ i (by show ¬ (cb + 128 * k ≤ _ ∧ _ < cb + 128 * k + 128); omega)]
      exact loopW_in tr hA f i j b hb t h0 h1 k (by omega) (by omega)

theorem at1 (t : Fin k0_t1_loop.trips) : (trip1 t).At (0 + 128 * t.val) := by
  rw [Nat.zero_add]; exact ⟨k0_off3_eq t, k0_off5_eq t, k0_off7_eq t, k0_off9_eq t⟩
theorem at2 (t : Fin k0_t2_loop.trips) : (trip2 t).At (0 + 128 * t.val) := by
  rw [Nat.zero_add]; exact ⟨k0_off12_eq t, k0_off14_eq t, k0_off16_eq t, k0_off18_eq t⟩
theorem at3 (t : Fin k0_t3_loop.trips) : (trip3 t).At (512 + 128 * t.val) := by
  rw [Nat.add_comm]; exact ⟨k0_off20_eq t, k0_off22_eq t, k0_off24_eq t, k0_off26_eq t⟩
theorem at4 (t : Fin k0_t4_loop.trips) : (trip4 t).At (0 + 128 * t.val) := by
  rw [Nat.zero_add]; exact ⟨k0_off28_eq t, k0_off30_eq t, k0_off32_eq t, k0_off34_eq t⟩
theorem at5 (t : Fin k0_t5_loop.trips) : (trip5 t).At (0 + 128 * t.val) := by
  rw [Nat.zero_add]; exact ⟨k0_off36_eq t, k0_off38_eq t, k0_off40_eq t, k0_off42_eq t⟩

theorem trips1 : k0_t1_loop.trips = 8 := by decide
theorem trips2 : k0_t2_loop.trips = 4 := by decide
theorem trips3 : k0_t3_loop.trips = 4 := by decide
theorem trips4 : k0_t4_loop.trips = 8 := by decide
theorem trips5 : k0_t5_loop.trips = 8 := by decide

/-- An element's place in its band. -/
def inBand (i : S1024x1024.Idx) : S256x128.Idx := ix2 (⟨(i 0).val % 256, Nat.mod_lt _ (by decide)⟩ : Fin 256) (⟨(i 1).val % 128, Nat.mod_lt _ (by decide)⟩ : Fin 128)

theorem c1F_at (fc : Vec F S1024x1024 .bf16) (i : S1024x1024.Idx) (t : Fin k0_t1_loop.trips) (ht : t.val = (i 1).val / 128) :
    c1F fk fv fq fc i = tbAt fq fk fv biasV (trip1 t) ((i 0).val / 256) (inBand i) := by
  have l0 : (i 0).val < 1024 := (i 0).isLt
  exact loopW_in fq fk fv biasV trip1 at1 fc i (inBand i) ((i 0).val / 256) (by omega) t (by show _ = _ + (i 0).val % 256; omega) (by show _ = _ + (i 1).val % 128; omega) _ le_rfl t.isLt
theorem c2F_at (fc : Vec F S1024x1024 .bf16) (i : S1024x1024.Idx) (t : Fin k0_t2_loop.trips) (ht : t.val = (i 1).val / 128) :
    c2F fk fv fq fc i = tbAt fq fk fv biasV (trip2 t) ((i 0).val / 256) (inBand i) := by
  have l0 : (i 0).val < 1024 := (i 0).isLt
  exact loopW_in fq fk fv biasV trip2 at2 fc i (inBand i) ((i 0).val / 256) (by omega) t (by show _ = _ + (i 0).val % 256; omega) (by show _ = _ + (i 1).val % 128; omega) _ le_rfl t.isLt
theorem c3F_at (fc : Vec F S1024x1024 .bf16) (i : S1024x1024.Idx) (t : Fin k0_t3_loop.trips) (ht : 4 + t.val = (i 1).val / 128) :
    c3F fk fv fq fc i = tbAt fq fk fv biasV (trip3 t) ((i 0).val / 256) (inBand i) := by
  have l0 : (i 0).val < 1024 := (i 0).isLt
  exact loopW_in fq fk fv biasV trip3 at3 fc i (inBand i) ((i 0).val / 256) (by omega) t (by show _ = _ + (i 0).val % 256; omega) (by show _ = _ + (i 1).val % 128; omega) _ le_rfl t.isLt
theorem c4F_at (fc : Vec F S1024x1024 .bf16) (i : S1024x1024.Idx) (t : Fin k0_t4_loop.trips) (ht : t.val = (i 1).val / 128) :
    c4F fk fv fq fc i = tbAt fq fk fv biasV (trip4 t) ((i 0).val / 256) (inBand i) := by
  have l0 : (i 0).val < 1024 := (i 0).isLt
  exact loopW_in fq fk fv biasV trip4 at4 fc i (inBand i) ((i 0).val / 256) (by omega) t (by show _ = _ + (i 0).val % 256; omega) (by show _ = _ + (i 1).val % 128; omega) _ le_rfl t.isLt
theorem c5F_at (fc : Vec F S1024x1024 .bf16) (i : S1024x1024.Idx) (t : Fin k0_t5_loop.trips) (ht : t.val = (i 1).val / 128) :
    c5F fk fv fq fc i = tbAt fq fk fv biasV (trip5 t) ((i 0).val / 256) (inBand i) := by
  have l0 : (i 0).val < 1024 := (i 0).isLt
  exact loopW_in fq fk fv biasV trip5 at5 fc i (inBand i) ((i 0).val / 256) (by omega) t (by show _ = _ + (i 0).val % 256; omega) (by show _ = _ + (i 1).val % 128; omega) _ le_rfl t.isLt

/-- The first loop fills the context buffer, whatever was in it. -/
theorem c1F_any (fc fc' : Vec F S1024x1024 .bf16) : c1F fk fv fq fc = c1F fk fv fq fc' := by
  funext i
  have l1 : (i 1).val < 1024 := (i 1).isLt
  have ht : (i 1).val / 128 < k0_t1_loop.trips := by rw [trips1]; omega
  rw [c1F_at fq fk fv fc i ⟨_, ht⟩ rfl, c1F_at fq fk fv fc' i ⟨_, ht⟩ rfl]

/-! ## The contents through the five turns -/

section
variable (c : Dev nD)
def Q1 : Vec F S1024x1024 .bf16 := q1F (I.x c) (I.wq c)
def C1 : Vec F S1024x1024 .bf16 := c1F (kvC (I.kh c) 0 c) (kvC (I.vh c) 0 c) (Q1 I c) (Q1 I c)
def O1 : Vec F S1x1024x1024 .f32 := o1F (I.wo c) (C1 I c)
def Q2 : Vec F S1024x1024 .bf16 := q2F (I.x c) (cmC I c) (Q1 I c)
def C2 : Vec F S1024x1024 .bf16 := c2F (kvC (I.kh c) 1 c) (kvC (I.vh c) 1 c) (Q2 I c) (C1 I c)
def O2 : Vec F S1x1024x1024 .f32 := o2F (cmC I c) (C2 I c) (O1 I c)
def Q3 : Vec F S1024x1024 .bf16 := q3F (I.x c) (cmC I c) (Q2 I c)
def C3 : Vec F S1024x1024 .bf16 := c3F (kvC (I.kh c) 1 c) (kvC (I.vh c) 1 c) (Q3 I c) (C2 I c)
def O3 : Vec F S1x1024x1024 .f32 := o3F (cmC I c) (C3 I c) (O2 I c)
def Q4 : Vec F S1024x1024 .bf16 := q4F (I.x c) (cmC I c)
def C4 : Vec F S1024x1024 .bf16 := c4F (kvC (I.kh c) 2 c) (kvC (I.vh c) 2 c) (Q4 I c) (C3 I c)
def O4 : Vec F S1x1024x1024 .f32 := o4F (cmC I c) (C4 I c) (O3 I c)
def Q5 : Vec F S1024x1024 .bf16 := q5F (I.x c) (cmC I c)
def C5 : Vec F S1024x1024 .bf16 := c5F (kvC (I.kh c) 3 c) (kvC (I.vh c) 3 c) (Q5 I c) (C4 I c)
/-- The output block of device `c`. -/
def outF : Vec F S1x1024x1024 .f32 := o5F (cmC I c) (C5 I c) (O4 I c)
end

end Cert.KernelIdeal.Body
-- ==== Proof.Pieces.lean ====
module

public import proofs.«01_k».proof.Proof.Exchange
public import proofs.«01_k».proof.Proof.Cover

@[expose] public section

set_option maxRecDepth 16384

/-!
# The whole body

Cutting the buffers into what the copies borrow, and the body run from its first operation to its last.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

/-! ## Shares and pieces -/

theorem cm_halves (c : Dev nD) (S : Finset S3x2x1024x1024.Idx) (f : Vec F S3x2x1024x1024 .bf16) :
    (cmP c S fullShare f : sProp (MM F)) ⊣⊢ iprop(cmP c S fullShare.left f ∗ cmP c S fullShare.right f) :=
  pointsTo_share (ℓ := CM.view.loc (c : Thread nD τ)) (PosShare.mem_left_op_right fullShare)

theorem cm_cut (c : Dev nD) {S A B : Finset S3x2x1024x1024.Idx} (e : S = A ∪ B) (d : Disjoint A B) (q : PosShare TreeShare) (f : Vec F S3x2x1024x1024 .bf16) :
    (cmP c S q f : sProp (MM F)) ⊣⊢ iprop(cmP c A q f ∗ cmP c B q f) := by
  rw [e]; exact pointsTo_union (ℓ := CM.view.loc (c : Thread nD τ)) d

theorem slot_cr (c : Dev nD) (s : Fin 3) (q : PosShare TreeShare) (f : Vec F S3x2x1024x1024 .bf16) :
    (cmP c (cmSlot s) q f : sProp (MM F)) ⊣⊢ iprop((cmP c (cmCol s 0) q f ∗ cmP c (cmRow s 1 0) q f) ∗ (cmP c (cmCol s 1) q f ∗ cmP c (cmRow s 1 1) q f)) :=
  (cm_cut c (cmSlot_colrow s) (colrow_disj2 s) q f).trans
    (sep_congr (cm_cut c rfl (colrow_disj s 0 0) q f) (cm_cut c rfl (colrow_disj s 1 1) q f))
theorem slot_rr (c : Dev nD) (s : Fin 3) (q : PosShare TreeShare) (f : Vec F S3x2x1024x1024 .bf16) :
    (cmP c (cmSlot s) q f : sProp (MM F)) ⊣⊢ iprop((cmP c (cmRow s 0 0) q f ∗ cmP c (cmRow s 1 0) q f) ∗ (cmP c (cmRow s 0 1) q f ∗ cmP c (cmRow s 1 1) q f)) :=
  (cm_cut c (cmSlot_rows s) (rows_disj2 s) q f).trans
    (sep_congr (cm_cut c rfl (row_disj s (by decide)) q f) (cm_cut c rfl (row_disj s (by decide)) q f))

theorem slots_disj : Disjoint (cmSlot 0) (cmSlot 1 ∪ cmSlot 2) :=
  Finset.disjoint_union_right.mpr ⟨cm_disj (by decide), cm_disj (by decide)⟩
theorem cm_slots (c : Dev nD) (q : PosShare TreeShare) (f : Vec F S3x2x1024x1024 .bf16) :
    (cmP c Finset.univ q f : sProp (MM F)) ⊣⊢ iprop(cmP c (cmSlot 0) q f ∗ cmP c (cmSlot 1) q f ∗ cmP c (cmSlot 2) q f) :=
  (cm_cut c cm_univ slots_disj q f).trans (sep_congr ⟨Entails.rfl, Entails.rfl⟩ (cm_cut c rfl (cm_disj (by decide)) q f))

/-- The exchange buffer lent out window by window. -/
def lentW (c : Dev nD) (k : Fin 12) : sProp (MM F) := iprop(∃ f, cmP c (win k) fullShare f)
theorem lentW_intro (c : Dev nD) (k : Fin 12) (f : Vec F S3x2x1024x1024 .bf16) : (cmP c (win k) fullShare f : sProp (MM F)) ⊢ lentW c k := by
  unfold lentW; iintro H; iexists f; iexact H
theorem cm_lend (c : Dev nD) (f : Vec F S3x2x1024x1024 .bf16) : (cmP c Finset.univ fullShare f : sProp (MM F)) ⊢
    iprop(lentW c 0 ∗ lentW c 1 ∗ lentW c 2 ∗ lentW c 3 ∗ lentW c 4 ∗ lentW c 5 ∗ lentW c 6 ∗ lentW c 7 ∗ lentW c 8 ∗ lentW c 9 ∗ lentW c 10 ∗ lentW c 11) := by
  iintro H
  ihave H := (cm_slots c fullShare f).1 $$ H
  icases H with ⟨H0, H1, H2⟩
  ihave H0 := (slot_cr c 0 fullShare f).1 $$ H0
  ihave H1 := (slot_cr c 1 fullShare f).1 $$ H1
  ihave H2 := (slot_rr c 2 fullShare f).1 $$ H2
  icases H0 with ⟨⟨A0, A1⟩, ⟨A2, A3⟩⟩
  icases H1 with ⟨⟨A4, A5⟩, ⟨A6, A7⟩⟩
  icases H2 with ⟨⟨A8, A9⟩, ⟨A10, A11⟩⟩
  isplitl [A0]; · iapply (show (cmP c (cmCol 0 0) fullShare f : sProp (MM F)) ⊢ lentW c 0 from lentW_intro c 0 f) $$ A0
  isplitl [A1]; · iapply (show (cmP c (cmRow 0 1 0) fullShare f : sProp (MM F)) ⊢ lentW c 1 from lentW_intro c 1 f) $$ A1
  isplitl [A2]; · iapply (show (cmP c (cmCol 0 1) fullShare f : sProp (MM F)) ⊢ lentW c 2 from lentW_intro c 2 f) $$ A2
  isplitl [A3]; · iapply (show (cmP c (cmRow 0 1 1) fullShare f : sProp (MM F)) ⊢ lentW c 3 from lentW_intro c 3 f) $$ A3
  isplitl [A4]; · iapply (show (cmP c (cmCol 1 0) fullShare f : sProp (MM F)) ⊢ lentW c 4 from lentW_intro c 4 f) $$ A4
  isplitl [A5]; · iapply (show (cmP c (cmRow 1 1 0) fullShare f : sProp (MM F)) ⊢ lentW c 5 from lentW_intro c 5 f) $$ A5
  isplitl [A6]; · iapply (show (cmP c (cmCol 1 1) fullShare f : sProp (MM F)) ⊢ lentW c 6 from lentW_intro c 6 f) $$ A6
  isplitl [A7]; · iapply (show (cmP c (cmRow 1 1 1) fullShare f : sProp (MM F)) ⊢ lentW c 7 from lentW_intro c 7 f) $$ A7
  isplitl [A8]; · iapply (show (cmP c (cmRow 2 0 0) fullShare f : sProp (MM F)) ⊢ lentW c 8 from lentW_intro c 8 f) $$ A8
  isplitl [A9]; · iapply (show (cmP c (cmRow 2 1 0) fullShare f : sProp (MM F)) ⊢ lentW c 9 from lentW_intro c 9 f) $$ A9
  isplitl [A10]; · iapply (show (cmP c (cmRow 2 0 1) fullShare f : sProp (MM F)) ⊢ lentW c 10 from lentW_intro c 10 f) $$ A10
  iapply (show (cmP c (cmRow 2 1 1) fullShare f : sProp (MM F)) ⊢ lentW c 11 from lentW_intro c 11 f) $$ A11

theorem wq_cut (c : Dev nD) (q : PosShare TreeShare) (f : Vec F S1024x1024 .bf16) :
    (wqP c Finset.univ q f : sProp (MM F)) ⊣⊢ iprop(wqP c (cqSet 0) q f ∗ wqP c (cqSet 1) q f) := by
  rw [cq_univ]; exact pointsTo_union (ℓ := WQ.view.loc (c : Thread nD τ)) cq_disj
theorem wo_cut (c : Dev nD) (q : PosShare TreeShare) (f : Vec F S1024x1024 .bf16) :
    (woP c Finset.univ q f : sProp (MM F)) ⊣⊢ iprop(woP c (roSet 0) q f ∗ woP c (roSet 1) q f) := by
  rw [ro_univ]; exact pointsTo_union (ℓ := WO.view.loc (c : Thread nD τ)) ro_disj
theorem wq_thirds (c : Dev nD) (f : Vec F S1024x1024 .bf16) : (wqP c Finset.univ fullShare f : sProp (MM F)) ⊣⊢
    iprop(wqP c Finset.univ (Ring.shares3 fullShare 0) f ∗ wqP c Finset.univ (Ring.shares3 fullShare 1) f ∗ wqP c Finset.univ (Ring.shares3 fullShare 2) f) :=
  Ring.pointsTo_thirds (ℓ := WQ.view.loc (c : Thread nD τ)) fullShare f
theorem wo_thirds (c : Dev nD) (f : Vec F S1024x1024 .bf16) : (woP c Finset.univ fullShare f : sProp (MM F)) ⊣⊢
    iprop(woP c Finset.univ (Ring.shares3 fullShare 0) f ∗ woP c Finset.univ (Ring.shares3 fullShare 1) f ∗ woP c Finset.univ (Ring.shares3 fullShare 2) f) :=
  Ring.pointsTo_thirds (ℓ := WO.view.loc (c : Thread nD τ)) fullShare f

/-- What the first eight copies borrow of the weights, and what stays. -/
theorem w_lend (c : Dev nD) : iprop(wqP c Finset.univ fullShare (I.wq c) ∗ woP c Finset.univ fullShare (I.wo c)) ⊣⊢
    (iprop((sendPay I c 0 ∗ sendPay I c 1 ∗ sendPay I c 2 ∗ sendPay I c 3 ∗ sendPay I c 4 ∗ sendPay I c 5 ∗ sendPay I c 6 ∗ sendPay I c 7)
      ∗ wqP c Finset.univ (Ring.shares3 fullShare 2) (I.wq c) ∗ woP c Finset.univ (Ring.shares3 fullShare 2) (I.wo c)) : sProp (MM F)) := by
  unfold sendPay
  constructor
  · iintro ⟨H, K⟩
    ihave H := (wq_thirds c (I.wq c)).1 $$ H
    ihave K := (wo_thirds c (I.wo c)).1 $$ K
    icases H with ⟨H0, H1, H2⟩
    icases K with ⟨K0, K1, K2⟩
    ihave H0 := (wq_cut c (Ring.shares3 fullShare 0) (I.wq c)).1 $$ H0
    ihave H1 := (wq_cut c (Ring.shares3 fullShare 1) (I.wq c)).1 $$ H1
    ihave K0 := (wo_cut c (Ring.shares3 fullShare 0) (I.wo c)).1 $$ K0
    ihave K1 := (wo_cut c (Ring.shares3 fullShare 1) (I.wo c)).1 $$ K1
    icases H0 with ⟨A0, A2⟩
    icases H1 with ⟨A4, A6⟩
    icases K0 with ⟨A1, A3⟩
    icases K1 with ⟨A5, A7⟩
    iframe
  · iintro ⟨⟨A0, A1, A2, A3, A4, A5, A6, A7⟩, H2, K2⟩
    ihave H0 := (wq_cut c (Ring.shares3 fullShare 0) (I.wq c)).2 $$ [$A0 $A2]
    ihave H1 := (wq_cut c (Ring.shares3 fullShare 1) (I.wq c)).2 $$ [$A4 $A6]
    ihave K0 := (wo_cut c (Ring.shares3 fullShare 0) (I.wo c)).2 $$ [$A1 $A3]
    ihave K1 := (wo_cut c (Ring.shares3 fullShare 1) (I.wo c)).2 $$ [$A5 $A7]
    isplitl [H0 H1 H2]
    · iapply (wq_thirds c (I.wq c)).2; iframe
    · iapply (wo_thirds c (I.wo c)).2; iframe

/-- The keys and values read from main memory, a share for each head. -/
theorem heads (c : Dev nD) : iprop(khP c fullShare (I.kh c) ∗ vhP c fullShare (I.vh c)) ⊣⊢
    (iprop((khP c (Transfers.shareDrop fullShare 8) (I.kh c) ∗ vhP c (Transfers.shareDrop fullShare 8) (I.vh c)) ∗ hds I c) : sProp (MM F)) := by
  have hk : (khP c fullShare (I.kh c) : sProp (MM F)) ⊣⊢ iprop(khP c (Transfers.shareDrop fullShare 8) (I.kh c) ∗ bigSep Finset.univ fun h : Fin 8 => khP c (tok h) (I.kh c)) :=
    Transfers.pointsTo_toks (ℓ := KH.view.loc (c : Thread nD τ)) fullShare 8
  have hv : (vhP c fullShare (I.vh c) : sProp (MM F)) ⊣⊢ iprop(vhP c (Transfers.shareDrop fullShare 8) (I.vh c) ∗ bigSep Finset.univ fun h : Fin 8 => vhP c (tok h) (I.vh c)) :=
    Transfers.pointsTo_toks (ℓ := VH.view.loc (c : Thread nD τ)) fullShare 8
  have hs : (hds I c : sProp (MM F)) = iprop((bigSep Finset.univ fun h : Fin 8 => khP c (tok h) (I.kh c)) ∗ bigSep Finset.univ fun h : Fin 8 => vhP c (tok h) (I.vh c)) := by
    unfold hds hd; exact bigSep_sep' _ _ _
  rw [hs]
  constructor
  · iintro ⟨H, K⟩
    ihave H := hk.1 $$ H
    ihave K := hv.1 $$ K
    icases H with ⟨H0, H1⟩
    icases K with ⟨K0, K1⟩
    iframe
  · iintro ⟨⟨H0, K0⟩, ⟨H1, K1⟩⟩
    isplitl [H0 H1]
    · iapply hk.2; iframe
    · iapply hv.2; iframe

theorem kb_cut (c : Dev nD) (f : Vec F S2x8x1024x128 .f32) : (kbP c Finset.univ f : sProp (MM F)) ⊢ iprop(kbP c (kvSlot 0) f ∗ kbP c (kvSlot 1) f) := by
  rw [kv_univ]; exact (pointsTo_union (ℓ := KB.view.loc (c : Thread nD τ)) kv_disj).1
theorem vb_cut (c : Dev nD) (f : Vec F S2x8x1024x128 .f32) : (vbP c Finset.univ f : sProp (MM F)) ⊢ iprop(vbP c (kvSlot 0) f ∗ vbP c (kvSlot 1) f) := by
  rw [kv_univ]; exact (pointsTo_union (ℓ := VB.view.loc (c : Thread nD τ)) kv_disj).1
theorem kb_join (c : Dev nD) (f g : Vec F S2x8x1024x128 .f32) : iprop(kbP c (kvSlot 0) f ∗ kbP c (kvSlot 1) g) ⊢ (iprop(∃ h, kbP c Finset.univ h) : sProp (MM F)) := by
  iintro ⟨H, K⟩
  iexists ((kvSlot 1).piecewise g f : Vec F S2x8x1024x128 .f32)
  rw [kv_univ]
  iapply (show iprop(kbP c (kvSlot 0) f ∗ kbP c (kvSlot 1) g) ⊢ kbP c (kvSlot 0 ∪ kvSlot 1) ((kvSlot 1).piecewise g f : Vec F S2x8x1024x128 .f32)
    from pointsTo_join (ℓ := KB.view.loc (c : Thread nD τ)) kv_disj)
  isplitl [H] <;> iassumption
theorem vb_join (c : Dev nD) (f g : Vec F S2x8x1024x128 .f32) : iprop(vbP c (kvSlot 0) f ∗ vbP c (kvSlot 1) g) ⊢ (iprop(∃ h, vbP c Finset.univ h) : sProp (MM F)) := by
  iintro ⟨H, K⟩
  iexists ((kvSlot 1).piecewise g f : Vec F S2x8x1024x128 .f32)
  rw [kv_univ]
  iapply (show iprop(vbP c (kvSlot 0) f ∗ vbP c (kvSlot 1) g) ⊢ vbP c (kvSlot 0 ∪ kvSlot 1) ((kvSlot 1).piecewise g f : Vec F S2x8x1024x128 .f32)
    from pointsTo_join (ℓ := VB.view.loc (c : Thread nD τ)) kv_disj)
  isplitl [H] <;> iassumption

/-! ## Arrivals and what is passed on -/

/-- Slot 0 with both pages there: half of it to read, and from the other half what copies 8 and 9 borrow. -/
theorem slot0_relay (c : Dev nD) : iprop(recvPay I c 0 ∗ recvPay I c 1 ∗ recvPay I c 2 ∗ recvPay I c 3) ⊢
    (iprop(cmP c (cmSlot 0) fullShare.left (cmC I c) ∗ sendPay I c 8 ∗ sendPay I c 9
      ∗ cmP c (cmRow 0 0 1) fullShare.right (cmC I c) ∗ cmP c (cmRow 0 1 1) fullShare.right (cmC I c)) : sProp (MM F)) := by
  dsimp only [recvPay, sendPay, win]
  iintro ⟨A0, A1, A2, A3⟩
  ihave H := (slot_cr c 0 fullShare (cmC I c)).2 $$ [A0 A1 A2 A3]
  · isplitl [A0 A1]
    · isplitl [A0] <;> iassumption
    · isplitl [A2] <;> iassumption
  ihave H := (cm_halves c (cmSlot 0) (cmC I c)).1 $$ H
  icases H with ⟨L, R⟩
  ihave R := (slot_rr c 0 fullShare.right (cmC I c)).1 $$ R
  icases R with ⟨⟨R0, R1⟩, ⟨R2, R3⟩⟩
  iframe
theorem slot1_relay (c : Dev nD) : iprop(recvPay I c 4 ∗ recvPay I c 5 ∗ recvPay I c 6 ∗ recvPay I c 7) ⊢
    (iprop(cmP c (cmSlot 1) fullShare.left (cmC I c) ∗ sendPay I c 10 ∗ sendPay I c 11
      ∗ cmP c (cmRow 1 0 0) fullShare.right (cmC I c) ∗ cmP c (cmRow 1 1 0) fullShare.right (cmC I c)) : sProp (MM F)) := by
  dsimp only [recvPay, sendPay, win]
  iintro ⟨A0, A1, A2, A3⟩
  ihave H := (slot_cr c 1 fullShare (cmC I c)).2 $$ [A0 A1 A2 A3]
  · isplitl [A0 A1]
    · isplitl [A0] <;> iassumption
    · isplitl [A2] <;> iassumption
  ihave H := (cm_halves c (cmSlot 1) (cmC I c)).1 $$ H
  icases H with ⟨L, R⟩
  ihave R := (slot_rr c 1 fullShare.right (cmC I c)).1 $$ R
  icases R with ⟨⟨R0, R1⟩, ⟨R2, R3⟩⟩
  iframe
theorem slot2_there (c : Dev nD) : iprop(recvPay I c 8 ∗ recvPay I c 9 ∗ recvPay I c 10 ∗ recvPay I c 11) ⊢ (cmP c (cmSlot 2) fullShare (cmC I c) : sProp (MM F)) := by
  dsimp only [recvPay, win]
  iintro ⟨A0, A1, A2, A3⟩
  iapply (slot_rr c 2 fullShare (cmC I c)).2
  isplitl [A0 A1]
  · isplitl [A0] <;> iassumption
  · isplitl [A2] <;> iassumption
/-- Everything back. -/
theorem cm_back (c : Dev nD) : iprop(cmP c (cmSlot 0) fullShare.left (cmC I c) ∗ sendPay I c 8 ∗ sendPay I c 9
      ∗ cmP c (cmRow 0 0 1) fullShare.right (cmC I c) ∗ cmP c (cmRow 0 1 1) fullShare.right (cmC I c)
      ∗ cmP c (cmSlot 1) fullShare.left (cmC I c) ∗ sendPay I c 10 ∗ sendPay I c 11
      ∗ cmP c (cmRow 1 0 0) fullShare.right (cmC I c) ∗ cmP c (cmRow 1 1 0) fullShare.right (cmC I c)
      ∗ cmP c (cmSlot 2) fullShare (cmC I c)) ⊢ (cmP c Finset.univ fullShare (cmC I c) : sProp (MM F)) := by
  unfold sendPay
  iintro ⟨L0, A0, A1, A2, A3, L1, B2, B3, B0, B1, S2⟩
  ihave R0 := (slot_rr c 0 fullShare.right (cmC I c)).2 $$ [A0 A1 A2 A3]
  · iframe
  ihave R1 := (slot_rr c 1 fullShare.right (cmC I c)).2 $$ [B0 B1 B2 B3]
  · iframe
  ihave S0 := (cm_halves c (cmSlot 0) (cmC I c)).2 $$ [$L0 $R0]
  ihave S1 := (cm_halves c (cmSlot 1) (cmC I c)).2 $$ [$L1 $R1]
  iapply (cm_slots c fullShare (cmC I c)).2
  iframe

/-! ## The first meeting -/

theorem bar_give0 (c : Dev nD) : iprop(lend c 0 ∗ lend c 1 ∗ lend c 2 ∗ lend c 3 ∗ lend c 8 ∗ lend c 9) ⊢ (barPay (lf c) 0 : sProp (MM F)) := by
  dsimp only [barPay]; rw [rg_lf]
theorem bar_give1 (c : Dev nD) : iprop(lend c 4 ∗ lend c 5 ∗ lend c 6 ∗ lend c 7 ∗ lend c 10 ∗ lend c 11) ⊢ (barPay (rg c) 1 : sProp (MM F)) := by
  dsimp only [barPay]; rw [lf_rg]
theorem bar_take0 (c : Dev nD) : (barPay c 0 : sProp (MM F)) ⊢
    iprop(lend (dstD c 0) 0 ∗ lend (dstD c 1) 1 ∗ lend (dstD c 2) 2 ∗ lend (dstD c 3) 3 ∗ lend (dstD c 8) 8 ∗ lend (dstD c 9) 9) := Entails.of_eq rfl
theorem bar_take1 (c : Dev nD) : (barPay c 1 : sProp (MM F)) ⊢
    iprop(lend (dstD c 4) 4 ∗ lend (dstD c 5) 5 ∗ lend (dstD c 6) 6 ∗ lend (dstD c 7) 7 ∗ lend (dstD c 10) 10 ∗ lend (dstD c 11) 11) := Entails.of_eq rfl

end Cert.KernelIdeal.Body
-- ==== Proof.Run.lean ====
module

public import proofs.«01_k».proof.Proof.Pieces

@[expose] public section

set_option maxRecDepth 16384

/-!
# The body of the kernel on one device

From what a device holds when the kernel opens to what it holds when it ends.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (I : Ins F)

/-- The two weights' slots filled, half of each lent on. -/
theorem w_relay (κ : GSem nD τ sig → ℕ) (c : Dev nD) (Q : PUnit → sProp (MM F)) :
    iprop(recs I κ ∗ recvPay I c 0 ∗ recvPay I c 1 ∗ (rk c 2 ∗ rk c 3 ∗ rk c 4 ∗ rk c 5 ∗ rk c 6 ∗ rk c 7)
      ∗ (sendRt c 8 ∗ sendRt c 9 ∗ sendRt c 10 ∗ sendRt c 11)
      ∗ (lend (dstD c 8) 8 ∗ lend (dstD c 9) 9 ∗ lend (dstD c 10) 10 ∗ lend (dstD c 11) 11) ∗ ow c [8, 9, 10, 11]
      ∗ ((cmP c (cmSlot 0) fullShare.left (cmC I c) ∗ (cmP c (cmRow 0 0 1) fullShare.right (cmC I c) ∗ cmP c (cmRow 0 1 1) fullShare.right (cmC I c))
          ∗ cmP c (cmSlot 1) fullShare.left (cmC I c) ∗ (cmP c (cmRow 1 0 0) fullShare.right (cmC I c) ∗ cmP c (cmRow 1 1 0) fullShare.right (cmC I c))
          ∗ (ck c 8 ∗ ck c 9 ∗ ck c 10 ∗ ck c 11) ∗ (rz c 2 ∗ rz c 3 ∗ rz c 4 ∗ rz c 5 ∗ rz c 6 ∗ rz c 7) ∗ ow c []) -∗ Q ⟨⟩))
      ⊢ WP c (relayP (F := F) c) Q := by
  unfold relayP
  iintro ⟨#HR, P0, P1, ⟨K2, K3, K4, K5, K6, K7⟩, ⟨T8, T9, T10, T11⟩, ⟨L8, L9, L10, L11⟩, HO, HQ⟩
  rw [w_bind]; iapply (w_recv2 I κ c _ _ (by decide)) $$ [$HR $K2 $HO P0 P1 K3 K4 K5 K6 K7 T8 T9 T10 T11 L8 L9 L10 L11 HQ]; iintro ⟨P2, Z2, HO⟩
  rw [w_bind]; iapply (w_recv3 I κ c _ _ (by decide)) $$ [$HR $K3 $HO P0 P1 P2 Z2 K4 K5 K6 K7 T8 T9 T10 T11 L8 L9 L10 L11 HQ]; iintro ⟨P3, Z3, HO⟩
  ihave H := (slot0_relay I c) $$ [$P0 $P1 $P2 $P3]
  icases H with ⟨A0, S8, S9, A1, A2⟩
  ihave S8 := (show iprop(sendRt c 8 ∗ sendPay I c 8 ∗ lend (dstD c 8) 8) ⊢ sk I c 8 from Entails.rfl) $$ [$T8 $S8 $L8]
  ihave S9 := (show iprop(sendRt c 9 ∗ sendPay I c 9 ∗ lend (dstD c 9) 9) ⊢ sk I c 9 from Entails.rfl) $$ [$T9 $S9 $L9]
  rw [w_bind]; iapply (w_send8 I κ c) $$ [$HR $S8 $HO S9 A0 A1 A2 Z2 Z3 K4 K5 K6 K7 T10 T11 L10 L11 HQ]; iintro ⟨C8, HO⟩
  rw [w_bind]; iapply (w_send9 I κ c) $$ [$HR $S9 $HO C8 A0 A1 A2 Z2 Z3 K4 K5 K6 K7 T10 T11 L10 L11 HQ]; iintro ⟨C9, HO⟩
  rw [w_bind]; iapply (w_recv4 I κ c _ _ (by decide)) $$ [$HR $K4 $HO C8 C9 A0 A1 A2 Z2 Z3 K5 K6 K7 T10 T11 L10 L11 HQ]; iintro ⟨P4, Z4, HO⟩
  rw [w_bind]; iapply (w_recv5 I κ c _ _ (by decide)) $$ [$HR $K5 $HO C8 C9 A0 A1 A2 Z2 Z3 P4 Z4 K6 K7 T10 T11 L10 L11 HQ]; iintro ⟨P5, Z5, HO⟩
  rw [w_bind]; iapply (w_recv6 I κ c _ _ (by decide)) $$ [$HR $K6 $HO C8 C9 A0 A1 A2 Z2 Z3 P4 Z4 P5 Z5 K7 T10 T11 L10 L11 HQ]; iintro ⟨P6, Z6, HO⟩
  rw [w_bind]; iapply (w_recv7 I κ c _ _ (by decide)) $$ [$HR $K7 $HO C8 C9 A0 A1 A2 Z2 Z3 P4 Z4 P5 Z5 P6 Z6 T10 T11 L10 L11 HQ]; iintro ⟨P7, Z7, HO⟩
  ihave H := (slot1_relay I c) $$ [$P4 $P5 $P6 $P7]
  icases H with ⟨B0, S10, S11, B1, B2⟩
  ihave S10 := (show iprop(sendRt c 10 ∗ sendPay I c 10 ∗ lend (dstD c 10) 10) ⊢ sk I c 10 from Entails.rfl) $$ [$T10 $S10 $L10]
  ihave S11 := (show iprop(sendRt c 11 ∗ sendPay I c 11 ∗ lend (dstD c 11) 11) ⊢ sk I c 11 from Entails.rfl) $$ [$T11 $S11 $L11]
  rw [w_bind]; iapply (w_send10 I κ c) $$ [$HR $S10 $HO S11 C8 C9 A0 A1 A2 B0 B1 B2 Z2 Z3 Z4 Z5 Z6 Z7 HQ]; iintro ⟨C10, HO⟩
  iapply (w_send11 I κ c) $$ [$HR $S11 $HO C10 C8 C9 A0 A1 A2 B0 B1 B2 Z2 Z3 Z4 Z5 Z6 Z7 HQ]; iintro ⟨C11, HO⟩
  iapply HQ
  iframe

/-- The loads' stages with the slot each turn uses. -/
theorem st0 (c : Dev nD) (f g : Vec F S2x8x1024x128 .f32) (Q : PUnit → sProp (MM F)) :
    iprop(hds I c ∗ sems c 0 ∗ kbP c (kvSlot 0) f ∗ vbP c (kvSlot 0) g ∗ (away I c 0 -∗ Q ⟨⟩)) ⊢ WP c (startP 0 c) Q := w_start I c 0 f g Q
theorem st1 (c : Dev nD) (f g : Vec F S2x8x1024x128 .f32) (Q : PUnit → sProp (MM F)) :
    iprop(hds I c ∗ sems c 1 ∗ kbP c (kvSlot 1) f ∗ vbP c (kvSlot 1) g ∗ (away I c 1 -∗ Q ⟨⟩)) ⊢ WP c (startP 1 c) Q := w_start I c 1 f g Q
theorem st2 (c : Dev nD) (f g : Vec F S2x8x1024x128 .f32) (Q : PUnit → sProp (MM F)) :
    iprop(hds I c ∗ sems c 0 ∗ kbP c (kvSlot 0) f ∗ vbP c (kvSlot 0) g ∗ (away I c 2 -∗ Q ⟨⟩)) ⊢ WP c (startP 2 c) Q := w_start I c 2 f g Q
theorem st3 (c : Dev nD) (f g : Vec F S2x8x1024x128 .f32) (Q : PUnit → sProp (MM F)) :
    iprop(hds I c ∗ sems c 1 ∗ kbP c (kvSlot 1) f ∗ vbP c (kvSlot 1) g ∗ (away I c 3 -∗ Q ⟨⟩)) ⊢ WP c (startP 3 c) Q := w_start I c 3 f g Q
theorem wt0 (κ : GSem nD τ sig → ℕ) (c : Dev nD) (l : List (Fin 12)) (Q : PUnit → sProp (MM F)) :
    iprop(recs I κ ∗ away I c 0 ∗ ow c l
        ∗ ((hds I c ∗ sems c 0 ∗ kbP c (kvSlot 0) (kvC (I.kh c) 0 c) ∗ vbP c (kvSlot 0) (kvC (I.vh c) 0 c) ∗ ow c l) -∗ Q ⟨⟩)) ⊢ WP c (waitP 0 c) Q :=
  w_wait I κ c 0 l Q
theorem wt1 (κ : GSem nD τ sig → ℕ) (c : Dev nD) (l : List (Fin 12)) (Q : PUnit → sProp (MM F)) :
    iprop(recs I κ ∗ away I c 1 ∗ ow c l
        ∗ ((hds I c ∗ sems c 1 ∗ kbP c (kvSlot 1) (kvC (I.kh c) 1 c) ∗ vbP c (kvSlot 1) (kvC (I.vh c) 1 c) ∗ ow c l) -∗ Q ⟨⟩)) ⊢ WP c (waitP 1 c) Q :=
  w_wait I κ c 1 l Q
theorem wt2 (κ : GSem nD τ sig → ℕ) (c : Dev nD) (l : List (Fin 12)) (Q : PUnit → sProp (MM F)) :
    iprop(recs I κ ∗ away I c 2 ∗ ow c l
        ∗ ((hds I c ∗ sems c 0 ∗ kbP c (kvSlot 0) (kvC (I.kh c) 2 c) ∗ vbP c (kvSlot 0) (kvC (I.vh c) 2 c) ∗ ow c l) -∗ Q ⟨⟩)) ⊢ WP c (waitP 2 c) Q :=
  w_wait I κ c 2 l Q
theorem wt3 (κ : GSem nD τ sig → ℕ) (c : Dev nD) (l : List (Fin 12)) (Q : PUnit → sProp (MM F)) :
    iprop(recs I κ ∗ away I c 3 ∗ ow c l
        ∗ ((hds I c ∗ sems c 1 ∗ kbP c (kvSlot 1) (kvC (I.kh c) 3 c) ∗ vbP c (kvSlot 1) (kvC (I.vh c) 3 c) ∗ ow c l) -∗ Q ⟨⟩)) ⊢ WP c (waitP 3 c) Q :=
  w_wait I κ c 3 l Q

/-- One of each of the twelve. -/
def tw (Φ : Fin 12 → sProp (MM F)) : sProp (MM F) :=
  iprop(Φ 0 ∗ Φ 1 ∗ Φ 2 ∗ Φ 3 ∗ Φ 4 ∗ Φ 5 ∗ Φ 6 ∗ Φ 7 ∗ Φ 8 ∗ Φ 9 ∗ Φ 10 ∗ Φ 11)

/-- What device `c` holds when the kernel opens. -/
def bodyPre (κ : GSem nD τ sig → ℕ) (c : Dev nD) : sProp (MM F) :=
  iprop(recs I κ ∗ (atPos ER (bar c) 0 ∅ 0 ∗ cred (tallyAt (bar c) () 2) ∗ dutyTok ER (bar (lf c)) 0 0 ∗ dutyTok ER (bar (rg c)) 0 1)
    ∗ tw (fun k => sendRt c k) ∗ tw (s0 c) ∗ tw (rk c) ∗ tw (fun k => reached ER (rcv c k) 0) ∗ (sems c 0 ∗ sems c 1)
    ∗ (xP c (I.x c) ∗ wqP c Finset.univ fullShare (I.wq c) ∗ woP c Finset.univ fullShare (I.wo c) ∗ khP c fullShare (I.kh c) ∗ vhP c fullShare (I.vh c))
    ∗ (∃ f, outP c f)
    ∗ ((∃ f, cmP c Finset.univ fullShare f) ∗ (∃ f, kbP c Finset.univ f) ∗ (∃ f, vbP c Finset.univ f) ∗ (∃ f, qbP c f) ∗ (∃ f, cxP c f) ∗ (∃ f, biP c f))
    ∗ (∃ W, owes (c : Thread nD τ) (O₀ c) W))
/-- And when it ends. -/
def bodyPost (c : Dev nD) : sProp (MM F) :=
  iprop(atPos ER (bar c) 1 ∅ 0 ∗ tw (sz c) ∗ tw (rz c) ∗ (sems c 0 ∗ sems c 1)
    ∗ (xP c (I.x c) ∗ wqP c Finset.univ fullShare (I.wq c) ∗ woP c Finset.univ fullShare (I.wo c) ∗ khP c fullShare (I.kh c) ∗ vhP c fullShare (I.vh c))
    ∗ outP c (outF I c)
    ∗ ((∃ f, cmP c Finset.univ fullShare f) ∗ (∃ f, kbP c Finset.univ f) ∗ (∃ f, vbP c Finset.univ f) ∗ (∃ f, qbP c f) ∗ (∃ f, cxP c f) ∗ (∃ f, biP c f))
    ∗ ow c [])

theorem turn_in (c : Dev nD) (sl : Fin 2) (fk fv : Vec F S2x8x1024x128 .f32) (fq fc : Vec F S1024x1024 .bf16) (fo : Vec F S1x1024x1024 .f32) :
    iprop(qbP c fq ∗ kbP c (kvSlot sl) fk ∗ vbP c (kvSlot sl) fv ∗ biP c biasV ∗ cxP c fc ∗ outP c fo) ⊢ (turnS fk fv c sl fq fc fo : sProp (MM F)) := Entails.rfl
theorem turn_out (c : Dev nD) (sl : Fin 2) (fk fv : Vec F S2x8x1024x128 .f32) (fq fc : Vec F S1024x1024 .bf16) (fo : Vec F S1x1024x1024 .f32) :
    (turnS fk fv c sl fq fc fo : sProp (MM F)) ⊢ iprop(qbP c fq ∗ kbP c (kvSlot sl) fk ∗ vbP c (kvSlot sl) fv ∗ biP c biasV ∗ cxP c fc ∗ outP c fo) := Entails.rfl

theorem lend_in (e : Dev nD) (k : Fin 12) : iprop(lentW e k ∗ reached ER (rcv e k) 0) ⊢ (lend e k : sProp (MM F)) := Entails.rfl
theorem dev_id (c : Dev nD) (Q : Dev nD → sProp (MM F)) : Q c ⊢ WP c (Prog.lift .deviceId) Q := by
  rw [show WP c (Prog.lift .deviceId) Q = WP c (.ret c) Q from wp_deviceId V0 (c : Thread nD τ) none Set.univ]
  exact w_ret c c Q

set_option maxHeartbeats 1600000 in
theorem w_body (κ : GSem nD τ sig → ℕ) (c : Dev nD) (Q : PUnit → sProp (MM F)) :
    iprop(bodyPre I κ c ∗ (bodyPost I c -∗ Q ⟨⟩)) ⊢ WP c (bodyAt0 (F := F) t0_0) Q := by
  rw [body_eq]
  unfold bodyP bodyPre tw
  simp only [bind_assoc]
  iintro ⟨⟨#HR, ⟨Hat, Hcr, Hd0, Hd1⟩, ⟨T0, T1, T2, T3, T4, T5, T6, T7, T8, T9, T10, T11⟩, ⟨A0, A1, A2, A3, A4, A5, A6, A7, A8, A9, A10, A11⟩, ⟨K0, K1, K2, K3, K4, K5, K6, K7, K8, K9, K10, K11⟩,
    ⟨E0, E1, E2, E3, E4, E5, E6, E7, E8, E9, E10, E11⟩, ⟨Hs0, Hs1⟩, ⟨Hx, Hwq, Hwo, Hkh, Hvh⟩, ⟨%fo, Ho⟩, ⟨⟨%fm, Hm⟩, ⟨%fk, Hk⟩, ⟨%fv, Hv⟩, ⟨%fq, Hq⟩, ⟨%fc, Hc⟩, ⟨%fb, Hb⟩⟩, ⟨%W, HO⟩⟩, HQ⟩
  ihave Hm := (cm_lend c fm) $$ Hm
  icases Hm with ⟨L0, L1, L2, L3, L4, L5, L6, L7, L8, L9, L10, L11⟩
  ihave L0 := (lend_in c 0) $$ [$L0 $E0]
  ihave L1 := (lend_in c 1) $$ [$L1 $E1]
  ihave L2 := (lend_in c 2) $$ [$L2 $E2]
  ihave L3 := (lend_in c 3) $$ [$L3 $E3]
  ihave L4 := (lend_in c 4) $$ [$L4 $E4]
  ihave L5 := (lend_in c 5) $$ [$L5 $E5]
  ihave L6 := (lend_in c 6) $$ [$L6 $E6]
  ihave L7 := (lend_in c 7) $$ [$L7 $E7]
  ihave L8 := (lend_in c 8) $$ [$L8 $E8]
  ihave L9 := (lend_in c 9) $$ [$L9 $E9]
  ihave L10 := (lend_in c 10) $$ [$L10 $E10]
  ihave L11 := (lend_in c 11) $$ [$L11 $E11]
  ihave G0 := (bar_give0 c) $$ [$L0 $L1 $L2 $L3 $L8 $L9]
  ihave G1 := (bar_give1 c) $$ [$L4 $L5 $L6 $L7 $L10 $L11]
  ihave Hw := (w_lend I c).1 $$ [$Hwq $Hwo]
  icases Hw with ⟨⟨P0, P1, P2, P3, P4, P5, P6, P7⟩, Hwq, Hwo⟩
  ihave Hh := (heads I c).1 $$ [$Hkh $Hvh]
  icases Hh with ⟨⟨Hkh, Hvh⟩, Hh⟩
  ihave Hk := (kb_cut c fk) $$ Hk
  icases Hk with ⟨Hk0, Hk1⟩
  ihave Hv := (vb_cut c fv) $$ Hv
  icases Hv with ⟨Hv0, Hv1⟩
  rw [w_bind]; iapply (dev_id c)
  rw [w_bind]; iapply (w_greet I κ c W) $$ [$HR $Hd0 $Hd1 $Hat $Hcr $G0 $G1 $HO T0 T1 T2 T3 T4 T5 T6 T7 T8 T9 T10 T11 A0 A1 A2 A3 A4 A5 A6 A7 A8 A9 A10 A11 K0 K1 K2 K3 K4 K5 K6 K7 K8 K9 K10 K11 Hs0 Hs1 Hx Hwq Hwo Hkh Hvh Hh Ho Hk0 Hk1 Hv0 Hv1 Hq Hc Hb HQ P0 P1 P2 P3 P4 P5 P6 P7]; iintro ⟨G0, G1, Hat, HO⟩
  ihave HO := (show owes (c : Thread nD τ) (owL c all12) (insert (SemLoc.reg sB, ()) W) ⊢ (ow c all12 : sProp (MM F)) from (by unfold ow; iintro H; iexists _; iexact H)) $$ HO
  ihave G0 := (bar_take0 c) $$ [$G0]
  icases G0 with ⟨L0, L1, L2, L3, L8, L9⟩
  ihave G1 := (bar_take1 c) $$ [$G1]
  icases G1 with ⟨L4, L5, L6, L7, L10, L11⟩
  ihave S0 := (show iprop(sendRt c 0 ∗ sendPay I c 0 ∗ lend (dstD c 0) 0) ⊢ sk I c 0 from Entails.rfl) $$ [$T0 $P0 $L0]
  ihave S1 := (show iprop(sendRt c 1 ∗ sendPay I c 1 ∗ lend (dstD c 1) 1) ⊢ sk I c 1 from Entails.rfl) $$ [$T1 $P1 $L1]
  ihave S2 := (show iprop(sendRt c 2 ∗ sendPay I c 2 ∗ lend (dstD c 2) 2) ⊢ sk I c 2 from Entails.rfl) $$ [$T2 $P2 $L2]
  ihave S3 := (show iprop(sendRt c 3 ∗ sendPay I c 3 ∗ lend (dstD c 3) 3) ⊢ sk I c 3 from Entails.rfl) $$ [$T3 $P3 $L3]
  ihave S4 := (show iprop(sendRt c 4 ∗ sendPay I c 4 ∗ lend (dstD c 4) 4) ⊢ sk I c 4 from Entails.rfl) $$ [$T4 $P4 $L4]
  ihave S5 := (show iprop(sendRt c 5 ∗ sendPay I c 5 ∗ lend (dstD c 5) 5) ⊢ sk I c 5 from Entails.rfl) $$ [$T5 $P5 $L5]
  ihave S6 := (show iprop(sendRt c 6 ∗ sendPay I c 6 ∗ lend (dstD c 6) 6) ⊢ sk I c 6 from Entails.rfl) $$ [$T6 $P6 $L6]
  ihave S7 := (show iprop(sendRt c 7 ∗ sendPay I c 7 ∗ lend (dstD c 7) 7) ⊢ sk I c 7 from Entails.rfl) $$ [$T7 $P7 $L7]
  rw [w_bind]; iapply (w_sends I κ c) $$ [$HR $S0 $S1 $S2 $S3 $S4 $S5 $S6 $S7 $HO T8 T9 T10 T11 A0 A1 A2 A3 A4 A5 A6 A7 A8 A9 A10 A11 K0 K1 K2 K3 K4 K5 K6 K7 K8 K9 K10 K11 Hs0 Hs1 Hx Hwq Hwo Hkh Hvh Hh Ho Hk0 Hk1 Hv0 Hv1 Hq Hc Hb HQ Hat L8 L9 L10 L11]; iintro ⟨C0, C1, C2, C3, C4, C5, C6, C7, HO⟩
  rw [w_bind]; iapply (st0 I c fk fv) $$ [$Hh $Hs0 $Hk0 $Hv0 T8 T9 T10 T11 A0 A1 A2 A3 A4 A5 A6 A7 A8 A9 A10 A11 K0 K1 K2 K3 K4 K5 K6 K7 K8 K9 K10 K11 Hs1 Hx Hwq Hwo Hkh Hvh Ho Hk1 Hv1 Hq Hc Hb HQ Hat L8 L9 L10 L11 C0 C1 C2 C3 C4 C5 C6 C7 HO]; iintro Hy
  rw [w_bind]; iapply (w_mask (I.x c) c fb) $$ [$Hb $Hx T8 T9 T10 T11 A0 A1 A2 A3 A4 A5 A6 A7 A8 A9 A10 A11 K0 K1 K2 K3 K4 K5 K6 K7 K8 K9 K10 K11 Hs1 Hwq Hwo Hkh Hvh Ho Hk1 Hv1 Hq Hc HQ Hat L8 L9 L10 L11 C0 C1 C2 C3 C4 C5 C6 C7 HO Hy]; iintro ⟨Hb, Hx⟩
  rw [w_bind]; iapply (wt0 I κ c) $$ [$HR $Hy $HO T8 T9 T10 T11 A0 A1 A2 A3 A4 A5 A6 A7 A8 A9 A10 A11 K0 K1 K2 K3 K4 K5 K6 K7 K8 K9 K10 K11 Hs1 Hwq Hwo Hkh Hvh Ho Hk1 Hv1 Hq Hc HQ Hat L8 L9 L10 L11 C0 C1 C2 C3 C4 C5 C6 C7 Hb Hx]; iintro ⟨Hh, Hs0, Hk0, Hv0, HO⟩
  rw [w_bind]; iapply (st1 I c fk fv) $$ [$Hh $Hs1 $Hk1 $Hv1 T8 T9 T10 T11 A0 A1 A2 A3 A4 A5 A6 A7 A8 A9 A10 A11 K0 K1 K2 K3 K4 K5 K6 K7 K8 K9 K10 K11 Hwq Hwo Hkh Hvh Ho Hq Hc HQ Hat L8 L9 L10 L11 C0 C1 C2 C3 C4 C5 C6 C7 Hb Hx Hs0 Hk0 Hv0 HO]; iintro Hy
  ihave Ht := (turn_in c 0 _ _ _ _ _) $$ [$Hq $Hk0 $Hv0 $Hb $Hc $Ho]
  rw [w_bind]; iapply (w_proc1 (I.x c) _ _ (I.wq c) (I.wo c) _ _ _ c _ _) $$ [$Hwq $Hwo $Ht T8 T9 T10 T11 A0 A1 A2 A3 A4 A5 A6 A7 A8 A9 A10 A11 K0 K1 K2 K3 K4 K5 K6 K7 K8 K9 K10 K11 Hkh Hvh HQ Hat L8 L9 L10 L11 C0 C1 C2 C3 C4 C5 C6 C7 Hx Hs0 HO Hy]; iintro ⟨Hwq, Hwo, Ht⟩
  rw [c1F_any (q1F (I.x c) (I.wq c)) (kvC (I.kh c) 0 c) (kvC (I.vh c) 0 c) fc (Q1 I c)]
  ihave Ht := (show turnS (kvC (I.kh c) 0 c) (kvC (I.vh c) 0 c) c 0 (q1F (I.x c) (I.wq c)) (c1F (kvC (I.kh c) 0 c) (kvC (I.vh c) 0 c) (q1F (I.x c) (I.wq c)) (Q1 I c)) (o1F (I.wo c) (c1F (kvC (I.kh c) 0 c) (kvC (I.vh c) 0 c) (q1F (I.x c) (I.wq c)) (Q1 I c))) ⊢ (turnS (kvC (I.kh c) 0 c) (kvC (I.vh c) 0 c) c 0 (Q1 I c) (C1 I c) (O1 I c) : sProp (MM F)) from Entails.rfl) $$ Ht
  ihave Ht := (turn_out c 0 _ _ _ _ _) $$ [$Ht]
  icases Ht with ⟨Hq, Hk0, Hv0, Hb, Hc, Ho⟩
  rw [w_bind]; iapply (wt1 I κ c) $$ [$HR $Hy $HO T8 T9 T10 T11 A0 A1 A2 A3 A4 A5 A6 A7 A8 A9 A10 A11 K0 K1 K2 K3 K4 K5 K6 K7 K8 K9 K10 K11 Hkh Hvh HQ Hat L8 L9 L10 L11 C0 C1 C2 C3 C4 C5 C6 C7 Hx Hs0 Hwq Hwo Hq Hk0 Hv0 Hb Hc Ho]; iintro ⟨Hh, Hs1, Hk1, Hv1, HO⟩
  rw [w_bind]; iapply (st2 I c _ _) $$ [$Hh $Hs0 $Hk0 $Hv0 T8 T9 T10 T11 A0 A1 A2 A3 A4 A5 A6 A7 A8 A9 A10 A11 K0 K1 K2 K3 K4 K5 K6 K7 K8 K9 K10 K11 Hkh Hvh HQ Hat L8 L9 L10 L11 C0 C1 C2 C3 C4 C5 C6 C7 Hx Hwq Hwo Hq Hb Hc Ho Hs1 Hk1 Hv1 HO]; iintro Hy
  rw [w_bind]; iapply (w_recv0 I κ c _ _ (by decide)) $$ [$HR $K0 $HO T8 T9 T10 T11 A0 A1 A2 A3 A4 A5 A6 A7 A8 A9 A10 A11 K1 K2 K3 K4 K5 K6 K7 K8 K9 K10 K11 Hkh Hvh HQ Hat L8 L9 L10 L11 C0 C1 C2 C3 C4 C5 C6 C7 Hx Hwq Hwo Hq Hb Hc Ho Hs1 Hk1 Hv1 Hy]; iintro ⟨R0, Z0, HO⟩
  rw [w_bind]; iapply (w_recv1 I κ c _ _ (by decide)) $$ [$HR $K1 $HO T8 T9 T10 T11 A0 A1 A2 A3 A4 A5 A6 A7 A8 A9 A10 A11 K2 K3 K4 K5 K6 K7 K8 K9 K10 K11 Hkh Hvh HQ Hat L8 L9 L10 L11 C0 C1 C2 C3 C4 C5 C6 C7 Hx Hwq Hwo Hq Hb Hc Ho Hs1 Hk1 Hv1 Hy R0 Z0]; iintro ⟨R1, Z1, HO⟩
  ihave R0 := (show recvPay I c 0 ⊢ (cmP c (cmCol 0 0) fullShare (cmC I c) : sProp (MM F)) from Entails.rfl) $$ R0
  ihave R1 := (show recvPay I c 1 ⊢ (cmP c (cmRow 0 1 0) fullShare (cmC I c) : sProp (MM F)) from Entails.rfl) $$ R1
  ihave Ht := (turn_in c 1 _ _ _ _ _) $$ [$Hq $Hk1 $Hv1 $Hb $Hc $Ho]
  rw [w_bind]; iapply (w_proc2 (I.x c) _ _ (cmC I c) _ _ _ c _) $$ [$R0 $R1 $Ht T8 T9 T10 T11 A0 A1 A2 A3 A4 A5 A6 A7 A8 A9 A10 A11 K2 K3 K4 K5 K6 K7 K8 K9 K10 K11 Hkh Hvh HQ Hat L8 L9 L10 L11 C0 C1 C2 C3 C4 C5 C6 C7 Hx Hwq Hwo Hs1 Hy Z0 Z1 HO]; iintro ⟨R0, R1, Ht⟩
  ihave Ht := (show turnS (kvC (I.kh c) 1 c) (kvC (I.vh c) 1 c) c 1 (q2F (I.x c) (cmC I c) (Q1 I c)) (c2F (kvC (I.kh c) 1 c) (kvC (I.vh c) 1 c) (q2F (I.x c) (cmC I c) (Q1 I c)) (C1 I c)) (o2F (cmC I c) (c2F (kvC (I.kh c) 1 c) (kvC (I.vh c) 1 c) (q2F (I.x c) (cmC I c) (Q1 I c)) (C1 I c)) (O1 I c)) ⊢ (turnS (kvC (I.kh c) 1 c) (kvC (I.vh c) 1 c) c 1 (Q2 I c) (C2 I c) (O2 I c) : sProp (MM F)) from Entails.rfl) $$ Ht
  ihave Ht := (turn_out c 1 _ _ _ _ _) $$ [$Ht]
  icases Ht with ⟨Hq, Hk1, Hv1, Hb, Hc, Ho⟩
  ihave R0 := (show (cmP c (cmCol 0 0) fullShare (cmC I c) : sProp (MM F)) ⊢ recvPay I c 0 from Entails.rfl) $$ R0
  ihave R1 := (show (cmP c (cmRow 0 1 0) fullShare (cmC I c) : sProp (MM F)) ⊢ recvPay I c 1 from Entails.rfl) $$ R1
  rw [w_bind]; iapply (w_relay I κ c) $$ [$HR $R0 $R1 $K2 $K3 $K4 $K5 $K6 $K7 $T8 $T9 $T10 $T11 $L8 $L9 $L10 $L11 $HO A0 A1 A2 A3 A4 A5 A6 A7 A8 A9 A10 A11 K8 K9 K10 K11 Hkh Hvh HQ Hat C0 C1 C2 C3 C4 C5 C6 C7 Hx Hwq Hwo Hs1 Hy Z0 Z1 Hq Hk1 Hv1 Hb Hc Ho]; iintro ⟨M0, ⟨X1, X2⟩, M1, ⟨Y1, Y2⟩, ⟨C8, C9, C10, C11⟩, ⟨Z2, Z3, Z4, Z5, Z6, Z7⟩, HO⟩
  ihave Ht := (turn_in c 1 _ _ _ _ _) $$ [$Hq $Hk1 $Hv1 $Hb $Hc $Ho]
  rw [w_bind]; iapply (w_proc3 (I.x c) _ _ (cmC I c) _ _ _ c _) $$ [$M0 $Ht A0 A1 A2 A3 A4 A5 A6 A7 A8 A9 A10 A11 K8 K9 K10 K11 Hkh Hvh HQ Hat C0 C1 C2 C3 C4 C5 C6 C7 Hx Hwq Hwo Hs1 Hy Z0 Z1 X1 X2 M1 Y1 Y2 C8 C9 C10 C11 Z2 Z3 Z4 Z5 Z6 Z7 HO]; iintro ⟨M0, Ht⟩
  ihave Ht := (show turnS (kvC (I.kh c) 1 c) (kvC (I.vh c) 1 c) c 1 (q3F (I.x c) (cmC I c) (Q2 I c)) (c3F (kvC (I.kh c) 1 c) (kvC (I.vh c) 1 c) (q3F (I.x c) (cmC I c) (Q2 I c)) (C2 I c)) (o3F (cmC I c) (c3F (kvC (I.kh c) 1 c) (kvC (I.vh c) 1 c) (q3F (I.x c) (cmC I c) (Q2 I c)) (C2 I c)) (O2 I c)) ⊢ (turnS (kvC (I.kh c) 1 c) (kvC (I.vh c) 1 c) c 1 (Q3 I c) (C3 I c) (O3 I c) : sProp (MM F)) from Entails.rfl) $$ Ht
  ihave Ht := (turn_out c 1 _ _ _ _ _) $$ [$Ht]
  icases Ht with ⟨Hq, Hk1, Hv1, Hb, Hc, Ho⟩
  rw [w_bind]; iapply (wt2 I κ c) $$ [$HR $Hy $HO A0 A1 A2 A3 A4 A5 A6 A7 A8 A9 A10 A11 K8 K9 K10 K11 Hkh Hvh HQ Hat C0 C1 C2 C3 C4 C5 C6 C7 Hx Hwq Hwo Hs1 Z0 Z1 X1 X2 M1 Y1 Y2 C8 C9 C10 C11 Z2 Z3 Z4 Z5 Z6 Z7 M0 Hq Hk1 Hv1 Hb Hc Ho]; iintro ⟨Hh, Hs0, Hk0, Hv0, HO⟩
  rw [w_bind]; iapply (st3 I c _ _) $$ [$Hh $Hs1 $Hk1 $Hv1 A0 A1 A2 A3 A4 A5 A6 A7 A8 A9 A10 A11 K8 K9 K10 K11 Hkh Hvh HQ Hat C0 C1 C2 C3 C4 C5 C6 C7 Hx Hwq Hwo Z0 Z1 X1 X2 M1 Y1 Y2 C8 C9 C10 C11 Z2 Z3 Z4 Z5 Z6 Z7 M0 Hq Hb Hc Ho Hs0 Hk0 Hv0 HO]; iintro Hy
  ihave Ht := (turn_in c 0 _ _ _ _ _) $$ [$Hq $Hk0 $Hv0 $Hb $Hc $Ho]
  rw [w_bind]; iapply (w_proc4 (I.x c) _ _ (cmC I c) _ _ _ c _) $$ [$M1 $Ht A0 A1 A2 A3 A4 A5 A6 A7 A8 A9 A10 A11 K8 K9 K10 K11 Hkh Hvh HQ Hat C0 C1 C2 C3 C4 C5 C6 C7 Hx Hwq Hwo Z0 Z1 X1 X2 Y1 Y2 C8 C9 C10 C11 Z2 Z3 Z4 Z5 Z6 Z7 M0 Hs0 HO Hy]; iintro ⟨M1, Ht⟩
  ihave Ht := (show turnS (kvC (I.kh c) 2 c) (kvC (I.vh c) 2 c) c 0 (q4F (I.x c) (cmC I c)) (c4F (kvC (I.kh c) 2 c) (kvC (I.vh c) 2 c) (q4F (I.x c) (cmC I c)) (C3 I c)) (o4F (cmC I c) (c4F (kvC (I.kh c) 2 c) (kvC (I.vh c) 2 c) (q4F (I.x c) (cmC I c)) (C3 I c)) (O3 I c)) ⊢ (turnS (kvC (I.kh c) 2 c) (kvC (I.vh c) 2 c) c 0 (Q4 I c) (C4 I c) (O4 I c) : sProp (MM F)) from Entails.rfl) $$ Ht
  ihave Ht := (turn_out c 0 _ _ _ _ _) $$ [$Ht]
  icases Ht with ⟨Hq, Hk0, Hv0, Hb, Hc, Ho⟩
  rw [w_bind]; iapply (w_late I κ c) $$ [$HR $K8 $K9 $K10 $K11 $HO A0 A1 A2 A3 A4 A5 A6 A7 A8 A9 A10 A11 Hkh Hvh HQ Hat C0 C1 C2 C3 C4 C5 C6 C7 Hx Hwq Hwo Z0 Z1 X1 X2 Y1 Y2 C8 C9 C10 C11 Z2 Z3 Z4 Z5 Z6 Z7 M0 Hs0 Hy M1 Hq Hk0 Hv0 Hb Hc Ho]; iintro ⟨R8, Z8, R9, Z9, R10, Z10, R11, Z11, HO⟩
  rw [w_bind]; iapply (wt3 I κ c) $$ [$HR $Hy $HO A0 A1 A2 A3 A4 A5 A6 A7 A8 A9 A10 A11 Hkh Hvh HQ Hat C0 C1 C2 C3 C4 C5 C6 C7 Hx Hwq Hwo Z0 Z1 X1 X2 Y1 Y2 C8 C9 C10 C11 Z2 Z3 Z4 Z5 Z6 Z7 M0 Hs0 M1 Hq Hk0 Hv0 Hb Hc Ho R8 Z8 R9 Z9 R10 Z10 R11 Z11]; iintro ⟨Hh, Hs1, Hk1, Hv1, HO⟩
  ihave M2 := (slot2_there I c) $$ [$R8 $R9 $R10 $R11]
  ihave Ht := (turn_in c 1 _ _ _ _ _) $$ [$Hq $Hk1 $Hv1 $Hb $Hc $Ho]
  rw [w_bind]; iapply (w_proc5 (I.x c) _ _ (cmC I c) _ _ _ c _) $$ [$M2 $Ht A0 A1 A2 A3 A4 A5 A6 A7 A8 A9 A10 A11 Hkh Hvh HQ Hat C0 C1 C2 C3 C4 C5 C6 C7 Hx Hwq Hwo Z0 Z1 X1 X2 Y1 Y2 C8 C9 C10 C11 Z2 Z3 Z4 Z5 Z6 Z7 M0 Hs0 M1 Hk0 Hv0 Z8 Z9 Z10 Z11 Hh Hs1 HO]; iintro ⟨M2, Ht⟩
  ihave Ht := (show turnS (kvC (I.kh c) 3 c) (kvC (I.vh c) 3 c) c 1 (q5F (I.x c) (cmC I c)) (c5F (kvC (I.kh c) 3 c) (kvC (I.vh c) 3 c) (q5F (I.x c) (cmC I c)) (C4 I c)) (o5F (cmC I c) (c5F (kvC (I.kh c) 3 c) (kvC (I.vh c) 3 c) (q5F (I.x c) (cmC I c)) (C4 I c)) (O4 I c)) ⊢ (turnS (kvC (I.kh c) 3 c) (kvC (I.vh c) 3 c) c 1 (Q5 I c) (C5 I c) (outF I c) : sProp (MM F)) from Entails.rfl) $$ Ht
  ihave Ht := (turn_out c 1 _ _ _ _ _) $$ [$Ht]
  icases Ht with ⟨Hq, Hk1, Hv1, Hb, Hc, Ho⟩
  iapply (w_done I κ c) $$ [$HR $C0 $A0 $C1 $A1 $C2 $A2 $C3 $A3 $C4 $A4 $C5 $A5 $C6 $A6 $C7 $A7 $C8 $A8 $C9 $A9 $C10 $A10 $C11 $A11 $HO Hkh Hvh HQ Hat Hx Hwq Hwo Z0 Z1 X1 X2 Y1 Y2 Z2 Z3 Z4 Z5 Z6 Z7 M0 Hs0 M1 Hk0 Hv0 Z8 Z9 Z10 Z11 Hh Hs1 M2 Hq Hk1 Hv1 Hb Hc Ho]; iintro ⟨P0, A0, P1, A1, P2, A2, P3, A3, P4, A4, P5, A5, P6, A6, P7, A7, P8, A8, P9, A9, P10, A10, P11, A11, HO⟩
  ihave Hm := (cm_back I c) $$ [$M0 $P8 $P9 $X1 $X2 $M1 $P10 $P11 $Y1 $Y2 $M2]
  ihave Hw := (w_lend I c).2 $$ [$P0 $P1 $P2 $P3 $P4 $P5 $P6 $P7 $Hwq $Hwo]
  icases Hw with ⟨Hwq, Hwo⟩
  ihave Hh := (heads I c).2 $$ [$Hkh $Hvh $Hh]
  icases Hh with ⟨Hkh, Hvh⟩
  ihave Hk := (kb_join c _ _) $$ [$Hk0 $Hk1]
  ihave Hv := (vb_join c _ _) $$ [$Hv0 $Hv1]
  iapply HQ
  unfold bodyPost tw
  isplitl [Hat]; · iexact Hat
  isplitl [A0 A1 A2 A3 A4 A5 A6 A7 A8 A9 A10 A11]; · iframe
  isplitl [Z0 Z1 Z2 Z3 Z4 Z5 Z6 Z7 Z8 Z9 Z10 Z11]; · iframe
  isplitl [Hs0 Hs1]; · iframe
  isplitl [Hx Hwq Hwo Hkh Hvh]; · iframe
  isplitl [Ho]; · iexact Ho
  isplitl [Hm Hk Hv Hq Hc Hb]
  · isplitl [Hm]; · iexists _; iexact Hm
    isplitl [Hk]; · iexact Hk
    isplitl [Hv]; · iexact Hv
    isplitl [Hq]; · iexists _; iexact Hq
    isplitl [Hc]; · iexists _; iexact Hc
    iexists _; iexact Hb
  iexact HO

end Cert.KernelIdeal.Body
-- ==== Proof.Open.lean ====
module

public import proofs.«01_k».proof.Proof.Run
public import Idealize.ShloMosaic.Harness.Basic

@[expose] public section

set_option maxRecDepth 16384

/-!
# Opening and closing the cells

The kernel's own semaphores are the twelve it sends on, the twelve it receives on and the thirty-two of the loads. The first
two dozen become cells when the kernel opens and are plain counters at zero again when it ends.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)

variable {F : FTy → Type} [FloatOps F] [Named F] (I : Ins F)

abbrev OK : Type := Fin 12 ⊕ Fin 12 ⊕ (Fin 2 × Fin 8 × Fin 2)
/-- The kernel's own semaphores. -/
def osem : OK → SemLoc sig
  | .inl k => .dma (sS k) | .inr (.inl k) => .dma (sR k) | .inr (.inr p) => .dma (sL p.1 p.2.2 p.2.1)

theorem osem_facts : Pipeline.OwnSemFacts spec0 osem := by decide +kernel

theorem tw_eq (Φ : Fin 12 → sProp (MM F)) : bigSep Finset.univ Φ = tw Φ :=
  bigSep_univ_eq_bigSepL [0, 1, 2, 3, 4, 5, 6, 7, 8, 9, 10, 11] (by decide) (by decide) Φ

theorem own_eq (c : Dev nD) : (Pipeline.ownSems0 osem c : sProp (MM F))
    = iprop((bigSep Finset.univ fun k : Fin 12 => semVal (snd c k) 0) ∗ (bigSep Finset.univ fun k : Fin 12 => semVal (rcv c k) 0) ∗ sems c 0 ∗ sems c 1) := by
  unfold Pipeline.ownSems0
  rw [BI.bigSep_univ_sum, BI.bigSep_univ_sum, BI.bigSep_univ_prod, BI.bigSep_fin_two]
  refine congrArg₂ _ rfl (congrArg₂ _ rfl (congrArg₂ _ ?_ ?_))
  · rw [BI.bigSep_univ_prod]; unfold sems
    exact bigSep_congr fun h _ => BI.bigSep_fin_two (fun kv : Fin 2 => (semVal ((c : Thread nD τ), .dma (sL 0 kv h)) 0 : sProp (MM F)))
  · rw [BI.bigSep_univ_prod]; unfold sems
    exact bigSep_congr fun h _ => BI.bigSep_fin_two (fun kv : Fin 2 => (semVal ((c : Thread nD τ), .dma (sL 1 kv h)) 0 : sProp (MM F)))

/-! ## Opening -/

/-- What device `c` brings from the launch: the right to open its cells, the tokens of what it pays, the credits it waits with. -/
def kept (κ : GSem nD τ sig → ℕ) (c : Dev nD) : sProp (MM F) :=
  iprop(recs I κ ∗ (atPos ER (bar c) 0 ∅ 0 ∗ dutyTok ER (bar (lf c)) 0 0 ∗ dutyTok ER (bar (rg c)) 0 1)
    ∗ (bigSep Finset.univ fun k : Fin 12 => openTok ER (snd c k)) ∗ (bigSep Finset.univ fun k : Fin 12 => openTok ER (rcv c k))
    ∗ (bigSep Finset.univ fun k : Fin 12 => dutyTok ER (snd c k) 0 0) ∗ (bigSep Finset.univ fun k : Fin 12 => dutyTok ER (rcv (dstD c k) k) 0 0)
    ∗ cred (tallyAt (bar c) () 2) ∗ (bigSep Finset.univ fun k : Fin 12 => cred (tallyAt (rcv c k) () NC)))
/-- What it has once they are open. -/
def opened (κ : GSem nD τ sig → ℕ) (c : Dev nD) : sProp (MM F) :=
  iprop(recs I κ ∗ (atPos ER (bar c) 0 ∅ 0 ∗ cred (tallyAt (bar c) () 2) ∗ dutyTok ER (bar (lf c)) 0 0 ∗ dutyTok ER (bar (rg c)) 0 1)
    ∗ tw (fun k => sendRt c k) ∗ tw (s0 c) ∗ tw (rk c) ∗ tw (fun k => reached ER (rcv c k) 0) ∗ (sems c 0 ∗ sems c 1))

theorem open_one (κ : GSem nD τ sig → ℕ) (g : GSem nD τ sig) (hg : g ∈ barCells ∪ scCells) :
    iprop(recs I κ ∗ (openTok ER g ∗ semVal g 0)) ⊢ (|={Set.univ}=> iprop(atPos ER g 0 ∅ 0 ∗ reached ER g 0) : sProp (MM F)) := by
  iintro ⟨#HR, Ho, Hv⟩
  iapply (Rounds.cell_open ER (Rd I) (g := g) (Set.mem_univ (κ g)))
  isplitr; · iapply (recs_inv I κ hg); iexact HR
  isplitl [Ho] <;> iassumption

theorem close_one (κ : GSem nD τ sig → ℕ) (g : GSem nD τ sig) (hg : g ∈ barCells ∪ scCells) :
    iprop(recs I κ ∗ atPos ER g 1 ∅ 0) ⊢ (|={Set.univ}=> semVal g 0 : sProp (MM F)) := by
  iintro ⟨#HR, Ha⟩
  iapply (Rounds.cell_close ER (Rd I) (g := g) (R := 1) (Set.mem_univ (κ g)) id (duties_later I g))
  isplitr; · iapply (recs_inv I κ hg); iexact HR
  iexact Ha

theorem open_many (κ : GSem nD τ sig → ℕ) (f : Fin 12 → GSem nD τ sig) (hf : ∀ k, f k ∈ barCells ∪ scCells) :
    iprop(recs I κ ∗ (bigSep Finset.univ fun k => openTok ER (f k)) ∗ (bigSep Finset.univ fun k => semVal (f k) 0))
      ⊢ (|={Set.univ}=> iprop((bigSep Finset.univ fun k => atPos ER (f k) 0 ∅ 0) ∗ (bigSep Finset.univ fun k => reached ER (f k) 0)) : sProp (MM F)) := by
  iintro ⟨#HR, Ho, Hv⟩
  imod (show (bigSep Finset.univ fun k => iprop(|={Set.univ}=> iprop(atPos ER (f k) 0 ∅ 0 ∗ reached ER (f k) 0)))
      ⊢ (|={Set.univ}=> bigSep Finset.univ fun k => iprop(atPos ER (f k) 0 ∅ 0 ∗ reached ER (f k) 0) : sProp (MM F)) from bigSep_fupd _ _) $$ [Ho Hv] with H
  · iapply (bigSep_with_persistent (R := recs I κ) (Φ := fun k => iprop(openTok ER (f k) ∗ semVal (f k) 0)) fun k _ => open_one I κ (f k) (hf k))
    isplitr; · iexact HR
    iapply bigSep_pair
    isplitl [Ho] <;> iassumption
  imodintro
  iapply bigSep_unpair; iexact H

theorem close_many (κ : GSem nD τ sig → ℕ) (f : Fin 12 → GSem nD τ sig) (hf : ∀ k, f k ∈ barCells ∪ scCells) :
    iprop(recs I κ ∗ (bigSep Finset.univ fun k => atPos ER (f k) 1 ∅ 0)) ⊢ (|={Set.univ}=> bigSep Finset.univ fun k => semVal (f k) 0 : sProp (MM F)) := by
  iintro ⟨#HR, Ha⟩
  iapply (show (bigSep Finset.univ fun k => iprop(|={Set.univ}=> semVal (f k) 0))
      ⊢ (|={Set.univ}=> bigSep Finset.univ fun k => semVal (f k) 0 : sProp (MM F)) from bigSep_fupd _ _)
  iapply (bigSep_with_persistent (R := recs I κ) (Φ := fun k => (atPos ER (f k) 1 ∅ 0 : sProp (MM F))) fun k _ => close_one I κ (f k) (hf k))
  isplitr; · iexact HR
  iexact Ha

theorem open_all (κ : GSem nD τ sig → ℕ) (c : Dev nD) :
    iprop(kept I κ c ∗ Pipeline.ownSems0 osem c) ⊢ (|={Set.univ}=> opened I κ c : sProp (MM F)) := by
  rw [own_eq]
  unfold kept opened
  rw [← tw_eq, ← tw_eq, ← tw_eq, ← tw_eq]
  iintro ⟨⟨#HR, ⟨Hb, Hd0, Hd1⟩, Ho, Hp, Hds, Hdr, Hcb, Hcr⟩, Hv, Hw, Hs0, Hs1⟩
  imod (open_many I κ (snd c) (snd_mem c)) $$ [Ho Hv] with ⟨Ha, Hr⟩
  · isplitr; · iexact HR
    isplitl [Ho] <;> iassumption
  imod (open_many I κ (rcv c) (rcv_mem c)) $$ [Hp Hw] with ⟨Hb', Hq⟩
  · isplitr; · iexact HR
    isplitl [Hp] <;> iassumption
  imodintro
  isplitr; · iexact HR
  isplitl [Hb Hcb Hd0 Hd1]
  · isplitl [Hb]; · iexact Hb
    isplitl [Hcb]; · iexact Hcb
    isplitl [Hd0] <;> iassumption
  isplitl [Hds Hr Hdr]
  · unfold sendRt
    iapply bigSep_pair
    isplitl [Hds]; · iexact Hds
    iapply bigSep_pair
    isplitl [Hr] <;> iassumption
  isplitl [Ha]; · unfold s0; iexact Ha
  isplitl [Hcr Hb']
  · unfold rk
    iapply bigSep_pair
    isplitl [Hcr] <;> iassumption
  isplitl [Hq]; · iexact Hq
  isplitl [Hs0] <;> iassumption

theorem close_all (κ : GSem nD τ sig → ℕ) (c : Dev nD) :
    iprop(recs I κ ∗ atPos ER (bar c) 1 ∅ 0 ∗ tw (sz c) ∗ tw (rz c) ∗ (sems c 0 ∗ sems c 1))
      ⊢ (|={Set.univ}=> iprop(semVal (bar c) 0 ∗ Pipeline.ownSems0 osem c) : sProp (MM F)) := by
  rw [own_eq, ← tw_eq, ← tw_eq]
  unfold sz rz
  iintro ⟨#HR, Hb, Hs, Hr, H0, H1⟩
  imod (close_one I κ (bar c) (bar_mem c)) $$ [Hb] with Hb
  · isplitr; · iexact HR
    iexact Hb
  imod (close_many I κ (snd c) (snd_mem c)) $$ [Hs] with Hs
  · isplitr; · iexact HR
    iexact Hs
  imod (close_many I κ (rcv c) (rcv_mem c)) $$ [Hr] with Hr
  · isplitr; · iexact HR
    iexact Hr
  imodintro
  isplitl [Hb]; · iexact Hb
  isplitl [Hs]; · iexact Hs
  isplitl [Hr]; · iexact Hr
  isplitl [H0] <;> iassumption

/-! ## The credits -/

theorem owL_rcv (d c : Dev nD) (k : Fin 12) : ∀ l : List (Fin 12), l.Nodup →
    owL d l (rcv c k) () = if k ∈ l ∧ c = dstD d k then NC else 0
  | [], _ => by rw [if_neg (fun h => absurd h.1 (List.not_mem_nil))]; rfl
  | k' :: l, hl => by
    obtain ⟨h1, h2⟩ := List.nodup_cons.mp hl
    unfold owL
    rw [Pi.add_apply, Finsupp.add_apply, owL_rcv d c k l h2, tallyAt_apply]
    by_cases hk : k = k'
    · subst hk
      rw [if_neg (fun h => h1 h.1), Nat.zero_add]
      refine if_congr ⟨fun h => ⟨List.mem_cons_self, ?_⟩, fun h => ⟨by rw [← h.2], rfl⟩⟩ rfl rfl
      exact congrArg (fun g : GSem nD τ sig => g.1.1) h.1
    · rw [if_neg (c := rcv c k = rcv (dstD d k') k' ∧ () = ())]
      · rw [Nat.add_zero]
        exact if_congr ⟨fun h => ⟨List.mem_cons_of_mem _ h.1, h.2⟩, fun h => ⟨(List.mem_cons.mp h.1).resolve_left hk, h.2⟩⟩ rfl rfl
      · intro h
        have e := congrArg (fun g : GSem nD τ sig => role g.2) h.1
        simp only [role_rcv] at e
        exact hk (Role.rcv.inj e)

theorem owL_bar (d c : Dev nD) (l : List (Fin 12)) : owL d l (bar c) () = 0 := by
  by_contra h
  obtain ⟨k, -, e⟩ := owL_pos (Nat.pos_of_ne_zero h)
  have := congrArg (fun g : GSem nD τ sig => role g.2) e
  simp only [role_rcv] at this
  exact absurd this (by rw [show role (bar c).2 = Role.bar from rfl]; exact fun h => by cases h)

theorem bar_inj {a b : Dev nD} : bar a = bar b ↔ a = b :=
  ⟨fun h => congrArg (fun g : GSem nD τ sig => g.1.1) h, fun h => by rw [h]⟩
theorem bar_ne_rcv (a c : Dev nD) (k : Fin 12) : rcv c k ≠ bar a := fun h => by
  have := congrArg (fun g : GSem nD τ sig => role g.2) h
  simp only [role_rcv] at this
  exact absurd this (by rw [show role (bar a).2 = Role.bar from rfl]; exact fun h => by cases h)

theorem owed_bar (d c : Dev nD) : O₀ d (bar c) () = (if c = rg d then 1 else 0) + (if c = lf d then 1 else 0) := by
  unfold O₀
  rw [Pi.add_apply, Finsupp.add_apply, Pi.add_apply, Finsupp.add_apply, owL_bar, tallyAt_apply, tallyAt_apply, Nat.zero_add]
  refine congrArg₂ _ (if_congr ⟨fun h => bar_inj.mp h.1, fun h => ⟨by rw [h], rfl⟩⟩ rfl rfl) (if_congr ⟨fun h => bar_inj.mp h.1, fun h => ⟨by rw [h], rfl⟩⟩ rfl rfl)

theorem owed_rcv (d c : Dev nD) (k : Fin 12) : O₀ d (rcv c k) () = if c = dstD d k then NC else 0 := by
  unfold O₀
  rw [Pi.add_apply, Finsupp.add_apply, Pi.add_apply, Finsupp.add_apply, owL_rcv d c k all12 (by decide),
    tallyAt_ne_cell (bar_ne_rcv _ c k), tallyAt_ne_cell (bar_ne_rcv _ c k)]
  rw [Finsupp.zero_apply, Nat.add_zero, Nat.add_zero]
  exact if_congr ⟨fun h => h.2, fun h => ⟨(by decide : ∀ k : Fin 12, k ∈ all12) k, h⟩⟩ rfl rfl

theorem sum_bar (c : Dev nD) : ∑ d : Dev nD, O₀ d (bar c) () = 2 := by
  rw [Finset.sum_congr rfl fun d _ => owed_bar d c]; revert c; decide

theorem sum_rcv (c : Dev nD) (k : Fin 12) : ∑ d : Dev nD, O₀ d (rcv c k) () = NC := by
  rw [Finset.sum_congr rfl fun d _ => owed_rcv d c k, Finset.sum_ite, Finset.sum_const, Finset.sum_const_zero, Nat.add_zero, smul_eq_mul,
    show (Finset.univ.filter fun d : Dev nD => c = dstD d k).card = 1 from by revert c k; decide, Nat.one_mul]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem bar_not (c : Dev nD) (k : Fin 12) : (SemLoc.dma (sR k) : SemLoc sig) ≠ .reg sB := fun h => by cases h
def rSem : Fin 12 ↪ SemLoc sig := ⟨fun k => .dma (sR k), by decide⟩

theorem creds (c : Dev nD) :
    (Pipeline.launchCred O₀ c : sProp (MM F)) ⊢ iprop(cred (tallyAt (bar c) () 2) ∗ (bigSep Finset.univ fun k : Fin 12 => cred (tallyAt (rcv c k) () NC))) := by
  unfold Pipeline.launchCred
  rw [bigSep_univ_at _ (SemLoc.reg sB), launch_at (bar c) 2 (sum_bar c)]
  refine sep_mono_right ?_
  have h : (bigSep (Finset.univ.erase (SemLoc.reg sB)) fun sm => (cred (tallyOn ((c : Thread nD τ), sm) (launchCredit (Pipeline.owing O₀) 0 ((c : Thread nD τ), sm))) : sProp (MM F)))
      ⊢ bigSep (Finset.univ.map rSem) fun sm => (cred (tallyOn ((c : Thread nD τ), sm) (launchCredit (Pipeline.owing O₀) 0 ((c : Thread nD τ), sm))) : sProp (MM F)) :=
    BI.bigSep_subset fun s hs => by
      obtain ⟨k, -, rfl⟩ := Finset.mem_map.mp hs
      exact Finset.mem_erase.mpr ⟨bar_not c k, Finset.mem_univ _⟩
  refine h.trans (Entails.of_eq ?_)
  rw [BI.bigSep_map]
  exact bigSep_congr fun k _ => congrArg _ (launch_at (rcv c k) NC (sum_rcv c k))

end Cert.KernelIdeal.Body
-- ==== Proof.Launch.lean ====
module

public import proofs.«01_k».proof.Proof.Open
public import proofs.«01_k».proof.Proof.Gen.KernelIdeal.Frame
public import Idealize.ShloMosaic.Lib.Pipeline.RegionTalk
public import Idealize.ShloMosaic.Lib.Pipeline.ValueKit.Geometry

@[expose] public section

set_option maxRecDepth 16384

/-!
# The kernel as a region of the program

The program's two conversions run first; the kernel then runs on what they leave.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation)

variable {F : FTy → Type} [FloatOps F] [Named F]
variable (m : (ℓ : Loc nD τ sig) → Buf (Elt F) ℓ) (ρ : Dev nD → PrngReg)

/-- What the kernel's arguments hold. -/
def insOf : Ins F where
  x c := iblk m c 0 t0_0
  wq c := iblk m c 1 t0_0
  wo c := iblk m c 2 t0_0
  kh c := V m c main_arg2
  vh c := V m c main_arg3

/-- The buffers when the kernel starts, and when it ends. -/
def W₁ (c : Dev nD) : Valuation τ sig (Elt F) := StableHlo.after hostOps0 (fun b => m (c, b))
def W₂ (c : Dev nD) : Valuation τ sig (Elt F) := Function.update (W₁ m c) (Proc.devRef .tc main_v3) (outF (insOf m) c)

/-- The six scratch buffers. -/
def scr (c : Dev nD) : sProp (MM F) :=
  iprop((∃ f, cmP c Finset.univ fullShare f) ∗ (∃ f, kbP c Finset.univ f) ∗ (∃ f, vbP c Finset.univ f) ∗ (∃ f, qbP c f) ∗ (∃ f, cxP c f) ∗ (∃ f, biP c f))
def kv (c : Dev nD) : sProp (MM F) :=
  iprop(khP c fullShare ((insOf m).kh c) ∗ vhP c fullShare ((insOf m).vh c))
def Φ₀ (c : Dev nD) : sProp (MM F) := iprop((∃ κ, opened (insOf m) κ c) ∗ kv m c ∗ scr c ∗ ∃ r, prngReg c r)
def Φ₁ (c : Dev nD) : sProp (MM F) := iprop((semVal (bar c) 0 ∗ Pipeline.ownSems0 osem c) ∗ kv m c ∗ scr c ∗ ∃ r, prngReg c r)

def dat (c : Dev nD) : Dat τ (Elt F) Unit ℕ UU ℕ cfg0 c where
  A w := V m c (Pipeline.arrRef spec0 w)
  after := fun | 0 => iblk m c 0 | 1 => iblk m c 1 | 2 => iblk m c 2 | 3 => fun _ => outF (insOf m) c
               | ⟨_ + 4, h⟩ => absurd h (Nat.not_lt.2 (Nat.le_add_left _ _))
  Φ t := if t.val = 0 then Φ₀ m c else Φ₁ m c
  q _ := fullShare
  owed t := if t.val = 0 then O₀ c else 0

theorem bef0 (c : Dev nD) (t : Fin cfg0.N) (d) : (dat m c).before 0 t d = iblk m c 0 t :=
  ((dat m c).before_in_eq_fetched 0 rfl (fun _ => rfl) (fun _ _ _ => rfl) (fun t => rfl) t d).trans rfl
theorem bef1 (c : Dev nD) (t : Fin cfg0.N) (d) : (dat m c).before 1 t d = iblk m c 1 t :=
  ((dat m c).before_in_eq_fetched 1 rfl (fun _ => rfl) (fun _ _ _ => rfl) (fun t => rfl) t d).trans rfl
theorem bef2 (c : Dev nD) (t : Fin cfg0.N) (d) : (dat m c).before 2 t d = iblk m c 2 t :=
  ((dat m c).before_in_eq_fetched 2 rfl (fun _ => rfl) (fun _ _ _ => rfl) (fun t => rfl) t d).trans rfl

theorem owed_zero (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat m c).owed t = O) (W : Waits sig Unit) :
    (owes (c : Thread nD τ) O W : sProp (MM F)) ⊢ ((dat m c).owesAt () t : sProp (MM F)) := by
  unfold Dat.owesAt Pipeline.owesWithin Dat.bound
  rw [h0, show (dat m c).recorded t = Set.univ from rfl]
  iintro HO; iexists W
  isplitr; · ipureintro; exact fun _ _ => Or.inl trivial
  iexact HO
theorem owes_out (c : Dev nD) (t : Fin (cfg0.N + 1)) (O : CellTallies nD τ sig Unit) (h0 : (dat m c).owed t = O) :
    ((dat m c).owesAt () t : sProp (MM F)) ⊢ iprop(∃ W, owes (c : Thread nD τ) O W) := by
  unfold Dat.owesAt Pipeline.owesWithin; rw [h0]
  iintro ⟨%W, -, HO⟩; iexists W; iexact HO

/-- The staged windows as the body holds them. -/
def winPre (c : Dev nD) : sProp (MM F) :=
  iprop(xP c ((insOf m).x c) ∗ wqP c Finset.univ fullShare ((insOf m).wq c) ∗ woP c Finset.univ fullShare ((insOf m).wo c) ∗ (∃ f, outP c f))
def winPost (c : Dev nD) : sProp (MM F) :=
  iprop(xP c ((insOf m).x c) ∗ wqP c Finset.univ fullShare ((insOf m).wq c) ∗ woP c Finset.univ fullShare ((insOf m).wo c) ∗ outP c (outF (insOf m) c))

/-- The body between its two states, its cells closed at the end. -/
theorem w_region (κ : GSem nD τ sig → ℕ) (c : Dev nD) (Q : PUnit → sProp (MM F)) :
    iprop(opened (insOf m) κ c ∗ kv m c ∗ scr c ∗ winPre m c ∗ (∃ W, owes (c : Thread nD τ) (O₀ c) W)
      ∗ (((semVal (bar c) 0 ∗ Pipeline.ownSems0 osem c) ∗ kv m c ∗ scr c ∗ winPost m c ∗ (∃ W, owes (c : Thread nD τ) (0 : CellTallies nD τ sig Unit) W)) -∗ Q ⟨⟩))
      ⊢ WP c (bodyAt0 (F := F) t0_0) Q := by
  unfold opened kv scr winPre winPost
  iintro ⟨⟨#HR, Hb, Ht, Hs, Hk, Hq, Hl⟩, ⟨Hkh, Hvh⟩, Hscr, ⟨Hx, Hwq, Hwo, Ho⟩, HO, HQ⟩
  iapply (show WP c (bodyAt0 (F := F) t0_0) (fun a => iprop(|={Set.univ}=> Q a)) ⊢ WP c (bodyAt0 (F := F) t0_0) Q from wp_fupd _ _ _ _ _)
  iapply (w_body (insOf m) κ c _)
  isplitr [HQ]
  · unfold bodyPre
    isplitr; · iexact HR
    isplitl [Hb]; · iexact Hb
    isplitl [Ht]; · iexact Ht
    isplitl [Hs]; · iexact Hs
    isplitl [Hk]; · iexact Hk
    isplitl [Hq]; · iexact Hq
    isplitl [Hl]; · iexact Hl
    isplitl [Hx Hwq Hwo Hkh Hvh]; · iframe
    isplitl [Ho]; · iexact Ho
    isplitl [Hscr]; · iexact Hscr
    iexact HO
  unfold bodyPost
  iintro ⟨Hb, Hs, Hz, Hl, ⟨Hx, Hwq, Hwo, Hkh, Hvh⟩, Ho, Hscr, HO⟩
  imod (close_all (insOf m) κ c) $$ [Hb Hs Hz Hl] with ⟨Hb, Hs⟩
  · isplitr; · iexact HR
    iframe
  imodintro
  iapply HQ
  isplitl [Hb Hs]; · isplitl [Hb] <;> iassumption
  isplitl [Hkh Hvh]; · isplitl [Hkh] <;> iassumption
  isplitl [Hscr]; · iexact Hscr
  isplitr [HO]; · iframe
  unfold ow
  iexact HO

theorem body (c : Dev nD) : BodyObligation (dat m c) (defs₀ (F := F)) V0 () Set.univ := fun t => by
  obtain rfl := fin_N0 t
  rw [bigSep_W0, bigSep_W0]
  rw [show (dat m c).Φ t0_0.castSucc = Φ₀ m c from rfl, show (dat m c).Φ t0_0.succ = Φ₁ m c from rfl]
  unfold Φ₀ Φ₁
  iintro ⟨⟨⟨%κ, Hop⟩, Hkv, Hscr, Hreg⟩, HO, ⟨%d0, H0⟩, ⟨%d1, H1⟩, ⟨%d2, H2⟩, ⟨%d3, H3⟩⟩
  rw [bef0, bef1, bef2]
  ihave HO := (owes_out m c _ (O₀ c) (owed_zero m c)) $$ HO
  ihave H0 := (show owns c ((cfg0.win 0).stage (cfg0.slots t0_0 0)) fullShare (iblk m c 0 t0_0) ⊢ (xP c ((insOf m).x c) : sProp (MM F)) from Entails.of_eq (owns_whole ..)) $$ H0
  ihave H1 := (show owns c ((cfg0.win 1).stage (cfg0.slots t0_0 1)) fullShare (iblk m c 1 t0_0) ⊢ (wqP c Finset.univ fullShare ((insOf m).wq c) : sProp (MM F)) from Entails.of_eq (owns_whole ..)) $$ H1
  ihave H2 := (show owns c ((cfg0.win 2).stage (cfg0.slots t0_0 2)) fullShare (iblk m c 2 t0_0) ⊢ (woP c Finset.univ fullShare ((insOf m).wo c) : sProp (MM F)) from Entails.of_eq (owns_whole ..)) $$ H2
  ihave H3 := (show owns c ((cfg0.win 3).stage (cfg0.slots t0_0 3)) fullShare ((dat m c).before 3 t0_0 d3) ⊢ (outP c ((dat m c).before 3 t0_0 d3) : sProp (MM F)) from Entails.of_eq (owns_whole ..)) $$ H3
  iapply (w_region m κ c _)
  isplitl [Hop]; · iexact Hop
  isplitl [Hkv]; · iexact Hkv
  isplitl [Hscr]; · iexact Hscr
  isplitl [H0 H1 H2 H3]
  · unfold winPre
    isplitl [H0]; · iexact H0
    isplitl [H1]; · iexact H1
    isplitl [H2]; · iexact H2
    iexists _; iexact H3
  isplitl [HO]; · iexact HO
  unfold winPost
  iintro ⟨Hs, Hkv, Hscr, ⟨H0, H1, H2, H3⟩, ⟨%W, HO⟩⟩
  isplitl [Hs Hkv Hscr Hreg]; · iframe
  isplitl [HO]; · iapply (owes_in m c t0_0.succ 0 (owed_last m c) W); iexact HO
  isplitl [H0]
  · iapply (show (xP c ((insOf m).x c) : sProp (MM F)) ⊢ owns c ((cfg0.win 0).stage (cfg0.slots t0_0 0)) fullShare ((dat m c).after 0 t0_0) from Entails.of_eq (owns_whole ..).symm) $$ H0
  isplitl [H1]
  · iapply (show (wqP c Finset.univ fullShare ((insOf m).wq c) : sProp (MM F)) ⊢ owns c ((cfg0.win 1).stage (cfg0.slots t0_0 1)) fullShare ((dat m c).after 1 t0_0) from Entails.of_eq (owns_whole ..).symm) $$ H1
  isplitl [H2]
  · iapply (show (woP c Finset.univ fullShare ((insOf m).wo c) : sProp (MM F)) ⊢ owns c ((cfg0.win 2).stage (cfg0.slots t0_0 2)) fullShare ((dat m c).after 2 t0_0) from Entails.of_eq (owns_whole ..).symm) $$ H2
  iapply (show (outP c (outF (insOf m) c) : sProp (MM F)) ⊢ owns c ((cfg0.win 3).stage (cfg0.slots t0_0 3)) fullShare ((dat m c).after 3 t0_0) from Entails.of_eq (owns_whole ..).symm) $$ H3

end Cert.KernelIdeal.Body
-- ==== Proof.Main.lean ====
module

public import proofs.«01_k».proof.Proof.Launch

@[expose] public section

set_option maxRecDepth 16384

/-!
# The whole program's run

The launch deals each device its part of the exchange; the program ends with the arguments unchanged, the result at what the
body computes, and every counter at zero.
-/

noncomputable section

namespace Cert.KernelIdeal.Body

open Idealize.ShloMosaic Idealize.ShloMosaic.ValueIdx Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation)

variable {F : FTy → Type} [FloatOps F] [Named F]
variable (m : (ℓ : Loc nD τ sig) → Buf (Elt F) ℓ) (ρ : Dev nD → PrngReg)

instance EP_lands : (EP : Emb (UR sig nD τ) (MM F)).LandsIn (upEmb : UEmb _ (MM F)) := by unfold EP; infer_instance

/-! ## The region -/

noncomputable abbrev adm : (p : Fin 1) → (pcfgs (F := F) p).Adm := fun p => (cfgs p).toPCfg_adm
noncomputable def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-- The two arrays of hdRefs, which the body reads in place. -/
noncomputable def hdRefs : Finset (DevRef τ sig) := {Proc.devRef .tc main_arg2, Proc.devRef .tc main_arg3}
/-- The unstaged arguments. -/
noncomputable def plain : Finset (DevRef τ sig) := {Proc.devRef .tc main_arg1, Proc.devRef .tc main_arg2, Proc.devRef .tc main_arg3, Proc.devRef .tc main_arg4}
noncomputable def allRefs : Finset (DevRef τ sig) := Pipeline.ucRefs τ sig

theorem hd_plain : hdRefs ⊆ plain := by decide
theorem all_split : Pipeline.arrRefs (τ := τ) spec0 ⊆ allRefs := by decide +kernel
theorem all_rest : allRefs \ Pipeline.arrRefs (τ := τ) spec0 = plain := by decide +kernel

theorem hd_eq (c : Dev nD) (V' : Valuation τ sig (Elt F)) :
    (StableHlo.held (c.tc : Thread nD τ) hdRefs V' : sProp (MM F)) = iprop(khP c fullShare (V' main_arg2) ∗ vhP c fullShare (V' main_arg3)) := by
  unfold StableHlo.held
  rw [bigSep_eq_bigSepL_of_eq [Proc.devRef .tc main_arg2, Proc.devRef .tc main_arg3] (by decide) (by decide)]
  rfl

theorem W₂_of_ne (c : Dev nD) (b : Ref sig .tc) (h : (Proc.devRef .tc b : DevRef τ sig) ≠ Proc.devRef .tc main_v3) : W₂ m c b = V m c b :=
  Function.update_of_ne h ..
theorem W₂_v3 (c : Dev nD) : W₂ m c main_v3 = outF (insOf m) c := Function.update_self ..

/-- What the launch leaves device `c` for the kernel. -/
noncomputable def Tk (c : Dev nD) : sProp (MM F) := iprop(∃ κ, kept (insOf m) κ c)

theorem hopen (c : Dev nD) : iprop(Tk m c ∗ Pipeline.ownSems0 osem c ∗ levAts LL lv) ⊢ (|={Set.univ}=> iprop(∃ κ, opened (insOf m) κ c) : sProp (MM F)) := by
  unfold Tk
  iintro ⟨⟨%κ, H⟩, Ho, -⟩
  imod (open_all (insOf m) κ c) $$ [H Ho] with H
  · isplitl [H] <;> iassumption
  imodintro
  iexists κ; iexact H

theorem rest_scr (c : Dev nD) : (Pipeline.scopedRest (Pipeline.pin (pcfgs (F := F)) adm 0).spec c : sProp (MM F)) = scr c :=
  (scopedRest0_eq c).trans rfl

theorem owed_first (c : Dev nD) : (dat m c).owed 0 = O₀ c := by
  show (if (0 : Fin (cfg0.N + 1)).val = 0 then O₀ c else 0) = O₀ c; exact if_pos rfl

theorem hin (c : Dev nD) : iprop(Pipeline.scopedRest (Pipeline.pin (pcfgs (F := F)) adm 0).spec c ∗ (∃ r, prngReg c r)
      ∗ StableHlo.held (c.tc : Thread nD τ) hdRefs (W₁ m c) ∗ (∃ κ, opened (insOf m) κ c)) ⊢ ((pdats m 0 c).Φ 0 : sProp (MM F)) := by
  rw [show (pdats m 0 c).Φ 0 = Φ₀ m c from rfl, rest_scr, hd_eq]
  unfold Φ₀ kv
  iintro ⟨Hs, Hp, Hh, Ho⟩
  isplitl [Ho]; · iexact Ho
  isplitl [Hh]; · iexact Hh
  isplitl [Hs] <;> iassumption

theorem hout (c : Dev nD) : ((pdats m 0 c).Φ (Fin.last (Pipeline.pin (pcfgs (F := F)) adm 0).N) : sProp (MM F))
    ⊢ iprop(Pipeline.scopedRest (Pipeline.pin (pcfgs (F := F)) adm 0).spec c ∗ (∃ r, prngReg c r)
      ∗ StableHlo.held (c.tc : Thread nD τ) hdRefs (W₂ m c) ∗ Pipeline.ownSems0 osem c ∗ semVal (bar c) 0) := by
  rw [show (pdats m 0 c).Φ (Fin.last _) = Φ₁ m c from rfl, rest_scr, hd_eq, W₂_of_ne m c main_arg2 (by decide), W₂_of_ne m c main_arg3 (by decide)]
  unfold Φ₁ kv
  iintro ⟨⟨Hb, Ho⟩, Hh, Hs, Hp⟩
  isplitl [Hs]; · iexact Hs
  isplitl [Hp]; · iexact Hp
  isplitl [Hh]; · iexact Hh
  isplitl [Ho] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cut (c : Dev nD) (t : Fin (cfg0.N + 1)) (g : GSem nD τ sig) (i : Unit) (h : 0 < (dat m c).owed t g i) : i ∈ LL g ∧ 0 < lv g i := by
  have h' : 0 < (if t.val = 0 then O₀ c else 0) g i := h
  split at h'
  · unfold O₀ at h'
    rw [Pi.add_apply, Finsupp.add_apply, Pi.add_apply, Finsupp.add_apply] at h'
    rcases Nat.add_pos_iff_pos_or_pos.mp h' with h' | h'
    · rcases Nat.add_pos_iff_pos_or_pos.mp h' with h' | h'
      · obtain ⟨k, -, rfl⟩ := owL_pos h'
        refine ⟨by rw [LL_tc]; exact Finset.mem_singleton_self _, ?_⟩
        show 0 < lvR (role (.dma (sR k)))
        rw [role_rcv]; show 0 < (if k.val < 8 then 2 else 3); split <;> decide
      · rw [tallyAt_apply] at h'
        split at h'
        · next e => obtain ⟨rfl, -⟩ := e; exact ⟨by rw [LL_tc]; exact Finset.mem_singleton_self _, by show 0 < lvR (role _); rw [role_bar]; decide⟩
        · exact absurd h' (Nat.lt_irrefl 0)
    · rw [tallyAt_apply] at h'
      split at h'
      · next e => obtain ⟨rfl, -⟩ := e; exact ⟨by rw [LL_tc]; exact Finset.mem_singleton_self _, by show 0 < lvR (role _); rw [role_bar]; decide⟩
      · exact absurd h' (Nat.lt_irrefl 0)
  · exact absurd h' (Nat.lt_irrefl 0)

theorem stage_low : ∀ (w : Fin cfg0.W) (s : Fin (cfg0.win w).nbuf), lvR (role (.dma ((cfg0.win w).sem s))) = 0 := by decide +kernel

theorem arr_in (c : Dev nD) : ∀ w : Fin cfg0.W, (dat m c).arrAt w 0 = W₁ m c (Proc.devRef .tc (Pipeline.arrRef spec0 w)) := fun _ => rfl
theorem arr_out (c : Dev nD) : ∀ w : Fin cfg0.W, (dat m c).arrAt w cfg0.N = W₂ m c (Proc.devRef .tc (Pipeline.arrRef spec0 w))
  | 0 => ((dat m c).arrAt_in 0 rfl _).trans (W₂_of_ne m c main_arg0 (by decide)).symm
  | 1 => ((dat m c).arrAt_in 1 rfl _).trans (W₂_of_ne m c main_v1 (by decide)).symm
  | 2 => ((dat m c).arrAt_in 2 rfl _).trans (W₂_of_ne m c main_v2 (by decide)).symm
  | 3 => ((dat m c).arrAt_eq_of_after_last 3 t0_0 (by decide +kernel) (outF (insOf m) c) (fun j => rfl)).trans (W₂_v3 m c).symm
  | ⟨_ + 4, h⟩ => absurd h (Nat.not_lt.2 (Nat.le_add_left _ _))

set_option backward.isDefEq.respectTransparency.types false in
noncomputable def reg : Pipeline.RegionSeg (pcfgs (F := F)) adm (pdats m) () defs₀ V0 LL lv 0 :=
  Pipeline.RegionSeg.ofTalk (pcfgs (F := F)) adm (pdats m) () defs₀ V0 LL lv 0 osem osem_facts
    hdRefs plain hd_plain kitP rfl (fun c => (body m c).loose)
    (fun _ => 0) O₀ (fun c => (owed_first m c).trans (zero_add _).symm) (owed_last m) (fun _ => rfl)
    (fun c w => by show (if _ then fullShare else fullShare) = fullShare; split <;> rfl)
    (W₁ m) (W₂ m) (fun c b hb => Function.update_of_ne (fun e => absurd (e ▸ hb) (by decide)) ..)
    (Tk m) (fun c => semVal (bar c) 0) (fun c => iprop(∃ κ, opened (insOf m) κ c)) (fun c => semVal (bar c) 0) (hopen m) (hin m) (hout m)
    (fun c => by iintro H; imodintro; iexact H)
    (fun _ => 0)
    ⟨fun c w s => by rw [LL_tc]; exact Finset.mem_singleton_self _, fun c w s => le_of_eq (stage_low w s), fun c t g i h => owed_cut m c t g i h⟩
    (fun _ => iprop(emp))
    (arr_in m) (arr_out m)

/-- What rides beside the buffers through the conversions. -/
noncomputable def ride (c : Dev nD) : sProp (MM F) := iprop(Tk m c ∗ (∃ r, prngReg c r) ∗ ∃ W, owes (c : Thread nD τ) (O₀ c) W)

noncomputable def hseg : Pipeline.HostSeg (Name := ℕ) (U := UU) (pcfgs (F := F)) defs₀ V0 LL lv :=
  Pipeline.HostSeg.ofOps _ _ _ _ _ allRefs hostOps0
    (fun op h => Pipeline.sub_ucRefs op (List.forall_iff_forall_mem.mp hostOps0_sub op h))
    (List.forall_iff_forall_mem.mp hostOps0_fresh) (fun c b => m (c, b)) (ride m)

theorem reg_pre (c : Dev nD) : iprop(StableHlo.held (c : Thread nD τ) allRefs (W₁ m c) ∗ ride m c) ⊢ ((reg m).pre c : sProp (MM F)) := by
  show iprop(StableHlo.held (c : Thread nD τ) allRefs (W₁ m c) ∗ ride m c)
    ⊢ iprop(StableHlo.held (c.tc : Thread nD τ) (Pipeline.arrRefs (τ := τ) spec0) (W₁ m c) ∗ (∃ r, prngReg c r)
      ∗ (StableHlo.held (c.tc : Thread nD τ) plain (W₁ m c) ∗ emp) ∗ Tk m c ∗ ∃ Wd, owes (c : Thread nD τ) (0 + O₀ c) Wd)
  rw [StableHlo.held_sub_split (c.tc : Thread nD τ) all_split (W₁ m c), all_rest, zero_add]
  unfold ride
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : ((reg m).post c : sProp (MM F))
    ⊢ iprop((StableHlo.held (c : Thread nD τ) allRefs (W₂ m c) ∗ semVal (bar c) 0) ∗ ∃ W, owes (c : Thread nD τ) (0 : CellTallies nD τ sig Unit) W) := by
  show iprop(StableHlo.held (c.tc : Thread nD τ) (Pipeline.arrRefs (τ := τ) spec0) (W₂ m c) ∗ (∃ r, prngReg c r)
      ∗ (StableHlo.held (c.tc : Thread nD τ) plain (W₂ m c) ∗ emp) ∗ semVal (bar c) 0 ∗ ∃ Wd, owes (c : Thread nD τ) (0 : CellTallies nD τ sig Unit) Wd)
    ⊢ iprop((StableHlo.held (c : Thread nD τ) allRefs (W₂ m c) ∗ semVal (bar c) 0) ∗ ∃ W, owes (c : Thread nD τ) (0 : CellTallies nD τ sig Unit) W)
  rw [StableHlo.held_sub_split (c.tc : Thread nD τ) all_split (W₂ m c), all_rest]
  iintro ⟨Ha, -, ⟨Hr, -⟩, Hb, HO⟩
  isplitr [HO]
  · isplitr [Hb]
    · isplitl [Ha] <;> iassumption
    iexact Hb
  iexact HO

noncomputable def segs : List (Pipeline.Seg (pcfgs (F := F)) adm (pdats m) () defs₀ V0 LL lv) := [.host (hseg m), .region (reg m)]

/-! ## The launch -/

theorem cells_disj : Disjoint barCells scCells := by
  rw [Finset.disjoint_left]
  intro g h1 h2
  obtain ⟨c, -, rfl⟩ := Finset.mem_map.mp h1
  rcases Finset.mem_union.mp h2 with h | h
  · obtain ⟨p, -, e⟩ := Finset.mem_map.mp h
    have h' : role (.dma (sS p.2)) = role (.reg sB) := congrArg (fun g : GSem nD τ sig => role g.2) e
    rw [role_snd, role_bar] at h'
    cases h'
  · obtain ⟨p, -, e⟩ := Finset.mem_map.mp h
    have h' : role (.dma (sR p.2)) = role (.reg sB) := congrArg (fun g : GSem nD τ sig => role g.2) e
    rw [role_rcv, role_bar] at h'
    cases h'

theorem sc_disj : Disjoint (Finset.univ.map oSnd) (Finset.univ.map oRcv) := by
  rw [Finset.disjoint_left]
  intro g h1 h2
  obtain ⟨p, -, rfl⟩ := Finset.mem_map.mp h1
  obtain ⟨q, -, e⟩ := Finset.mem_map.mp h2
  have h' : role (.dma (sR q.2)) = role (.dma (sS p.2)) := congrArg (fun g : GSem nD τ sig => role g.2) e
  rw [role_rcv, role_snd] at h'
  cases h'

noncomputable abbrev Tok : Type := GSem nD τ sig × ℕ × Fin 2
/-- The duties of one device's cells: two signals, and one copy for each of the others. -/
noncomputable def tokOf (c : Dev nD) : Fin 2 ⊕ Fin 12 ⊕ Fin 12 → Tok
  | .inl d => (bar c, 0, d) | .inr (.inl k) => (snd c k, 0, 0) | .inr (.inr k) => (rcv c k, 0, 0)
theorem tokOf_dev (c : Dev nD) (x) : (tokOf c x).1.1.1 = c := by rcases x with d | k | k <;> rfl
theorem tokOf_inj (c : Dev nD) : Function.Injective (tokOf c) := by
  intro x y h
  have e := congrArg (fun t : Tok => role t.1.2) h
  have e2 := congrArg (fun t : Tok => t.2.2) h
  rcases x with d | k | k <;> rcases y with d' | k' | k' <;> simp only [tokOf, role_bar, role_snd, role_rcv] at e e2
  all_goals first | cases e | skip
  all_goals first | rfl | (subst e2; rfl) | (cases e; rfl)
noncomputable def tokE : Dev nD × (Fin 2 ⊕ Fin 12 ⊕ Fin 12) ↪ Tok := ⟨fun p => tokOf p.1 p.2, fun a b h => by
  obtain ⟨c, x⟩ := a; obtain ⟨d, y⟩ := b
  have e : c = d := by rw [← tokOf_dev c x, ← tokOf_dev d y]; exact congrArg (fun t : Tok => t.1.1.1) h
  subst e
  exact congrArg (Prod.mk c) (tokOf_inj c h)⟩
noncomputable def toks : Finset Tok := Finset.univ.map tokE

noncomputable def lfE : Dev nD ≃ Dev nD := ⟨lf, rg, rg_lf, lf_rg⟩
noncomputable def rgE : Dev nD ≃ Dev nD := ⟨rg, lf, lf_rg, rg_lf⟩
noncomputable def dstE : Dev nD × Fin 12 ≃ Dev nD × Fin 12 :=
  ⟨fun p => (dstD p.1 p.2, p.2), fun p => (if goesR p.2 then lf p.1 else rg p.1, p.2), by decide, by decide⟩

/-- A duty's token. -/
noncomputable def tk (t : Tok) : sProp (MM F) := dutyTok ER t.1 t.2.1 t.2.2

theorem tk_all : bigSep toks (tk (F := F)) = bigSep Finset.univ fun c : Dev nD => iprop((tk (bar c, 0, 0) ∗ tk (bar c, 0, 1))
    ∗ (bigSep Finset.univ fun k : Fin 12 => tk (snd c k, 0, 0)) ∗ (bigSep Finset.univ fun k : Fin 12 => tk (rcv c k, 0, 0))) := by
  unfold toks
  rw [BI.bigSep_map, BI.bigSep_univ_prod]
  refine bigSep_congr fun c _ => ?_
  show (bigSep Finset.univ fun x => tk (tokOf c x)) = _
  rw [BI.bigSep_univ_sum, BI.bigSep_univ_sum, BI.bigSep_fin_two]
  rfl

theorem tk_lf : (bigSep Finset.univ fun c : Dev nD => tk (F := F) (bar c, 0, 0)) = bigSep Finset.univ fun c : Dev nD => tk (bar (lf c), 0, 0) :=
  bigSep_univ_equiv lfE (fun c : Dev nD => tk (F := F) (bar c, 0, 0))
theorem tk_rg : (bigSep Finset.univ fun c : Dev nD => tk (F := F) (bar c, 0, 1)) = bigSep Finset.univ fun c : Dev nD => tk (bar (rg c), 0, 1) :=
  bigSep_univ_equiv rgE (fun c : Dev nD => tk (F := F) (bar c, 0, 1))
theorem tk_dst : (bigSep Finset.univ fun c : Dev nD => bigSep Finset.univ fun k : Fin 12 => tk (F := F) (rcv c k, 0, 0))
    = bigSep Finset.univ fun c : Dev nD => bigSep Finset.univ fun k : Fin 12 => tk (rcv (dstD c k) k, 0, 0) :=
  (BI.bigSep_univ_prod (fun p : Dev nD × Fin 12 => tk (F := F) (rcv p.1 p.2, 0, 0))).symm.trans
    ((bigSep_univ_equiv dstE (fun p : Dev nD × Fin 12 => tk (F := F) (rcv p.1 p.2, 0, 0))).trans
      (BI.bigSep_univ_prod (fun p : Dev nD × Fin 12 => tk (F := F) (rcv (dstD p.1 p.2) p.2, 0, 0))))

/-- The tokens, each at the device that pays with it. -/
theorem toks_deal : bigSep toks (tk (F := F))
    ⊢ bigSep Finset.univ fun c : Dev nD => iprop((tk (bar (lf c), 0, 0) ∗ tk (bar (rg c), 0, 1))
      ∗ (bigSep Finset.univ fun k : Fin 12 => tk (snd c k, 0, 0)) ∗ (bigSep Finset.univ fun k : Fin 12 => tk (rcv (dstD c k) k, 0, 0))) := by
  rw [tk_all, bigSep_sep', bigSep_sep', bigSep_sep', bigSep_sep', bigSep_sep', bigSep_sep', tk_lf, tk_rg, tk_dst]

/-- The launch's element. -/
noncomputable def u₀ : UU :=
  (initOf (Pipeline.cells (Pipeline.pin (pcfgs (F := F)) adm) cellOf_inj) (Pipeline.launchToks (Pipeline.pin (pcfgs (F := F)) adm) cellOf_inj),
    (launchOf barCells scCells toks, 1))

noncomputable def whole : sProp (MM F) := BI.own (ER (launchOf barCells scCells toks))
noncomputable def G (c : Dev nD) : sProp (MM F) := if c = 0 then whole else iprop(emp)
theorem G_all : bigSep Finset.univ (G (F := F)) = whole := by
  rw [show (Finset.univ : Finset (Dev nD)) = insert 0 (Finset.univ.erase 0) from by decide, BI.bigSep_insert (by decide),
    bigSep_congr (s := Finset.univ.erase 0) (Ψ := fun _ => (BI.emp : sProp (MM F))) fun c hc => by unfold G; rw [if_neg (Finset.ne_of_mem_erase hc)]; rfl, BI.bigSep_emp_const]
  unfold G; rw [if_pos rfl]
  exact BI.equiv_iff.mp sep_emp

theorem u₀_split : (ownU (u₀ (F := F)) : sProp (MM F)) ⊢ iprop(BI.own (EP (initOf (Pipeline.cells (Pipeline.pin (pcfgs (F := F)) adm) cellOf_inj)
    (Pipeline.launchToks (Pipeline.pin (pcfgs (F := F)) adm) cellOf_inj))) ∗ whole) :=
  (ownU_pair _ _).trans (sep_mono_right ((own_pair_emb (EX (F := F)) (launchOf barCells scCells toks) 1).trans sep_elim_left))

theorem bar_only (c : Dev nD) : (unscopedSems0 c : sProp (MM F)) = semVal (bar c) 0 := by
  unfold unscopedSems0
  rw [show (Finset.univ.filter fun sm : SemLoc sig => ¬ sm.isScoped .tc) = {SemLoc.reg sB} from by decide, BI.bigSep_singleton]

noncomputable abbrev T₀ (c : Dev nD) : sProp (MM F) := iprop(StableHlo.held (c : Thread nD τ) allRefs (fun b => m (c, b)) ∗ ride m c)
noncomputable abbrev Tₙ (c : Dev nD) : sProp (MM F) := iprop(StableHlo.held (c : Thread nD τ) allRefs (W₂ m c) ∗ semVal (bar c) 0)

/-- A device's launch holdings besides the exchange's. -/
noncomputable def base (c : Dev nD) : sProp (MM F) :=
  iprop(StableHlo.held (c : Thread nD τ) allRefs (fun b => m (c, b)) ∗ Pipeline.launchCred O₀ c ∗ owes (c : Thread nD τ) (O₀ c) ∅ ∗ prngReg c (ρ c))
/-- And the exchange's. -/
noncomputable def share (c : Dev nD) : sProp (MM F) :=
  iprop(atPos ER (bar c) 0 ∅ 0 ∗ ((bigSep Finset.univ fun k : Fin 12 => openTok ER (snd c k)) ∗ (bigSep Finset.univ fun k : Fin 12 => openTok ER (rcv c k)))
    ∗ ((tk (bar (lf c), 0, 0) ∗ tk (bar (rg c), 0, 1))
      ∗ (bigSep Finset.univ fun k : Fin 12 => tk (snd c k, 0, 0)) ∗ (bigSep Finset.univ fun k : Fin 12 => tk (rcv (dstD c k) k, 0, 0))))

theorem T₀_of (κ : GSem nD τ sig → ℕ) (c : Dev nD) : iprop(recs (insOf m) κ ∗ (share c ∗ base m ρ c)) ⊢ (T₀ m c : sProp (MM F)) := by
  unfold share base T₀ ride Tk kept tk
  iintro ⟨#HR, ⟨Ha, ⟨Ho, Hp⟩, ⟨Hb0, Hb1⟩, Hs, Hr⟩, Hh, Hc, HO, Hg⟩
  ihave Hc := (creds (F := F) c) $$ Hc
  icases Hc with ⟨Hc, Hd⟩
  isplitl [Hh]; · iexact Hh
  isplitl [Ha Ho Hp Hb0 Hb1 Hs Hr Hc Hd]
  · iexists κ
    isplitr; · iexact HR
    iframe
  isplitl [Hg]; · iexists (ρ c); iexact Hg
  iexists ∅; iexact HO

theorem opens_deal : (bigSep scCells fun g => (openTok ER g : sProp (MM F)))
    ⊢ bigSep Finset.univ fun c : Dev nD => iprop((bigSep Finset.univ fun k : Fin 12 => openTok ER (snd c k)) ∗ (bigSep Finset.univ fun k : Fin 12 => openTok ER (rcv c k))) := by
  unfold scCells
  rw [BI.bigSep_union sc_disj, BI.bigSep_map, BI.bigSep_map, BI.bigSep_univ_prod, BI.bigSep_univ_prod]
  exact bigSep_pair

theorem base_of (c : Dev nD) : iprop(unscopedBufs c (fun b => m ((c : Thread nD τ).loc b)) ∗ unscopedSems0 c
          ∗ owes (c : Thread nD τ) (O₀ c) ∅ ∗ Pipeline.launchCred O₀ c ∗ prngReg c (ρ c) ∗ G c)
      ⊢ (iprop(base m ρ c ∗ (semVal (bar c) 0 ∗ G c)) : sProp (MM F)) := by
  rw [show (unscopedBufs c (fun b => m ((c : Thread nD τ).loc b)) : sProp (MM F)) = StableHlo.held (c : Thread nD τ) allRefs (fun b => m (c, b)) from
    Pipeline.unscopedBufs_held c (fun b => m (c, b)), bar_only]
  unfold base
  iintro ⟨Hh, Hb, HO, Hc, Hp, HG⟩
  isplitl [Hh Hc HO Hp]; · iframe
  isplitl [Hb] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts LL lv)
      ⊢ (|={Set.univ}=> bigSep Finset.univ (T₀ m) : sProp (MM F)) := by
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(base m ρ c ∗ (semVal (bar c) 0 ∗ G c)) : sProp (MM F)) :=
    bigSep_mono fun c _ => base_of m ρ c
  have h2 : (bigSep Finset.univ fun c : Dev nD => (semVal (bar c) 0 : sProp (MM F))) ⊢ bigSep barCells fun g => (semVal g 0 : sProp (MM F)) :=
    Entails.of_eq (BI.bigSep_map (s := Finset.univ) oBar (Φ := fun g : GSem nD τ sig => (semVal g 0 : sProp (MM F)))).symm
  have h3 : (bigSep barCells fun g => (atPos ER g 0 ∅ 0 : sProp (MM F))) ⊢ bigSep Finset.univ fun c : Dev nD => (atPos ER (bar c) 0 ∅ 0 : sProp (MM F)) :=
    Entails.of_eq (BI.bigSep_map (s := Finset.univ) oBar (Φ := fun g : GSem nD τ sig => (atPos ER g 0 ∅ 0 : sProp (MM F))))
  iintro ⟨H, #HL⟩
  ihave H := h1 $$ H
  ihave H := bigSep_unpair $$ H; icases H with ⟨HB, H⟩
  ihave H := bigSep_unpair $$ H; icases H with ⟨Hv, HG⟩
  ihave Hu := (show bigSep Finset.univ (G (F := F)) ⊢ BI.own (ER (launchOf barCells scCells toks)) from Entails.of_eq G_all) $$ HG
  imod (Rounds.fund_launch ER (Rd (insOf m)) cells_disj (fun g _ h => h) toks) $$ [Hv Hu] with ⟨%κ, -, #Hinv, #Hr, Hat, Hop, Htok⟩
  · isplitl [Hv]
    · iapply h2 $$ Hv
    · iexact Hu
  imodintro
  iapply (bigSep_with_persistent (R := recs (insOf m) κ) (Φ := fun c => iprop(share c ∗ base m ρ c)) fun c _ => T₀_of m ρ κ c)
  isplitr
  · unfold recs
    isplitr; · iexact Hinv
    isplitr; · iexact Hr
    iexact HL
  iapply bigSep_pair
  isplitr [HB]
  · unfold share
    iapply bigSep_pair; isplitl [Hat]; · iapply h3 $$ Hat
    iapply bigSep_pair; isplitl [Hop]; · iapply (opens_deal (F := F)) $$ Hop
    iapply (toks_deal (F := F)); unfold tk; iexact Htok
  · iexact HB

/-! ## The run -/

theorem refs_eq (c : Dev nD) (V' : Valuation τ sig (Elt F)) :
    (StableHlo.held (c : Thread nD τ) allRefs V' : sProp (MM F))
      = iprop(((c : Thread nD τ).loc main_arg0 ↦{fullShare} V' main_arg0) ∗ ((c : Thread nD τ).loc main_arg1 ↦{fullShare} V' main_arg1)
        ∗ ((c : Thread nD τ).loc main_arg2 ↦{fullShare} V' main_arg2) ∗ ((c : Thread nD τ).loc main_arg3 ↦{fullShare} V' main_arg3)
        ∗ ((c : Thread nD τ).loc main_arg4 ↦{fullShare} V' main_arg4) ∗ ((c : Thread nD τ).loc main_v1 ↦{fullShare} V' main_v1)
        ∗ ((c : Thread nD τ).loc main_v2 ↦{fullShare} V' main_v2) ∗ ((c : Thread nD τ).loc main_v3 ↦{fullShare} V' main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide +kernel) (by decide)]
  rfl

theorem only_bar : ∀ sm : SemLoc sig, sm.isScoped .tc = false → sm = .reg sB := by decide

/-- What device `c`'s buffers hold at the end. -/
noncomputable def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v3) = outF (insOf m) c

set_option backward.isDefEq.respectTransparency.types false in
/-- The program runs to its end on every device. -/
theorem run_main : θ_run (defs (F := F)) (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ V0 LL lv m ρ main (segs m)
    (fun c Q => by rw [main_segs adm (pdats m) () V0 LL lv (hseg m) (reg m) rfl c]; exact .rfl)
    (by simp only [segs, Pipeline.Seg.pipes_host, Pipeline.Seg.pipes_region, Pipeline.Seg.pipes_nil]; decide)
    (O₀ := O₀) (hL := LL_of_ne) (G := G) (u₀ := u₀ (F := F))
    (hu₀ := by
      rw [G_all]
      iintro Hu
      imodintro
      iapply (u₀_split (F := F)) $$ Hu)
    (T₀ := T₀ m) (Tₙ := Tₙ m)
    (hch := ⟨fun c => .rfl, fun c => reg_pre m c, fun c => reg_post m c⟩)
    (hinit := init m ρ)
    (QY := fun c s => Ends m c s ∧ s.sem (bar c) = 0)
    (hfin := fun c s' => by
      dsimp only [Tₙ]; rw [refs_eq]
      iintro ⟨⟨⟨H0, H1, H2, H3, H4, -, -, H7⟩, Hb⟩, HSI⟩
      icombine HSI H0 gives %h0
      icombine HSI H1 gives %h1
      icombine HSI H2 gives %h2
      icombine HSI H3 gives %h3
      icombine HSI H4 gives %h4
      icombine HSI H7 gives %h7
      icombine HSI Hb gives %hb
      imodintro
      isplitr
      · ipureintro
        refine ⟨⟨⟨?_, ?_, ?_, ?_, ?_⟩, ?_⟩, by simpa using hb⟩
        · exact (Buf.eq_of_forall_mem_univ h0).trans ((W₂_of_ne m c main_arg0 (by decide)).trans (V_main_arg0 m c))
        · exact (Buf.eq_of_forall_mem_univ h1).trans ((W₂_of_ne m c main_arg1 (by decide)).trans (V_main_arg1 m c))
        · exact (Buf.eq_of_forall_mem_univ h2).trans ((W₂_of_ne m c main_arg2 (by decide)).trans (V_main_arg2 m c))
        · exact (Buf.eq_of_forall_mem_univ h3).trans ((W₂_of_ne m c main_arg3 (by decide)).trans (V_main_arg3 m c))
        · exact (Buf.eq_of_forall_mem_univ h4).trans ((W₂_of_ne m c main_arg4 (by decide)).trans (V_main_arg4 m c))
        · exact (Buf.eq_of_forall_mem_univ h7).trans (W₂_v3 m c)
      iexact HSI)
    (hQ := fun s h hs => ⟨fun c => (h c).1, sem_eq_zero hs fun c sm hsm => by
        obtain rfl := only_bar sm hsm
        exact (h c).2⟩)

end Cert.KernelIdeal.Body
-- ==== Proof.Frames.lean ====
module

public import proofs.«01_k».proof.Defs
public import proofs.«01_k».proof.Proof.Main
public import proofs.«01_k».proof.Proof.Gen.Kernel
public import proofs.«01_k».proof.Proof.Gen.ReferenceIdeal.Run
public import Idealize.ShloMosaic.Lib.Quiescent

@[expose] public section

/-!
# The frames of the kernel

The printed kernel and its idealization differ in one constant, which the first reads as its bits. Reading the name as its
bits makes the two texts one, so the one run serves both.
-/

noncomputable section

namespace Cert.KernelIdeal.Body

open Idealize.ShloMosaic Idealize.SL.Sem
open Idealize.ShloMosaic.TcCoe

/-- A name read as the constant's own bits. -/
local instance plainNamed : Named Bits := ⟨fun _ _ φ b => Scalar.ofBits φ b⟩

section
variable {F : FTy → Type} [FloatOps F] [Named F]

/-- The run with the values dropped. -/
theorem run_frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2)
          ∧ r.2.mem ((c : Thread nD τ).loc main_arg3) = m ((c : Thread nD τ).loc main_arg3)
          ∧ r.2.mem ((c : Thread nD τ).loc main_arg4) = m ((c : Thread nD τ).loc main_arg4)) ∧ r.2.sem = fun _ => 0) :=
  (θ_run (defs (F := F)) _ _).mono (fun _ h => ⟨fun c => (h.1 c).1, h.2⟩) (run_main (F := F) m ρ)

end

/-- The two texts' bodies agree, label by label. -/
theorem bodies_same : Cert.Kernel.defs₀ (F := Bits) = Cert.KernelIdeal.defs₀ (F := Bits) :=
  congrArg Defs.onTc (funext fun l => match l with | 0 => funext fun _ => rfl)

theorem tables_same : Cert.Kernel.defs (F := Bits) = Cert.KernelIdeal.defs (F := Bits) :=
  congrArg (Pipeline.defs (Cert.KernelIdeal.pcfgs (F := Bits))) bodies_same

theorem frame_kernel : Cert.quiescent_Kernel := fun m ρ _ => by
  have h := run_frame (F := Bits) m ρ
  rw [← tables_same] at h
  exact h

theorem frame_ideal : Cert.quiescent_KernelIdeal := fun m ρ _ => run_frame (F := Ideal) m ρ

theorem preserves : Cert.preserves_Kernel_KernelIdeal := IdealRules.named_const.statement _ _ _ _ _ rfl

theorem frame_reference : Cert.quiescent_ReferenceIdeal := fun m ρ _ =>
  (θ_run (Cert.ReferenceIdeal.defs (F := Ideal)) _ _).mono
    (fun r h => ⟨fun c => (h c).2, sem_eq_zero_of_no_sems rfl r.2⟩) (Cert.ReferenceIdeal.Value.run (F := Ideal) m ρ)

end Cert.KernelIdeal.Body
-- ==== Proof.Reads.lean ====
module

public import proofs.«01_k».proof.Proof.Launch
public import Idealize.ShloMosaic.Lib.Pointwise
public import Idealize.ShloMosaic.Lib.IdealHost
public import Idealize.ShloMosaic.Lib.StableHlo.Run

@[expose] public section

set_option maxRecDepth 16384

/-!
# What the kernel's arguments hold, in terms of the program's
-/

noncomputable section

namespace Cert.KernelIdeal.Body

open Idealize.ShloMosaic Cert.KernelIdeal.Gen
open Idealize.ShloMosaic.TcCoe

variable (m : (ℓ : Loc nD τ sig) → Buf (Elt Ideal) ℓ) (c : Dev nD)

/-- A device's arguments. -/
abbrev arg0 : S1x1024x1024.Idx → EReal := m ((c.tc : Thread nD τ).loc main_arg0)
abbrev arg1 : S1024x1024.Idx → EReal := m ((c.tc : Thread nD τ).loc main_arg1)
abbrev arg2 : S4x1024x32x128.Idx → EReal := m ((c.tc : Thread nD τ).loc main_arg2)
abbrev arg3 : S4x1024x32x128.Idx → EReal := m ((c.tc : Thread nD τ).loc main_arg3)
abbrev arg4 : S1024x1024.Idx → EReal := m ((c.tc : Thread nD τ).loc main_arg4)

theorem ins_kh : (insOf m).kh c = arg2 m c := by
  show StableHlo.after hostOps0 (fun b => m (c, b)) main_arg2 = _
  after_results_simp <;> rfl
theorem ins_vh : (insOf m).vh c = arg3 m c := by
  show StableHlo.after hostOps0 (fun b => m (c, b)) main_arg3 = _
  after_results_simp <;> rfl
theorem V_x : V m c main_arg0 = arg0 m c := by
  show StableHlo.after hostOps0 (fun b => m (c, b)) main_arg0 = _
  after_results_simp <;> rfl
theorem V_wq : V m c main_v1 = arg1 m c := by
  show StableHlo.after hostOps0 (fun b => m (c, b)) main_v1 = _
  after_results_simp <;> rfl
theorem V_wo : V m c main_v2 = arg4 m c := by
  show StableHlo.after hostOps0 (fun b => m (c, b)) main_v2 = _
  after_results_simp <;> rfl
theorem ins_x (i k : Fin 1024) : (insOf m).x c (ix3 0 i k) = arg0 m c (ix3 0 i k) := by
  refine Eq.trans ?_ (congrFun (V_x m c) (ix3 0 i k))
  refine congrArg (V m c main_arg0) (funext fun a => Fin.ext ?_)
  fin_cases a
  · rfl
  · show 0 + 1 * i.val = i.val; omega
  · show 0 + 1 * k.val = k.val; omega
theorem ins_wq (i k : Fin 1024) : (insOf m).wq c (ix2 i k) = arg1 m c (ix2 i k) := by
  refine Eq.trans ?_ (congrFun (V_wq m c) (ix2 i k))
  refine congrArg (V m c main_v1) (funext fun a => Fin.ext ?_)
  fin_cases a
  · show 0 + 1 * i.val = i.val; omega
  · show 0 + 1 * k.val = k.val; omega
theorem ins_wo (i k : Fin 1024) : (insOf m).wo c (ix2 i k) = arg4 m c (ix2 i k) := by
  refine Eq.trans ?_ (congrFun (V_wo m c) (ix2 i k))
  refine congrArg (V m c main_v2) (funext fun a => Fin.ext ?_)
  fin_cases a
  · show 0 + 1 * i.val = i.val; omega
  · show 0 + 1 * k.val = k.val; omega

end Cert.KernelIdeal.Body
-- ==== Proof.Num.lean ====
module

public import Idealize.ShloMosaic.Lib.Pointwise
public import Idealize.ShloMosaic.Lib.IdealHost

@[expose] public section

/-!
# One row of attention over the extended reals

The kernel weighs the keys of a band and multiplies by the reciprocal of the sum of the weights; the reference weighs
all keys, those masked scoring minus infinity, and divides every weight by the sum. The two agree where no score is
plus infinity and one is not minus infinity.
-/

noncomputable section

namespace Cert.KernelIdeal.Body

open Idealize.ShloMosaic

/-- The largest of the scores. -/
def rowMax {N : ℕ} (g : Fin N → EReal) : EReal := Finset.fold max ⊥ g Finset.univ

/-- The kernel's row: scores `g`, one column `v` of the values. -/
def katt {N : ℕ} (g v : Fin N → EReal) : EReal :=
  (∑ x, Ideal.exp (g x - rowMax g) * v x) * Ideal.div 1 (∑ x, Ideal.exp (g x - rowMax g))

/-- The reference's row. -/
def ratt {N : ℕ} (g v : Fin N → EReal) : EReal :=
  ∑ x, v x * Ideal.div (Ideal.exp (g x - rowMax g)) (∑ y, Ideal.exp (g y - rowMax g))

/-- The kernel's row over the first `n` keys. -/
def kattN (n : ℕ) (hn : n ≤ 1024) (g v : Fin 1024 → EReal) : EReal := katt (fun x => g (Fin.castLE hn x)) (fun x => v (Fin.castLE hn x))

theorem kattN_congr {n n' : ℕ} (e : n = n') (hn : n ≤ 1024) (hn' : n' ≤ 1024) (g v : Fin 1024 → EReal) : kattN n hn g v = kattN n' hn' g v := by
  subst e; rfl

theorem rowMax_le {N : ℕ} (g : Fin N → EReal) (c : EReal) : rowMax g ≤ c ↔ ∀ x, g x ≤ c := by
  unfold rowMax
  rw [Finset.fold_max_le]
  simp

theorem le_rowMax {N : ℕ} (g : Fin N → EReal) (x : Fin N) : g x ≤ rowMax g := (rowMax_le g _).mp le_rfl x

theorem rowMax_castLE {n : ℕ} (hn : n ≤ 1024) (g : Fin 1024 → EReal) (h : ∀ t : Fin 1024, n ≤ t.val → g t = ⊥) :
    rowMax (fun x => g (Fin.castLE hn x)) = rowMax g := by
  apply le_antisymm
  · rw [rowMax_le]; exact fun x => le_rowMax g _
  · rw [rowMax_le]
    intro t
    by_cases ht : t.val < n
    · exact le_rowMax (fun x => g (Fin.castLE hn x)) ⟨t.val, ht⟩
    · rw [h t (by omega)]; exact bot_le

theorem sum_castLE {n : ℕ} (hn : n ≤ 1024) (f : Fin 1024 → EReal) (h : ∀ t : Fin 1024, n ≤ t.val → f t = 0) :
    ∑ x : Fin n, f (Fin.castLE hn x) = ∑ t, f t := by
  refine Fintype.sum_of_injective (Fin.castLE hn) (Fin.castLE_injective hn) _ _ (fun t ht => h t ?_) fun _ => rfl
  by_contra hlt
  exact ht ⟨⟨t.val, by omega⟩, rfl⟩

theorem exp_bot_sub (m : EReal) : Ideal.exp (⊥ - m) = 0 := by
  rw [sub_eq_add_neg, EReal.bot_add]; rfl

theorem kattN_full {n : ℕ} (hn : n ≤ 1024) (g v : Fin 1024 → EReal) (h : ∀ t : Fin 1024, n ≤ t.val → g t = ⊥) : kattN n hn g v = katt g v := by
  unfold kattN katt
  rw [rowMax_castLE hn g h]
  rw [sum_castLE hn (fun t => Ideal.exp (g t - rowMax g) * v t) fun t ht => by rw [h t ht, exp_bot_sub, zero_mul],
    sum_castLE hn (fun t => Ideal.exp (g t - rowMax g)) fun t ht => by rw [h t ht, exp_bot_sub]]

theorem sum_mul_coe {ι : Type*} (s : Finset ι) (f : ι → EReal) (r : ℝ) (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem katt_eq_ratt {N : ℕ} (g v : Fin N → EReal) (ht : ∀ t, g t ≠ ⊤) (t0 : Fin N) (h0 : g t0 ≠ ⊥) : katt g v = ratt g v := by
  have hmax : ∃ t1, rowMax g = g t1 := by
    obtain ⟨t1, -, h1⟩ := Finset.exists_max_image Finset.univ g ⟨t0, Finset.mem_univ _⟩
    exact ⟨t1, le_antisymm ((rowMax_le g _).mpr fun x => h1 x (Finset.mem_univ _)) (le_rowMax g t1)⟩
  obtain ⟨t1, e1⟩ := hmax
  have hb : g t1 ≠ ⊥ := fun hb => h0 (le_bot_iff.mp (by rw [← hb, ← e1]; exact le_rowMax g t0))
  obtain ⟨μ, eμ⟩ : ∃ μ : ℝ, rowMax g = (μ : EReal) := ⟨(g t1).toReal, by rw [e1, EReal.coe_toReal (ht t1) hb]⟩
  have hw : ∀ t, ∃ w : ℝ, 0 ≤ w ∧ Ideal.exp (g t - rowMax g) = (w : EReal) := by
    intro t
    by_cases hbt : g t = ⊥
    · exact ⟨0, le_rfl, by rw [hbt, exp_bot_sub]; rfl⟩
    · refine ⟨Real.exp ((g t).toReal - μ), (Real.exp_pos _).le, ?_⟩
      rw [eμ, ← EReal.coe_toReal (ht t) hbt, ← EReal.coe_sub, Ideal.exp_coe, EReal.toReal_coe]
  choose w hw0 hw using hw
  have hpos : 0 < ∑ t, w t := by
    refine Finset.sum_pos' (fun t _ => hw0 t) ⟨t1, Finset.mem_univ _, ?_⟩
    have h : (w t1 : EReal) = ((1 : ℝ) : EReal) := by
      rw [← hw, e1, ← EReal.coe_toReal (ht t1) hb, ← EReal.coe_sub, sub_self, Ideal.exp_coe, Real.exp_zero]
    rw [EReal.coe_eq_coe_iff.mp h]; exact one_pos
  unfold katt ratt
  simp only [hw, coe_sum, Ideal.div_coe hpos.ne']
  rw [one_mul, sum_mul_coe _ _ _ (by positivity)]
  refine Finset.sum_congr rfl fun t _ => ?_
  rw [mul_comm (v t), mul_assoc, mul_assoc, mul_comm (v t)]

/-- A finite extended real is a real. -/
def Fin' (x : EReal) : Prop := ∃ r : ℝ, x = (r : EReal)

theorem Fin'.mul {x y : EReal} : Fin' x → Fin' y → Fin' (x * y)
  | ⟨a, ha⟩, ⟨b, hb⟩ => ⟨a * b, by rw [ha, hb, EReal.coe_mul]⟩
theorem Fin'.sum {ι : Type*} (s : Finset ι) (f : ι → EReal) (h : ∀ x, Fin' (f x)) : Fin' (∑ x ∈ s, f x) := by
  choose r hr using h
  exact ⟨∑ x ∈ s, r x, by simp only [hr, coe_sum]⟩
theorem Fin'.ne_top {x : EReal} : Fin' x → x ≠ ⊤
  | ⟨a, ha⟩ => by rw [ha]; exact EReal.coe_ne_top a
theorem Fin'.ne_bot {x : EReal} : Fin' x → x ≠ ⊥
  | ⟨a, ha⟩ => by rw [ha]; exact EReal.coe_ne_bot a
theorem Fin'.add_bot {x : EReal} (_ : Fin' x) : x + ⊥ = ⊥ := EReal.add_bot x

/-- The scale, folded into the inputs, is the scale of the score. -/
theorem score_eq {n d : ℕ} (x : Fin n → EReal) (wq : Fin n → Fin d → EReal) (k : Fin d → EReal) (s : EReal) (hs : Fin' s)
    (hx : ∀ i, Fin' (x i)) (hw : ∀ i j, Fin' (wq i j)) (hk : ∀ j, Fin' (k j)) :
    ∑ j, (∑ i, x i * s * wq i j) * k j = (∑ j, (∑ i, x i * wq i j) * k j) * s := by
  obtain ⟨s, rfl⟩ := hs
  choose x' ex using hx
  choose w' ew using hw
  choose k' ek using hk
  simp only [ex, ew, ek, ← EReal.coe_mul, coe_sum]
  rw [EReal.coe_eq_coe_iff, Finset.sum_mul]
  refine Finset.sum_congr rfl fun j _ => ?_
  rw [Finset.sum_mul, Finset.sum_mul, Finset.sum_mul]
  exact Finset.sum_congr rfl fun i _ => by ring

/-! ## The constants -/

theorem scale_fin : Fin' (Ideal.ofBits FTy.f32 1035273459#32) := by
  simp [Ideal.ofBits, Ideal.ieee]
  exact ⟨_, rfl⟩
theorem bot_bf16 : Ideal.ofBits FTy.bf16 65408#16 = ⊥ := by simp [Ideal.ofBits, Ideal.ieee]
theorem bot_f32 : Ideal.ofBits FTy.f32 4286578688#32 = ⊥ := by simp [Ideal.ofBits, Ideal.ieee]
theorem top_f32 : Ideal.ofBits FTy.f32 2139095040#32 = ⊤ := by simp [Ideal.ofBits, Ideal.ieee]

theorem fin_of_abs {x : EReal} (h : BitVec.ofBool (decide (FloatOps.absf (F := Ideal) (φ := .f32) x < Ideal.ofBits FTy.f32 2139095040#32)) = 1#1) : Fin' x := by
  rw [top_f32] at h
  have h' : (FloatOps.absf (F := Ideal) (φ := .f32) x : EReal) < ⊤ := by
    by_contra hc
    rw [decide_eq_false hc] at h
    exact absurd h (by decide)
  induction x using EReal.rec with
  | bot => exact absurd h' (by show ¬ (_ : EReal) < ⊤; simp [FloatOps.absf])
  | coe r => exact ⟨r, rfl⟩
  | top => exact absurd h' (by show ¬ (_ : EReal) < ⊤; simp [FloatOps.absf])

end Cert.KernelIdeal.Body
-- ==== Proof.Bands.lean ====
module

public import proofs.«01_k».proof.Proof.Cover
public import proofs.«01_k».proof.Proof.Num

@[expose] public section

set_option maxRecDepth 16384

/-!
# A band's context at an element
-/

noncomputable section

namespace Cert.KernelIdeal.Body

open Idealize.ShloMosaic Cert.KernelIdeal.Gen

/-! ## The bands -/

theorem band0_at (q : Vec Ideal S256x128 .bf16) (k : Vec Ideal S1x1x256x128 .f32) (b : Vec Ideal S256x256 .bf16) (v : Vec Ideal S1x1x256x128 .f32)
    (i : Fin 256) (j : Fin 128) : band0 q k b v (ix2 i j) =
      katt (fun t : Fin 256 => ∑ d : Fin 128, q (ix2 i d) * k (ix4 0 0 t d) + b (ix2 i t)) (fun t => v (ix4 0 0 t j)) := by
  pointwise [band0, k0_pay1, katt, rowMax, bot_bf16]
theorem band1_at (q : Vec Ideal S256x128 .bf16) (k : Vec Ideal S1x1x512x128 .f32) (b : Vec Ideal S256x512 .bf16) (v : Vec Ideal S1x1x512x128 .f32)
    (i : Fin 256) (j : Fin 128) : band1 q k b v (ix2 i j) =
      katt (fun t : Fin 512 => ∑ d : Fin 128, q (ix2 i d) * k (ix4 0 0 t d) + b (ix2 i t)) (fun t => v (ix4 0 0 t j)) := by
  pointwise [band1, k0_pay2, katt, rowMax, bot_bf16]
theorem band2_at (q : Vec Ideal S256x128 .bf16) (k : Vec Ideal S1x1x768x128 .f32) (b : Vec Ideal S256x768 .bf16) (v : Vec Ideal S1x1x768x128 .f32)
    (i : Fin 256) (j : Fin 128) : band2 q k b v (ix2 i j) =
      katt (fun t : Fin 768 => ∑ d : Fin 128, q (ix2 i d) * k (ix4 0 0 t d) + b (ix2 i t)) (fun t => v (ix4 0 0 t j)) := by
  pointwise [band2, k0_pay3, k0_pay4, katt, rowMax, bot_bf16]
theorem band3_at (q : Vec Ideal S256x128 .bf16) (k : Vec Ideal S1x1x1024x128 .f32) (b : Vec Ideal S256x1024 .bf16) (v : Vec Ideal S1x1x1024x128 .f32)
    (i : Fin 256) (j : Fin 128) : band3 q k b v (ix2 i j) =
      katt (fun t : Fin 1024 => ∑ d : Fin 128, q (ix2 i d) * k (ix4 0 0 t d) + b (ix2 i t)) (fun t => v (ix4 0 0 t j)) := by
  pointwise [band3, k0_pay40, k0_pay5, k0_pay6, katt, rowMax, bot_bf16]

/-! ## The mask -/

/-- The block number of a position, as the kernel computes it (rounding down). -/
theorem kword_eq (x : Fin 1024) : Scalar.select
          (IntOp.andi
            (IntOp.cmpi CmpIPredicate.ne
              (IntOp.subi (BitVec.setWidth 32 (IntOp.cmpi CmpIPredicate.sgt (BitVec.ofNat 32 x.val) 0#32))
                (BitVec.setWidth 32 (IntOp.cmpi CmpIPredicate.slt (BitVec.ofNat 32 x.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 x.val) 64#32) 0#32))
          (IntOp.subi (IntOp.divsi ArithUnit.vector (BitVec.ofNat 32 x.val) 64#32) 1#32)
          (IntOp.divsi ArithUnit.vector (BitVec.ofNat 32 x.val) 64#32) = BitVec.ofNat 32 (x.val / 64) := by
  revert x; decide +kernel

theorem block_le (i t : Fin 1024) : IntOp.cmpi CmpIPredicate.sle (BitVec.ofNat 32 (t.val / 64)) (BitVec.ofNat 32 (i.val / 64)) = if t.val / 64 ≤ i.val / 64 then 1#1 else 0#1 := by
  have h : ∀ a b : Fin 16, IntOp.cmpi CmpIPredicate.sle (BitVec.ofNat 32 b.val) (BitVec.ofNat 32 a.val) = if b.val ≤ a.val then 1#1 else 0#1 := by decide +kernel
  exact h ⟨i.val / 64, by omega⟩ ⟨t.val / 64, by omega⟩

/-- What the mask adds to the score of row `i` and key `t`. -/
def biasAt (i t : Fin 1024) : EReal := if t.val / 64 ≤ i.val / 64 then 0 else ⊥

theorem bias_at (i t : Fin 1024) : biasV (F := Ideal) (ix2 i t) = biasAt i t := by
  pointwise [biasV, k0_pay35, k0_pay34, k0_pay33, k0_pay32, k0_pay31]
  rw [kword_eq, kword_eq, block_le, IdealRules.named_const.ideal_named_scalar _ _ _ _ rfl]
  unfold biasAt
  split <;> rfl

/-! ## The blocks read, at an element -/

variable (o : Trip)

theorem rdq0 {C : ℕ} (h : o.At C) (hC : C + 128 ≤ 1024) (f : Vec Ideal S1024x1024 .bf16) (i : Fin 256) (d : Fin 128) :
    QB.view.readAt (Elt Ideal) o.rq0.toLoadRect f (ix2 i d) = f (ix2 ⟨0 + i.val, by omega⟩ ⟨C + d.val, by omega⟩) := by
  refine congrArg f (funext fun a => Fin.ext ?_)
  fin_cases a
  · show o.q0 0 + 1 * i.val = 0 + i.val; rw [h.a0, Nat.one_mul]; rfl
  · show o.q0 1 + 1 * d.val = C + d.val; rw [h.a0, Nat.one_mul]; rfl
theorem rdb0 (f : Vec Ideal S1024x1024 .bf16) (i : Fin 256) (t : Fin 256) :
    BI.view.readAt (Elt Ideal) rm0.toLoadRect f (ix2 i t) = f (ix2 ⟨0 + i.val, by omega⟩ ⟨t.val, by omega⟩) := by
  refine congrArg f (funext fun a => Fin.ext ?_)
  fin_cases a
  · show 0 + 1 * i.val = 0 + i.val; rw [Nat.one_mul]
  · show 0 + 1 * t.val = t.val; rw [Nat.one_mul, Nat.zero_add]
theorem rdk0 {sl h} (hb : o.b0 = ![sl, h, 0, 0]) (hs : sl < 2) (hh : h < 8) (f : Vec Ideal S2x8x1024x128 .f32) (t : Fin 256) (d : Fin 128) :
    KB.view.readAt (Elt Ideal) o.rb0.toLoadRect f (ix4 0 0 t d) = f (ix4 ⟨sl, hs⟩ ⟨h, hh⟩ ⟨t.val, by omega⟩ d) := by
  refine congrArg f (funext fun a => Fin.ext ?_)
  fin_cases a
  · show o.b0 0 + 1 * 0 = sl; rw [hb]; rfl
  · show o.b0 1 + 1 * 0 = h; rw [hb]; rfl
  · show o.b0 2 + 1 * t.val = t.val; rw [hb, Nat.one_mul]; exact Nat.zero_add _
  · show o.b0 3 + 1 * d.val = d.val; rw [hb, Nat.one_mul]; exact Nat.zero_add _
theorem rdv0 {sl h} (hb : o.b0 = ![sl, h, 0, 0]) (hs : sl < 2) (hh : h < 8) (f : Vec Ideal S2x8x1024x128 .f32) (t : Fin 256) (d : Fin 128) :
    VB.view.readAt (Elt Ideal) o.rb0.toLoadRect f (ix4 0 0 t d) = f (ix4 ⟨sl, hs⟩ ⟨h, hh⟩ ⟨t.val, by omega⟩ d) := rdk0 o hb hs hh f t d

theorem rdq1 {C : ℕ} (h : o.At C) (hC : C + 128 ≤ 1024) (f : Vec Ideal S1024x1024 .bf16) (i : Fin 256) (d : Fin 128) :
    QB.view.readAt (Elt Ideal) o.rq1.toLoadRect f (ix2 i d) = f (ix2 ⟨256 + i.val, by omega⟩ ⟨C + d.val, by omega⟩) := by
  refine congrArg f (funext fun a => Fin.ext ?_)
  fin_cases a
  · show o.q1 0 + 1 * i.val = 256 + i.val; rw [h.a1, Nat.one_mul]; rfl
  · show o.q1 1 + 1 * d.val = C + d.val; rw [h.a1, Nat.one_mul]; rfl
theorem rdb1 (f : Vec Ideal S1024x1024 .bf16) (i : Fin 256) (t : Fin 512) :
    BI.view.readAt (Elt Ideal) rm1.toLoadRect f (ix2 i t) = f (ix2 ⟨256 + i.val, by omega⟩ ⟨t.val, by omega⟩) := by
  refine congrArg f (funext fun a => Fin.ext ?_)
  fin_cases a
  · show 256 + 1 * i.val = 256 + i.val; rw [Nat.one_mul]
  · show 0 + 1 * t.val = t.val; rw [Nat.one_mul, Nat.zero_add]
theorem rdk1 {sl h} (hb : o.b1 = ![sl, h, 0, 0]) (hs : sl < 2) (hh : h < 8) (f : Vec Ideal S2x8x1024x128 .f32) (t : Fin 512) (d : Fin 128) :
    KB.view.readAt (Elt Ideal) o.rb1.toLoadRect f (ix4 0 0 t d) = f (ix4 ⟨sl, hs⟩ ⟨h, hh⟩ ⟨t.val, by omega⟩ d) := by
  refine congrArg f (funext fun a => Fin.ext ?_)
  fin_cases a
  · show o.b1 0 + 1 * 0 = sl; rw [hb]; rfl
  · show o.b1 1 + 1 * 0 = h; rw [hb]; rfl
  · show o.b1 2 + 1 * t.val = t.val; rw [hb, Nat.one_mul]; exact Nat.zero_add _
  · show o.b1 3 + 1 * d.val = d.val; rw [hb, Nat.one_mul]; exact Nat.zero_add _
theorem rdv1 {sl h} (hb : o.b1 = ![sl, h, 0, 0]) (hs : sl < 2) (hh : h < 8) (f : Vec Ideal S2x8x1024x128 .f32) (t : Fin 512) (d : Fin 128) :
    VB.view.readAt (Elt Ideal) o.rb1.toLoadRect f (ix4 0 0 t d) = f (ix4 ⟨sl, hs⟩ ⟨h, hh⟩ ⟨t.val, by omega⟩ d) := rdk1 o hb hs hh f t d

theorem rdq2 {C : ℕ} (h : o.At C) (hC : C + 128 ≤ 1024) (f : Vec Ideal S1024x1024 .bf16) (i : Fin 256) (d : Fin 128) :
    QB.view.readAt (Elt Ideal) o.rq2.toLoadRect f (ix2 i d) = f (ix2 ⟨512 + i.val, by omega⟩ ⟨C + d.val, by omega⟩) := by
  refine congrArg f (funext fun a => Fin.ext ?_)
  fin_cases a
  · show o.q2 0 + 1 * i.val = 512 + i.val; rw [h.a2, Nat.one_mul]; rfl
  · show o.q2 1 + 1 * d.val = C + d.val; rw [h.a2, Nat.one_mul]; rfl
theorem rdb2 (f : Vec Ideal S1024x1024 .bf16) (i : Fin 256) (t : Fin 768) :
    BI.view.readAt (Elt Ideal) rm2.toLoadRect f (ix2 i t) = f (ix2 ⟨512 + i.val, by omega⟩ ⟨t.val, by omega⟩) := by
  refine congrArg f (funext fun a => Fin.ext ?_)
  fin_cases a
  · show 512 + 1 * i.val = 512 + i.val; rw [Nat.one_mul]
  · show 0 + 1 * t.val = t.val; rw [Nat.one_mul, Nat.zero_add]
theorem rdk2 {sl h} (hb : o.b2 = ![sl, h, 0, 0]) (hs : sl < 2) (hh : h < 8) (f : Vec Ideal S2x8x1024x128 .f32) (t : Fin 768) (d : Fin 128) :
    KB.view.readAt (Elt Ideal) o.rb2.toLoadRect f (ix4 0 0 t d) = f (ix4 ⟨sl, hs⟩ ⟨h, hh⟩ ⟨t.val, by omega⟩ d) := by
  refine congrArg f (funext fun a => Fin.ext ?_)
  fin_cases a
  · show o.b2 0 + 1 * 0 = sl; rw [hb]; rfl
  · show o.b2 1 + 1 * 0 = h; rw [hb]; rfl
  · show o.b2 2 + 1 * t.val = t.val; rw [hb, Nat.one_mul]; exact Nat.zero_add _
  · show o.b2 3 + 1 * d.val = d.val; rw [hb, Nat.one_mul]; exact Nat.zero_add _
theorem rdv2 {sl h} (hb : o.b2 = ![sl, h, 0, 0]) (hs : sl < 2) (hh : h < 8) (f : Vec Ideal S2x8x1024x128 .f32) (t : Fin 768) (d : Fin 128) :
    VB.view.readAt (Elt Ideal) o.rb2.toLoadRect f (ix4 0 0 t d) = f (ix4 ⟨sl, hs⟩ ⟨h, hh⟩ ⟨t.val, by omega⟩ d) := rdk2 o hb hs hh f t d

theorem rdq3 {C : ℕ} (h : o.At C) (hC : C + 128 ≤ 1024) (f : Vec Ideal S1024x1024 .bf16) (i : Fin 256) (d : Fin 128) :
    QB.view.readAt (Elt Ideal) o.rq3.toLoadRect f (ix2 i d) = f (ix2 ⟨768 + i.val, by omega⟩ ⟨C + d.val, by omega⟩) := by
  refine congrArg f (funext fun a => Fin.ext ?_)
  fin_cases a
  · show o.q3 0 + 1 * i.val = 768 + i.val; rw [h.a3, Nat.one_mul]; rfl
  · show o.q3 1 + 1 * d.val = C + d.val; rw [h.a3, Nat.one_mul]; rfl
theorem rdb3 (f : Vec Ideal S1024x1024 .bf16) (i : Fin 256) (t : Fin 1024) :
    BI.view.readAt (Elt Ideal) rm3.toLoadRect f (ix2 i t) = f (ix2 ⟨768 + i.val, by omega⟩ ⟨t.val, by omega⟩) := by
  refine congrArg f (funext fun a => Fin.ext ?_)
  fin_cases a
  · show 768 + 1 * i.val = 768 + i.val; rw [Nat.one_mul]
  · show 0 + 1 * t.val = t.val; rw [Nat.one_mul, Nat.zero_add]
theorem rdk3 {sl h} (hb : o.b3 = ![sl, h, 0, 0]) (hs : sl < 2) (hh : h < 8) (f : Vec Ideal S2x8x1024x128 .f32) (t : Fin 1024) (d : Fin 128) :
    KB.view.readAt (Elt Ideal) o.rb3.toLoadRect f (ix4 0 0 t d) = f (ix4 ⟨sl, hs⟩ ⟨h, hh⟩ ⟨t.val, by omega⟩ d) := by
  refine congrArg f (funext fun a => Fin.ext ?_)
  fin_cases a
  · show o.b3 0 + 1 * 0 = sl; rw [hb]; rfl
  · show o.b3 1 + 1 * 0 = h; rw [hb]; rfl
  · show o.b3 2 + 1 * t.val = t.val; rw [hb, Nat.one_mul]; exact Nat.zero_add _
  · show o.b3 3 + 1 * d.val = d.val; rw [hb, Nat.one_mul]; exact Nat.zero_add _
theorem rdv3 {sl h} (hb : o.b3 = ![sl, h, 0, 0]) (hs : sl < 2) (hh : h < 8) (f : Vec Ideal S2x8x1024x128 .f32) (t : Fin 1024) (d : Fin 128) :
    VB.view.readAt (Elt Ideal) o.rb3.toLoadRect f (ix4 0 0 t d) = f (ix4 ⟨sl, hs⟩ ⟨h, hh⟩ ⟨t.val, by omega⟩ d) := rdk3 o hb hs hh f t d

/-- A trip over head `h` of slot `sl` of the keys and values. -/
structure Trip.Kv (o : Trip) (sl h : ℕ) : Prop where
  k0 : o.b0 = ![sl, h, 0, 0]
  k1 : o.b1 = ![sl, h, 0, 0]
  k2 : o.b2 = ![sl, h, 0, 0]
  k3 : o.b3 = ![sl, h, 0, 0]

/-- The context of row `r` and column `d` of a head: queries `q`, keys `k`, values `v`. -/
def kctx (r : Fin 1024) (q : Fin 128 → EReal) (k : Fin 1024 → Fin 128 → EReal) (v : Fin 1024 → EReal) : EReal :=
  kattN (256 * (r.val / 256 + 1)) (by omega) (fun t => ∑ d, q d * k t d + biasAt r t) v

theorem tbAt_any {o : Trip} {C sl h : ℕ} (hA : o.At C) (hC : C + 128 ≤ 1024) (hK : o.Kv sl h) (hs : sl < 2) (hh : h < 8)
    (fq fb : Vec Ideal S1024x1024 .bf16) (fk fv : Vec Ideal S2x8x1024x128 .f32) (r : Fin 1024) (d : Fin 128) :
    tbAt (F := Ideal) fq fk fv fb o (r.val / 256) (ix2 (⟨r.val % 256, Nat.mod_lt _ (by decide)⟩ : Fin 256) d) =
      kattN (256 * (r.val / 256 + 1)) (by omega) (fun t => ∑ e : Fin 128, fq (ix2 r ⟨C + e.val, by omega⟩) * fk (ix4 ⟨sl, hs⟩ ⟨h, hh⟩ t e) + fb (ix2 r t)) (fun t => fv (ix4 ⟨sl, hs⟩ ⟨h, hh⟩ t d)) := by
  obtain ⟨k0, k1, k2, k3⟩ := hK
  have hr : r.val < 1024 := r.isLt
  unfold tbAt
  obtain e | e | e | e : r.val / 256 = 0 ∨ r.val / 256 = 1 ∨ r.val / 256 = 2 ∨ r.val / 256 = 3 := by omega
  · have er : (⟨0 + r.val % 256, by omega⟩ : Fin 1024) = r := Fin.ext (by show 0 + r.val % 256 = r.val; omega)
    rw [kattN_congr (by rw [e] : 256 * (r.val / 256 + 1) = 256) _ (by decide)]
    simp only [e, reduceIte, OfNat.one_ne_ofNat, OfNat.ofNat_ne_zero, OfNat.ofNat_ne_one, one_ne_zero, Nat.reduceEqDiff]
    unfold tb0
    rw [band0_at]
    have hb : ∀ t : Fin 256, BI.view.readAt (Elt Ideal) rm0.toLoadRect fb (ix2 (⟨r.val % 256, Nat.mod_lt _ (by decide)⟩ : Fin 256) t) = fb (ix2 r ⟨t.val, by omega⟩) :=
      fun t => (rdb0 fb _ t).trans (congrArg (fun x => fb (ix2 x _)) er)
    simp only [rdq0 o hA hC, rdk0 o k0 hs hh, rdv0 o k0 hs hh, er]
    unfold kattN
    refine congrArg₂ katt (funext fun t => ?_) rfl
    exact congrArg₂ (· + ·) rfl (hb t)
  · have er : (⟨256 + r.val % 256, by omega⟩ : Fin 1024) = r := Fin.ext (by show 256 + r.val % 256 = r.val; omega)
    rw [kattN_congr (by rw [e] : 256 * (r.val / 256 + 1) = 512) _ (by decide)]
    simp only [e, reduceIte, OfNat.one_ne_ofNat, OfNat.ofNat_ne_zero, OfNat.ofNat_ne_one, one_ne_zero, Nat.reduceEqDiff]
    unfold tb1
    rw [band1_at]
    have hb : ∀ t : Fin 512, BI.view.readAt (Elt Ideal) rm1.toLoadRect fb (ix2 (⟨r.val % 256, Nat.mod_lt _ (by decide)⟩ : Fin 256) t) = fb (ix2 r ⟨t.val, by omega⟩) :=
      fun t => (rdb1 fb _ t).trans (congrArg (fun x => fb (ix2 x _)) er)
    simp only [rdq1 o hA hC, rdk1 o k1 hs hh, rdv1 o k1 hs hh, er]
    unfold kattN
    refine congrArg₂ katt (funext fun t => ?_) rfl
    exact congrArg₂ (· + ·) rfl (hb t)
  · have er : (⟨512 + r.val % 256, by omega⟩ : Fin 1024) = r := Fin.ext (by show 512 + r.val % 256 = r.val; omega)
    rw [kattN_congr (by rw [e] : 256 * (r.val / 256 + 1) = 768) _ (by decide)]
    simp only [e, reduceIte, OfNat.one_ne_ofNat, OfNat.ofNat_ne_zero, OfNat.ofNat_ne_one, one_ne_zero, Nat.reduceEqDiff]
    unfold tb2
    rw [band2_at]
    have hb : ∀ t : Fin 768, BI.view.readAt (Elt Ideal) rm2.toLoadRect fb (ix2 (⟨r.val % 256, Nat.mod_lt _ (by decide)⟩ : Fin 256) t) = fb (ix2 r ⟨t.val, by omega⟩) :=
      fun t => (rdb2 fb _ t).trans (congrArg (fun x => fb (ix2 x _)) er)
    simp only [rdq2 o hA hC, rdk2 o k2 hs hh, rdv2 o k2 hs hh, er]
    unfold kattN
    refine congrArg₂ katt (funext fun t => ?_) rfl
    exact congrArg₂ (· + ·) rfl (hb t)
  · have er : (⟨768 + r.val % 256, by omega⟩ : Fin 1024) = r := Fin.ext (by show 768 + r.val % 256 = r.val; omega)
    rw [kattN_congr (by rw [e] : 256 * (r.val / 256 + 1) = 1024) _ (by decide)]
    simp only [e, reduceIte, OfNat.one_ne_ofNat, OfNat.ofNat_ne_zero, OfNat.ofNat_ne_one, one_ne_zero, Nat.reduceEqDiff]
    unfold tb3
    rw [band3_at]
    have hb : ∀ t : Fin 1024, BI.view.readAt (Elt Ideal) rm3.toLoadRect fb (ix2 (⟨r.val % 256, Nat.mod_lt _ (by decide)⟩ : Fin 256) t) = fb (ix2 r ⟨t.val, by omega⟩) :=
      fun t => (rdb3 fb _ t).trans (congrArg (fun x => fb (ix2 x _)) er)
    simp only [rdq3 o hA hC, rdk3 o k3 hs hh, rdv3 o k3 hs hh, er]
    unfold kattN
    refine congrArg₂ katt (funext fun t => ?_) rfl
    exact congrArg₂ (· + ·) rfl (hb t)

theorem tbAt_at {o : Trip} {C sl h : ℕ} (hA : o.At C) (hC : C + 128 ≤ 1024) (hK : o.Kv sl h) (hs : sl < 2) (hh : h < 8)
    (fq : Vec Ideal S1024x1024 .bf16) (fk fv : Vec Ideal S2x8x1024x128 .f32) (r : Fin 1024) (d : Fin 128) :
    tbAt (F := Ideal) fq fk fv (biasV (F := Ideal)) o (r.val / 256) (ix2 (⟨r.val % 256, Nat.mod_lt _ (by decide)⟩ : Fin 256) d) =
      kctx r (fun e => fq (ix2 r ⟨C + e.val, by omega⟩)) (fun t e => fk (ix4 ⟨sl, hs⟩ ⟨h, hh⟩ t e)) (fun t => fv (ix4 ⟨sl, hs⟩ ⟨h, hh⟩ t d)) := by
  refine (tbAt_any hA hC hK hs hh fq (biasV (F := Ideal)) fk fv r d).trans ?_
  unfold kctx
  exact congrArg (fun g => kattN _ _ g _) (funext fun t => congrArg (_ + ·) (bias_at r t))

end Cert.KernelIdeal.Body
-- ==== Proof.Ctx.lean ====
module

public import proofs.«01_k».proof.Proof.Bands

@[expose] public section

set_option maxRecDepth 16384

/-!
# The queries, the context and the output of a device, element by element
-/

noncomputable section

namespace Cert.KernelIdeal.Body

open Idealize.ShloMosaic Cert.KernelIdeal.Gen

variable (I : Ins Ideal) (c : Dev nD)

/-- The scale of the scores. -/
abbrev scl : EReal := Ideal.ofBits FTy.f32 1035273459#32

/-- Device `c`'s scaled query of row `r`, column `e` of device `w`'s weights. -/
def qv (w : Dev nD) (r e : Fin 1024) : EReal := ∑ k : Fin 1024, I.x c (ix3 0 r k) * scl * I.wq w (ix2 k e)

/-- The context of row `r`, column `col` of the heads of device `w`. -/
def ctxv (w : Dev nD) (r col : Fin 1024) : EReal :=
  kctx r (fun e => qv I c w r ⟨128 * (col.val / 128) + e.val, by omega⟩)
    (fun t e => I.kh c (ix4 c t (⟨8 * w.val + col.val / 128, by have h : w.val < 4 := w.isLt; omega⟩ : Fin 32) e))
    (fun t => I.vh c (ix4 c t (⟨8 * w.val + col.val / 128, by have h : w.val < 4 := w.isLt; omega⟩ : Fin 32) (⟨col.val % 128, Nat.mod_lt _ (by decide)⟩ : Fin 128)))

/-! ## The received weights, read -/

theorem cm_wq (s : Fin 3) (k e : Fin 1024) : cmC I c (ix4 s 0 k e) = I.wq (whose c s) (ix2 k e) := rfl
theorem cm_wo (s : Fin 3) (k e : Fin 1024) : cmC I c (ix4 s 1 k e) = I.wo (whose c s) (ix2 k e) := rfl

theorem pcol_at (s : Fin 3) (g : Fin 2) (f : Vec Ideal S3x2x1024x1024 .bf16) (k : Fin 1024) (e : Fin 512) :
    pcol s g f (ix4 0 0 k e) = f (ix4 s 0 k ⟨512 * g.val + e.val, by omega⟩) := by
  refine congrArg f (funext fun a => Fin.ext ?_)
  fin_cases a
  · show s.val + 1 * 0 = s.val; omega
  · rfl
  · show 0 + 1 * k.val = k.val; omega
  · show 512 * g.val + 1 * e.val = 512 * g.val + e.val; omega
theorem prow_at (s : Fin 3) (j g : Fin 2) (f : Vec Ideal S3x2x1024x1024 .bf16) (k : Fin 512) (e : Fin 1024) :
    prow s j g f (ix4 0 0 k e) = f (ix4 s j ⟨512 * g.val + k.val, by omega⟩ e) := by
  refine congrArg f (funext fun a => Fin.ext ?_)
  fin_cases a
  · show s.val + 1 * 0 = s.val; omega
  · show j.val + 1 * 0 = j.val; omega
  · show 512 * g.val + 1 * k.val = 512 * g.val + k.val; omega
  · show 0 + 1 * e.val = e.val; omega
theorem ppg_at (s : Fin 3) (j : Fin 2) (f : Vec Ideal S3x2x1024x1024 .bf16) (k e : Fin 1024) :
    ppg s j f (ix4 0 0 k e) = f (ix4 s j k e) := by
  refine congrArg f (funext fun a => Fin.ext ?_)
  fin_cases a
  · show s.val + 1 * 0 = s.val; omega
  · show j.val + 1 * 0 = j.val; omega
  · show 0 + 1 * k.val = k.val; omega
  · show 0 + 1 * e.val = e.val; omega
theorem chalf0_at (f : Vec Ideal S1024x1024 .bf16) (r : Fin 1024) (e : Fin 512) : chalf0 f (ix2 r e) = f (ix2 r ⟨e.val, by omega⟩) := by
  refine congrArg f (funext fun a => Fin.ext ?_)
  fin_cases a
  · show 0 + 1 * r.val = r.val; omega
  · show 0 + 1 * e.val = e.val; omega
theorem chalf1_at (f : Vec Ideal S1024x1024 .bf16) (r : Fin 1024) (e : Fin 512) : chalf1 f (ix2 r e) = f (ix2 r ⟨512 + e.val, by omega⟩) := by
  refine congrArg f (funext fun a => Fin.ext ?_)
  fin_cases a
  · show 0 + 1 * r.val = r.val; omega
  · show 512 + 1 * e.val = 512 + e.val; omega

theorem qbW_in {off : Fin 2 → ℕ} {inb : ∀ a, off a + S1024x512.size a ≤ S1024x1024.size a} (f : Vec Ideal S1024x1024 .bf16) (w : Vec Ideal S1024x512 .bf16)
    (i : S1024x1024.Idx) (j : S1024x512.Idx) (h0 : (i 0).val = off 0 + (j 0).val) (h1 : (i 1).val = off 1 + (j 1).val) :
    qbW (Rect.unit (s := S1024x1024) off S1024x512.size inb) f w i = w j := by
  have hi : i = (QB.access (Rect.unit (s := S1024x1024) off S1024x512.size inb) : View sig .tc _ _ _).emb j := by
    funext a
    refine Fin.ext ?_
    fin_cases a
    · show (i 0).val = off 0 + 1 * (j 0).val; omega
    · show (i 1).val = off 1 + 1 * (j 1).val; omega
  rw [hi]
  exact View.write_emb_of_mem (v := (QB.access (Rect.unit (s := S1024x1024) off S1024x512.size inb) : View sig .tc _ _ _)) f w (Finset.mem_univ j)

/-! ## The queries -/

theorem pay39_at (x : Vec Ideal S1x1024x1024 .f32) (w : Vec Ideal S1024x1024 .bf16) (r e : Fin 1024) :
    k0_pay39 (k0_pay38 (k0_pay36 x) w) (ix2 r e) = ∑ k : Fin 1024, x (ix3 0 r k) * scl * w (ix2 k e) := by
  pointwise [k0_pay39, k0_pay38, k0_pay36]
theorem pay43_at (x : Vec Ideal S1x1024x1024 .f32) (w : Vec Ideal S1x1x1024x512 .bf16) (r : Fin 1024) (e : Fin 512) :
    k0_pay43 (k0_pay36 x) w (ix2 r e) = ∑ k : Fin 1024, x (ix3 0 r k) * scl * w (ix4 0 0 k e) := by
  pointwise [k0_pay43, k0_pay36]
theorem pay47_at (x : Vec Ideal S1x1024x1024 .f32) (w : Vec Ideal S1x1x1024x512 .bf16) (r : Fin 1024) (e : Fin 512) :
    k0_pay47 (k0_pay36 x) w (ix2 r e) = ∑ k : Fin 1024, x (ix3 0 r k) * scl * w (ix4 0 0 k e) := by
  pointwise [k0_pay47, k0_pay36]
theorem pay51_at (x : Vec Ideal S1x1024x1024 .f32) (w : Vec Ideal S1x1x1024x1024 .bf16) (r e : Fin 1024) :
    k0_pay51 (k0_pay36 x) (k0_pay50 w) (ix2 r e) = ∑ k : Fin 1024, x (ix3 0 r k) * scl * w (ix4 0 0 k e) := by
  pointwise [k0_pay51, k0_pay36, k0_pay50]
theorem pay54_at (x : Vec Ideal S1x1024x1024 .f32) (w : Vec Ideal S1x1x1024x1024 .bf16) (r e : Fin 1024) :
    k0_pay54 (k0_pay36 x) w (ix2 r e) = ∑ k : Fin 1024, x (ix3 0 r k) * scl * w (ix4 0 0 k e) := by
  pointwise [k0_pay54, k0_pay36]

theorem Q1_at (r e : Fin 1024) : Q1 I c (ix2 r e) = qv I c (turn c 0) r e := pay39_at (I.x c) (I.wq c) r e
theorem Q2_at (r e : Fin 1024) (he : e.val < 512) : Q2 I c (ix2 r e) = qv I c (turn c 1) r e := by
  refine (qbW_in (Q1 I c) (k0_pay43 (k0_pay36 (I.x c)) (pcol 0 0 (cmC I c))) (ix2 r e) (ix2 r (⟨e.val, he⟩ : Fin 512)) (Nat.zero_add _).symm (Nat.zero_add _).symm).trans ?_
  rw [pay43_at]
  refine Finset.sum_congr rfl fun k _ => ?_
  refine congrArg₂ (· * ·) rfl ((pcol_at 0 0 (cmC I c) k ⟨e.val, he⟩).trans ?_)
  exact (cm_wq I c 0 k _).trans (congrArg (fun z => I.wq (lf c) (ix2 k z)) (Fin.ext (Nat.zero_add _)))
theorem Q3_at (r e : Fin 1024) (he : 512 ≤ e.val) : Q3 I c (ix2 r e) = qv I c (turn c 1) r e := by
  refine (qbW_in (Q2 I c) (k0_pay47 (k0_pay36 (I.x c)) (pcol 0 1 (cmC I c))) (ix2 r e) (ix2 r (⟨e.val - 512, by omega⟩ : Fin 512)) (Nat.zero_add _).symm
    (by show e.val = 512 + (e.val - 512); omega)).trans ?_
  rw [pay47_at]
  refine Finset.sum_congr rfl fun k _ => ?_
  refine congrArg₂ (· * ·) rfl ((pcol_at 0 1 (cmC I c) k ⟨e.val - 512, by omega⟩).trans ?_)
  exact (cm_wq I c 0 k _).trans (congrArg (fun z => I.wq (lf c) (ix2 k z)) (Fin.ext (show 512 * 1 + (e.val - 512) = e.val by omega)))
theorem Q4_at (r e : Fin 1024) : Q4 I c (ix2 r e) = qv I c (turn c 2) r e := by
  refine (pay51_at (I.x c) (ppg 1 0 (cmC I c)) r e).trans (Finset.sum_congr rfl fun k _ => ?_)
  exact congrArg₂ (· * ·) rfl ((ppg_at 1 0 (cmC I c) k e).trans (cm_wq I c 1 k e))
theorem Q5_at (r e : Fin 1024) : Q5 I c (ix2 r e) = qv I c (turn c 3) r e := by
  refine (pay54_at (I.x c) (ppg 2 0 (cmC I c)) r e).trans (Finset.sum_congr rfl fun k _ => ?_)
  exact congrArg₂ (· * ·) rfl ((ppg_at 2 0 (cmC I c) k e).trans (cm_wq I c 2 k e))

/-! ## The context -/

theorem kv1 (t : Fin k0_t1_loop.trips) : (trip1 t).Kv 0 t.val := ⟨k0_off4_eq t, k0_off6_eq t, k0_off8_eq t, k0_off10_eq t⟩
theorem kv2 (t : Fin k0_t2_loop.trips) : (trip2 t).Kv 1 t.val := ⟨k0_off13_eq t, k0_off15_eq t, k0_off17_eq t, k0_off19_eq t⟩
theorem kv3 (t : Fin k0_t3_loop.trips) : (trip3 t).Kv 1 (t.val + 4) := ⟨k0_off21_eq t, k0_off23_eq t, k0_off25_eq t, k0_off27_eq t⟩
theorem kv4 (t : Fin k0_t4_loop.trips) : (trip4 t).Kv 0 t.val := ⟨k0_off29_eq t, k0_off31_eq t, k0_off33_eq t, k0_off35_eq t⟩
theorem kv5 (t : Fin k0_t5_loop.trips) : (trip5 t).Kv 1 t.val := ⟨k0_off37_eq t, k0_off39_eq t, k0_off41_eq t, k0_off43_eq t⟩

/-- A band's context from the queries, keys and values of device `turn c a`'s heads. -/
theorem ctx_of {o : Trip} {C sl h : ℕ} (a : Fin 4) (hA : o.At C) (hK : o.Kv sl h) (hs : sl < 2) (r col : Fin 1024) (hC : C = 128 * (col.val / 128)) (hh : h = col.val / 128)
    (fq : Vec Ideal S1024x1024 .bf16) (hq : ∀ e : Fin 128, fq (ix2 r ⟨128 * (col.val / 128) + e.val, by omega⟩) = qv I c (turn c a) r ⟨128 * (col.val / 128) + e.val, by omega⟩) :
    tbAt (F := Ideal) fq (kvC (I.kh c) a c) (kvC (I.vh c) a c) (biasV (F := Ideal)) o (r.val / 256)
      (ix2 (⟨r.val % 256, Nat.mod_lt _ (by decide)⟩ : Fin 256) (⟨col.val % 128, Nat.mod_lt _ (by decide)⟩ : Fin 128)) = ctxv I c (turn c a) r col := by
  subst hC hh
  refine (tbAt_at hA (by omega) hK hs (by omega) fq _ _ r _).trans ?_
  unfold ctxv
  rw [show (fun e : Fin 128 => fq (ix2 r ⟨128 * (col.val / 128) + e.val, by omega⟩)) = fun e => qv I c (turn c a) r ⟨128 * (col.val / 128) + e.val, by omega⟩ from funext hq]
  rfl

theorem C1_at (r col : Fin 1024) : C1 I c (ix2 r col) = ctxv I c (turn c 0) r col := by
  have ht : col.val / 128 < k0_t1_loop.trips := by rw [trips1]; omega
  exact (c1F_at _ _ _ _ (ix2 r col) ⟨_, ht⟩ rfl).trans (ctx_of I c 0 (at1 _) (kv1 _) (by decide) r col (Nat.zero_add _) rfl _ fun e => Q1_at I c r _)
theorem C2_at (r col : Fin 1024) (hc : col.val < 512) : C2 I c (ix2 r col) = ctxv I c (turn c 1) r col := by
  have ht : col.val / 128 < k0_t2_loop.trips := by rw [trips2]; omega
  exact (c2F_at _ _ _ _ (ix2 r col) ⟨_, ht⟩ rfl).trans (ctx_of I c 1 (at2 _) (kv2 _) (by decide) r col (Nat.zero_add _) rfl _ fun e => Q2_at I c r _ (by show 128 * (col.val / 128) + e.val < 512; omega))
theorem C3_at (r col : Fin 1024) (hc : 512 ≤ col.val) : C3 I c (ix2 r col) = ctxv I c (turn c 1) r col := by
  have ht : col.val / 128 - 4 < k0_t3_loop.trips := by rw [trips3]; omega
  exact (c3F_at _ _ _ _ (ix2 r col) ⟨_, ht⟩ (show 4 + (col.val / 128 - 4) = col.val / 128 by omega)).trans
    (ctx_of I c 1 (at3 _) (kv3 _) (by decide) r col (show 512 + 128 * (col.val / 128 - 4) = _ by omega) (show col.val / 128 - 4 + 4 = _ by omega) _
      fun e => Q3_at I c r _ (by show 512 ≤ 128 * (col.val / 128) + e.val; omega))
theorem C4_at (r col : Fin 1024) : C4 I c (ix2 r col) = ctxv I c (turn c 2) r col := by
  have ht : col.val / 128 < k0_t4_loop.trips := by rw [trips4]; omega
  exact (c4F_at _ _ _ _ (ix2 r col) ⟨_, ht⟩ rfl).trans (ctx_of I c 2 (at4 _) (kv4 _) (by decide) r col (Nat.zero_add _) rfl _ fun e => Q4_at I c r _)
theorem C5_at (r col : Fin 1024) : C5 I c (ix2 r col) = ctxv I c (turn c 3) r col := by
  have ht : col.val / 128 < k0_t5_loop.trips := by rw [trips5]; omega
  exact (c5F_at _ _ _ _ (ix2 r col) ⟨_, ht⟩ rfl).trans (ctx_of I c 3 (at5 _) (kv5 _) (by decide) r col (Nat.zero_add _) rfl _ fun e => Q5_at I c r _)

/-! ## The output -/

theorem pay41_at (w : Vec Ideal S1024x1024 .bf16) (f : Vec Ideal S1024x1024 .bf16) (r j : Fin 1024) :
    k0_pay41 (k0_pay37 w) f (ix3 0 r j) = ∑ e : Fin 1024, f (ix2 r e) * w (ix2 e j) := by
  pointwise [k0_pay41, k0_pay37]
theorem pay45_at (w : Vec Ideal S1x1x512x1024 .bf16) (f : Vec Ideal S1024x512 .bf16) (o : Vec Ideal S1x1024x1024 .f32) (r j : Fin 1024) :
    k0_pay45 (k0_pay42 w) f o (ix3 0 r j) = o (ix3 0 r j) + ∑ e : Fin 512, f (ix2 r e) * w (ix4 0 0 e j) := by
  pointwise [k0_pay45, k0_pay42]
theorem pay49_at (w : Vec Ideal S1x1x512x1024 .bf16) (f : Vec Ideal S1024x512 .bf16) (o : Vec Ideal S1x1024x1024 .f32) (r j : Fin 1024) :
    k0_pay49 (k0_pay46 w) f o (ix3 0 r j) = o (ix3 0 r j) + ∑ e : Fin 512, f (ix2 r e) * w (ix4 0 0 e j) := by
  pointwise [k0_pay49, k0_pay46]
theorem pay53_at (w : Vec Ideal S1x1x1024x1024 .bf16) (f : Vec Ideal S1024x1024 .bf16) (o : Vec Ideal S1x1024x1024 .f32) (r j : Fin 1024) :
    k0_pay53 w f o (ix3 0 r j) = o (ix3 0 r j) + ∑ e : Fin 1024, f (ix2 r e) * w (ix4 0 0 e j) := by
  pointwise [k0_pay53]
theorem pay57_at (w : Vec Ideal S1x1x1024x1024 .bf16) (f : Vec Ideal S1024x1024 .bf16) (o : Vec Ideal S1x1024x1024 .f32) (r j : Fin 1024) :
    k0_pay57 (k0_pay56 w f o) (ix3 0 r j) = o (ix3 0 r j) + ∑ e : Fin 1024, f (ix2 r e) * w (ix4 0 0 e j) := by
  pointwise [k0_pay57, k0_pay56]

/-- The part of the output that the heads of device `w` give. -/
def part (w : Dev nD) (r j : Fin 1024) : EReal := ∑ e : Fin 1024, ctxv I c w r e * I.wo w (ix2 e j)

theorem O1_at (r j : Fin 1024) : O1 I c (ix3 0 r j) = part I c (turn c 0) r j :=
  (pay41_at _ _ r j).trans (Finset.sum_congr rfl fun e _ => congrArg₂ (· * ·) (C1_at I c r e) rfl)
theorem O3_at (r j : Fin 1024) : O3 I c (ix3 0 r j) = part I c (turn c 0) r j + part I c (turn c 1) r j := by
  have e2 : O2 I c (ix3 0 r j) = part I c (turn c 0) r j + ∑ e : Fin 512, ctxv I c (turn c 1) r ⟨e.val, by omega⟩ * I.wo (turn c 1) (ix2 ⟨e.val, by omega⟩ j) := by
    refine (pay45_at _ _ _ r j).trans (congrArg₂ (· + ·) (O1_at I c r j) (Finset.sum_congr rfl fun e _ => congrArg₂ (· * ·) ?_ ?_))
    · exact (chalf0_at _ r e).trans (C2_at I c r _ e.isLt)
    · exact (prow_at 0 1 0 (cmC I c) e j).trans ((cm_wo I c 0 _ j).trans (congrArg (fun z => I.wo (lf c) (ix2 z j)) (Fin.ext (Nat.zero_add _))))
  have e3 : O3 I c (ix3 0 r j) = O2 I c (ix3 0 r j) + ∑ e : Fin 512, ctxv I c (turn c 1) r ⟨512 + e.val, by omega⟩ * I.wo (turn c 1) (ix2 ⟨512 + e.val, by omega⟩ j) := by
    refine (pay49_at _ _ _ r j).trans (congrArg₂ (· + ·) rfl (Finset.sum_congr rfl fun e _ => congrArg₂ (· * ·) ?_ ?_))
    · exact (chalf1_at _ r e).trans (C3_at I c r _ (Nat.le_add_right _ _))
    · exact (prow_at 0 1 1 (cmC I c) e j).trans (cm_wo I c 0 _ j)
  rw [e3, e2, add_assoc]
  refine congrArg₂ (· + ·) rfl ?_
  unfold part
  exact (Fin.sum_univ_add (a := 512) (b := 512) fun e : Fin 1024 => ctxv I c (turn c 1) r e * I.wo (turn c 1) (ix2 e j)).symm
theorem O4_at (r j : Fin 1024) : O4 I c (ix3 0 r j) = part I c (turn c 0) r j + part I c (turn c 1) r j + part I c (turn c 2) r j :=
  (pay53_at _ _ _ r j).trans (congrArg₂ (· + ·) (O3_at I c r j) (Finset.sum_congr rfl fun e _ => congrArg₂ (· * ·) (C4_at I c r e)
    ((ppg_at 1 1 (cmC I c) e j).trans (cm_wo I c 1 e j))))

theorem turn_bij : ∀ c : Dev nD, Function.Bijective (turn c) := by decide

theorem outF_at (r j : Fin 1024) : outF I c (ix3 0 r j) = ∑ w : Dev nD, part I c w r j := by
  have h : outF I c (ix3 0 r j) = part I c (turn c 0) r j + part I c (turn c 1) r j + part I c (turn c 2) r j + part I c (turn c 3) r j :=
    (pay57_at _ _ _ r j).trans (congrArg₂ (· + ·) (O4_at I c r j) (Finset.sum_congr rfl fun e _ => congrArg₂ (· * ·) (C5_at I c r e)
      ((ppg_at 2 1 (cmC I c) e j).trans (cm_wo I c 2 e j))))
  have hb : Function.Bijective (turn c) := turn_bij c
  rw [h, ← Fintype.sum_bijective (turn c) hb (fun a => part I c (turn c a) r j) (fun w => part I c w r j) fun _ => rfl, Fin.sum_univ_four]

end Cert.KernelIdeal.Body
-- ==== Proof.RefVal.lean ====
module

public import proofs.«01_k».proof.Proof.Gen.ReferenceIdeal.Run
public import proofs.«01_k».proof.Proof.Ctx
public import Idealize.ShloMosaic.Lib.Routing.OpsOrder
public import Idealize.ShloMosaic.Lib.Tactic.CleanTypes

@[expose] public section

set_option maxRecDepth 16384

/-!
# The reference's result, element by element
-/

noncomputable section

namespace Cert.KernelIdeal.Body

open Idealize.ShloMosaic

/-- The block number of a position, as both programs compute it (rounding down). -/
def blockWord (u : ArithUnit) (x : BitVec 32) : BitVec 32 := Scalar.select
    (IntOp.andi
      (IntOp.cmpi CmpIPredicate.ne (if x = 0 then 0 else if x.msb = true then -1 else 1)
        (if (64#32 : BitVec 32) = 0 then 0 else if (64#32 : BitVec 32).msb = true then -1 else (1 : BitVec 32)))
      (IntOp.cmpi CmpIPredicate.ne (IntOp.remsi u x 64#32) 0#32))
    (IntOp.subi (IntOp.divsi u x 64#32) 1#32)
    (IntOp.divsi u x 64#32)

theorem blockWord_eq (u : ArithUnit) (x : Fin 1024) : blockWord u (BitVec.ofNat 32 x.val) = BitVec.ofNat 32 (x.val / 64) := by
  cases u <;> revert x <;> decide +kernel

end Cert.KernelIdeal.Body

namespace Cert.ReferenceIdeal.Value

open Idealize.ShloMosaic Cert.ReferenceIdeal Cert.KernelIdeal.Body

/-- Whether row `i` sees key `t`. -/
def rmask (i t : Fin 1024) : BitVec 1 := IntOp.cmpi CmpIPredicate.sle (blockWord .host (BitVec.ofNat 32 t.val)) (blockWord .host (BitVec.ofNat 32 i.val))
/-- Whether row `i` sees any key. -/
def rkeep (i : Fin 1024) : BitVec 1 := Finset.fold IntOp.ori 0#1 (fun t => rmask i t) Finset.univ

variable (m : (ℓ : Loc nD τ sig) → Buf (Elt Ideal) ℓ)
/-- The reference's arrays. -/
abbrev refX : S4x1024x1024.Idx → EReal := m ((Dev.tc 0).loc main_arg0)
abbrev refWq : S1024x4096.Idx → EReal := m ((Dev.tc 0).loc main_arg1)
abbrev refK : S4x1024x32x128.Idx → EReal := m ((Dev.tc 0).loc main_arg2)
abbrev refV : S4x1024x32x128.Idx → EReal := m ((Dev.tc 0).loc main_arg3)
abbrev refWo : S4096x1024.Idx → EReal := m ((Dev.tc 0).loc main_arg4)
abbrev refOut : S4x1024x1024.Idx → EReal := res_main_v33 m 0

/-- A score of the reference. -/
def rscore (b : Fin 4) (i : Fin 1024) (x : Fin 4096) (t : Fin 1024) : EReal :=
  Scalar.select (rmask i t) ((∑ d : Fin 128, (∑ k : Fin 1024, refX m (ix3 b i k) * refWq m (ix2 k ⟨x.val / 128 * 128 + d.val, by omega⟩)) *
    refK m (ix4 b t ⟨x.val / 128, by omega⟩ d)) * Ideal.ofBits FTy.f32 1035273459#32) (Ideal.ofBits FTy.f32 4286578688#32)

/-- A weight of the reference. -/
def rweight (b : Fin 4) (i : Fin 1024) (x : Fin 4096) (t : Fin 1024) : EReal :=
      Scalar.select (rkeep i) (Ideal.div (Ideal.exp (rscore m b i x t - Finset.fold max (Ideal.ofBits FTy.f32 4286578688#32) (fun t => rscore m b i x t) Finset.univ))
        (Scalar.select (rkeep i) (∑ t, Ideal.exp (rscore m b i x t - Finset.fold max (Ideal.ofBits FTy.f32 4286578688#32) (fun t => rscore m b i x t) Finset.univ)) (Ideal.ofBits FTy.f32 1065353216#32)))
        (Ideal.ofBits FTy.f32 0#32)

theorem ref_raw (b : Fin 4) (i j : Fin 1024) : refOut m (ix3 b i j) =
    ∑ x : Fin 4096, (∑ t : Fin 1024, refV m (ix4 b t ⟨x.val / 128, by omega⟩ ⟨x.val % 128, by omega⟩) * rweight m b i x t) * refWo m (ix2 x j) := by
  unfold refOut res_main_v33
  clean_types
  pointwise
  refine Finset.sum_congr rfl fun x _ => ?_
  refine congrArg₂ (· * ·) ?_ rfl
  refine Finset.sum_congr rfl fun t _ => ?_
  rfl

theorem rmask_eq (i t : Fin 1024) : rmask i t = if t.val / 64 ≤ i.val / 64 then 1#1 else 0#1 := by
  unfold rmask
  rw [blockWord_eq, blockWord_eq, block_le]

theorem rkeep_eq (i : Fin 1024) : rkeep i = 1#1 := by
  unfold rkeep
  rw [Routing.fold_ori]
  exact ⟨i, Finset.mem_univ _, by rw [rmask_eq, if_pos le_rfl]⟩

theorem rweight_eq (b : Fin 4) (i : Fin 1024) (x : Fin 4096) (t : Fin 1024) : rweight m b i x t =
    Ideal.div (Ideal.exp (rscore m b i x t - rowMax (rscore m b i x))) (∑ y, Ideal.exp (rscore m b i x y - rowMax (rscore m b i x))) := by
  unfold rweight
  rw [rkeep_eq, bot_f32]
  rfl

/-- The reference's result: softmax attention of each head, then the output weights. -/
theorem ref_at (b : Fin 4) (i j : Fin 1024) : refOut m (ix3 b i j) =
    ∑ x : Fin 4096, ratt (rscore m b i x) (fun t => refV m (ix4 b t ⟨x.val / 128, by omega⟩ ⟨x.val % 128, by omega⟩)) * refWo m (ix2 x j) := by
  rw [ref_raw]
  refine Finset.sum_congr rfl fun x _ => congrArg₂ (· * ·) ?_ rfl
  unfold ratt
  exact Finset.sum_congr rfl fun t _ => congrArg₂ (· * ·) rfl (rweight_eq m b i x t)

/-- The scores, with the mask opened. -/
theorem rscore_eq (b : Fin 4) (i : Fin 1024) (x : Fin 4096) (t : Fin 1024) : rscore m b i x t =
    if t.val / 64 ≤ i.val / 64 then (∑ d : Fin 128, (∑ k : Fin 1024, refX m (ix3 b i k) * refWq m (ix2 k ⟨x.val / 128 * 128 + d.val, by omega⟩)) *
    refK m (ix4 b t ⟨x.val / 128, by omega⟩ d)) * scl else ⊥ := by
  unfold rscore
  rw [rmask_eq, bot_f32]
  split <;> rfl

end Cert.ReferenceIdeal.Value
-- ==== Proof.Scores.lean ====
module

public import proofs.«01_k».proof.Proof.RefVal

@[expose] public section

set_option maxRecDepth 16384

/-!
# The kernel's context is the reference's

With the scores' inputs finite, the scores of the two programs agree, masked keys included; a row that leaves out keys masked anyway is the whole row;
and the diagonal key is never masked, so the sum that divides is neither zero nor infinite.
-/

noncomputable section

namespace Cert.KernelIdeal.Body

open Idealize.ShloMosaic Cert.KernelIdeal.Gen Cert.ReferenceIdeal.Value

variable (I : Ins Ideal) (m : (ℓ : Loc Cert.ReferenceIdeal.nD Cert.ReferenceIdeal.τ Cert.ReferenceIdeal.sig) → Buf (Elt Ideal) ℓ)

/-- The kernel's inputs are the blocks of the reference's, and those of the scores are finite. -/
structure Agree : Prop where
  x : ∀ (c : Fin 4) (i k : Fin 1024), I.x c (ix3 0 i k) = refX m (ix3 c i k)
  wq : ∀ (w : Fin 4) (k e : Fin 1024), I.wq w (ix2 k e) = refWq m (ix2 k ⟨1024 * w.val + e.val, by omega⟩)
  wo : ∀ (w : Fin 4) (e j : Fin 1024), I.wo w (ix2 e j) = refWo m (ix2 ⟨1024 * w.val + e.val, by omega⟩ j)
  kh : ∀ (c b : Fin 4) (t : Fin 1024) (h : Fin 32) (d : Fin 128), I.kh c (ix4 b t h d) = refK m (ix4 b t h d)
  vh : ∀ (c b : Fin 4) (t : Fin 1024) (h : Fin 32) (d : Fin 128), I.vh c (ix4 b t h d) = refV m (ix4 b t h d)
  fx : ∀ (c : Fin 4) (i k : Fin 1024), Fin' (I.x c (ix3 0 i k))
  fwq : ∀ (w : Fin 4) (k e : Fin 1024), Fin' (I.wq w (ix2 k e))
  fkh : ∀ (c b : Fin 4) (t : Fin 1024) (h : Fin 32) (d : Fin 128), Fin' (I.kh c (ix4 b t h d))

variable {I m} (A : Agree I m)

/-- A score of the kernel. -/
def kscore (I : Ins Ideal) (c w : Fin 4) (i e t : Fin 1024) : EReal :=
  ∑ d : Fin 128, qv I c w i ⟨128 * (e.val / 128) + d.val, by omega⟩ * I.kh c (ix4 c t (⟨8 * w.val + e.val / 128, by omega⟩ : Fin 32) d) + biasAt i t

include A

theorem kscore_eq (c w : Fin 4) (i e t : Fin 1024) : kscore I c w i e t = rscore m c i ⟨1024 * w.val + e.val, by omega⟩ t := by
  have hx : ∀ d : Fin 128, (⟨1024 * w.val + (128 * (e.val / 128) + d.val), by omega⟩ : Fin 4096) = ⟨(1024 * w.val + e.val) / 128 * 128 + d.val, by omega⟩ :=
    fun d => Fin.ext (by show 1024 * w.val + (128 * (e.val / 128) + d.val) = (1024 * w.val + e.val) / 128 * 128 + d.val; omega)
  have hh : (⟨8 * w.val + e.val / 128, by omega⟩ : Fin 32) = ⟨(1024 * w.val + e.val) / 128, by omega⟩ :=
    Fin.ext (by show 8 * w.val + e.val / 128 = (1024 * w.val + e.val) / 128; omega)
  have hs := score_eq (fun k => I.x c (ix3 0 i k)) (fun k (d : Fin 128) => I.wq w (ix2 k ⟨128 * (e.val / 128) + d.val, by omega⟩))
    (fun d => I.kh c (ix4 c t (⟨8 * w.val + e.val / 128, by omega⟩ : Fin 32) d)) scl scale_fin (fun k => A.fx c i k) (fun k d => A.fwq w k _) (fun d => A.fkh c c t _ d)
  rw [rscore_eq]
  unfold kscore biasAt
  split
  · rw [add_zero]
    refine Eq.trans hs (congrArg₂ (· * ·) (Finset.sum_congr rfl fun d _ => congrArg₂ (· * ·) (Finset.sum_congr rfl fun k _ => congrArg₂ (· * ·) (A.x c i k) ?_) ?_) rfl)
    · exact (A.wq w k _).trans (congrArg (fun z => refWq m (ix2 k z)) (hx d))
    · exact (A.kh c c t _ d).trans (congrArg (fun z => refK m (ix4 c t z d)) hh)
  · exact EReal.add_bot _

theorem kscore_ne_top (c w : Fin 4) (i e t : Fin 1024) : kscore I c w i e t ≠ ⊤ := by
  have hf : Fin' (∑ d : Fin 128, qv I c w i ⟨128 * (e.val / 128) + d.val, by omega⟩ * I.kh c (ix4 c t (⟨8 * w.val + e.val / 128, by omega⟩ : Fin 32) d)) :=
    Fin'.sum _ _ fun d => (Fin'.sum _ _ fun k => ((A.fx c i k).mul scale_fin).mul (A.fwq w k _)).mul (A.fkh c c t _ d)
  unfold kscore biasAt
  split
  · rw [add_zero]; exact hf.ne_top
  · rw [EReal.add_bot]; exact bot_ne_top
theorem kscore_diag (c w : Fin 4) (i e : Fin 1024) : kscore I c w i e i ≠ ⊥ := by
  have hf : Fin' (∑ d : Fin 128, qv I c w i ⟨128 * (e.val / 128) + d.val, by omega⟩ * I.kh c (ix4 c i (⟨8 * w.val + e.val / 128, by omega⟩ : Fin 32) d)) :=
    Fin'.sum _ _ fun d => (Fin'.sum _ _ fun k => ((A.fx c i k).mul scale_fin).mul (A.fwq w k _)).mul (A.fkh c c i _ d)
  unfold kscore biasAt
  rw [if_pos le_rfl, add_zero]
  exact hf.ne_bot

theorem ctx_eq (c w : Fin 4) (i e : Fin 1024) : ctxv I c w i e =
    ratt (rscore m c i ⟨1024 * w.val + e.val, by omega⟩)
      (fun t => refV m (ix4 c t (⟨(1024 * w.val + e.val) / 128, by omega⟩ : Fin 32) (⟨(1024 * w.val + e.val) % 128, by omega⟩ : Fin 128))) := by
  have hg : (fun t => kscore I c w i e t) = rscore m c i ⟨1024 * w.val + e.val, by omega⟩ := funext fun t => kscore_eq A c w i e t
  have hv : (fun t => I.vh c (ix4 c t (⟨8 * w.val + e.val / 128, by omega⟩ : Fin 32) (⟨e.val % 128, Nat.mod_lt _ (by decide)⟩ : Fin 128)))
      = fun t => refV m (ix4 c t (⟨(1024 * w.val + e.val) / 128, by omega⟩ : Fin 32) (⟨(1024 * w.val + e.val) % 128, by omega⟩ : Fin 128)) := funext fun t => by
    refine (A.vh c c t _ _).trans (congrArg₂ (fun y z => refV m (ix4 c t y z)) (Fin.ext ?_) (Fin.ext ?_))
    · show 8 * w.val + e.val / 128 = (1024 * w.val + e.val) / 128; omega
    · show e.val % 128 = (1024 * w.val + e.val) % 128; omega
  rw [← hg, ← hv, ← katt_eq_ratt _ _ (fun t => kscore_ne_top A c w i e t) i (kscore_diag A c w i e)]
  have h0 : ctxv I c w i e = kattN (256 * (i.val / 256 + 1)) (by omega) (fun t => kscore I c w i e t)
      (fun t => I.vh c (ix4 c t (⟨8 * w.val + e.val / 128, by omega⟩ : Fin 32) (⟨e.val % 128, Nat.mod_lt _ (by decide)⟩ : Fin 128))) := by
    unfold ctxv kctx kscore
    rfl
  rw [h0]
  refine kattN_full _ _ _ fun t ht => ?_
  unfold kscore biasAt
  rw [if_neg (by omega), EReal.add_bot]

theorem part_eq (c w : Fin 4) (i j : Fin 1024) : part I c w i j = ∑ e : Fin 1024, (fun x : Fin 4096 => ratt (rscore m c i x)
      (fun t => refV m (ix4 c t (⟨x.val / 128, by omega⟩ : Fin 32) (⟨x.val % 128, by omega⟩ : Fin 128))) * refWo m (ix2 x j)) (⟨1024 * w.val + e.val, by omega⟩ : Fin 4096) :=
  Finset.sum_congr rfl fun e _ => congrArg₂ (· * ·) (ctx_eq A c w i e) (A.wo w e j)

omit A in
/-- A sum over the columns, device by device. -/
theorem sum_dev (f : Fin 4096 → EReal) : ∑ x, f x = ∑ w : Fin 4, ∑ e : Fin 1024, f ⟨1024 * w.val + e.val, by omega⟩ := by
  rw [← Fintype.sum_prod_type' (fun (w : Fin 4) (e : Fin 1024) => f ⟨1024 * w.val + e.val, by omega⟩)]
  refine (Fintype.sum_equiv (finProdFinEquiv (m := 4) (n := 1024)) _ _ fun p => congrArg f (Fin.ext ?_)).symm
  show 1024 * p.1.val + p.2.val = p.2.val + 1024 * p.1.val
  omega

/-- The kernel's output is the reference's block. -/
theorem out_eq (c : Fin 4) (i j : Fin 1024) : outF I c (ix3 0 i j) = refOut m (ix3 c i j) := by
  rw [outF_at, ref_at, sum_dev]
  exact Finset.sum_congr rfl fun w _ => part_eq A c w i j

end Cert.KernelIdeal.Body
-- ==== Proof.Finite.lean ====
module

public import proofs.«01_k».proof.Pre_finite_scores_KernelIdeal
public import proofs.«01_k».proof.Pre_finite_scores_ReferenceIdeal
public import proofs.«01_k».proof.Proof.Num
public import Idealize.ShloMosaic.Lib.Pointwise
public import Idealize.ShloMosaic.Lib.IdealHost

@[expose] public section

set_option maxRecDepth 16384

/-!
# What the precondition says, element by element
-/

noncomputable section

namespace Cert.KernelIdeal.Body

open Idealize.ShloMosaic Cert.Pre_finite_scores_KernelIdeal

variable [Facts]

variable (x : FVec Ideal S1x1024x1024 .f32) (a : FVec Ideal S1024x1024 .f32) (k v : FVec Ideal S4x1024x32x128 .f32) (o : FVec Ideal S1024x1024 .f32)

theorem fin_x (h : (Cert.Pre_finite_scores_KernelIdeal.fn x a k v o).1 = fun _ => 1#1) (i j : Fin 1024) : Fin' (x (ix3 0 i j)) := by
  have h1 := congrFun h (ix3 0 i j)
  pointwise [Cert.Pre_finite_scores_KernelIdeal.fn] at h1
  exact fin_of_abs h1
theorem fin_wq (h : (Cert.Pre_finite_scores_KernelIdeal.fn x a k v o).2.1 = fun _ => 1#1) (i j : Fin 1024) : Fin' (a (ix2 i j)) := by
  have h1 := congrFun h (ix2 i j)
  pointwise [Cert.Pre_finite_scores_KernelIdeal.fn] at h1
  exact fin_of_abs h1
theorem fin_k (h : (Cert.Pre_finite_scores_KernelIdeal.fn x a k v o).2.2 = fun _ => 1#1) (b : Fin 4) (t : Fin 1024) (n : Fin 32) (d : Fin 128) : Fin' (k (ix4 b t n d)) := by
  have h1 := congrFun h (ix4 b t n d)
  pointwise [Cert.Pre_finite_scores_KernelIdeal.fn] at h1
  exact fin_of_abs h1

omit [Facts] in
/-- The shape relations of the precondition hold. -/
theorem pre_facts : Cert.Pre_finite_scores_KernelIdeal.Facts := ⟨by decide, by decide, by decide⟩
omit [Facts] in
theorem pre_facts' : Cert.Pre_finite_scores_ReferenceIdeal.Facts := ⟨by decide, by decide, by decide⟩

end Cert.KernelIdeal.Body
-- ==== Proof.Algebra.lean ====
module

public import proofs.«01_k».proof.Defs
public import proofs.«01_k».proof.Proof.Main
public import proofs.«01_k».proof.Proof.Reads
public import proofs.«01_k».proof.Proof.Scores
public import proofs.«01_k».proof.Proof.Finite
public import Idealize.ShloMosaic.Lib.Layout

@[expose] public section

set_option maxRecDepth 16384

/-!
# The kernel computes the reference
-/

noncomputable section

namespace Cert.KernelIdeal.Body

open Idealize.ShloMosaic Idealize.SL.Sem Cert.KernelIdeal.Gen
open Idealize.ShloMosaic.TcCoe
open Cert.ReferenceIdeal.Value (refX refWq refK refV refWo refOut)

/-! ## The blocks of the reference's arrays, at an element -/

theorem blk_x {α : Type} (f : (⟨3, ![4, 1024, 1024]⟩ : Shape).Idx → α) (c : Fin 4) (i k : Fin 1024) :
    Layout.block ⟨3, ![1, 1024, 1024]⟩ ⟨3, ![4, 1024, 1024]⟩ 0 4 c f (by decide) (ix3 0 i k) = f (ix3 c i k) := by
  refine congrArg f (funext fun a => Fin.ext ?_)
  fin_cases a
  · show c.val * 1 + 0 = c.val; omega
  · rfl
  · rfl
theorem blk_wq {α : Type} (f : (⟨2, ![1024, 4096]⟩ : Shape).Idx → α) (c : Fin 4) (k e : Fin 1024) :
    Layout.block ⟨2, ![1024, 1024]⟩ ⟨2, ![1024, 4096]⟩ 1 4 c f (by decide) (ix2 k e) = f (ix2 k (⟨1024 * c.val + e.val, by omega⟩ : Fin 4096)) := by
  refine congrArg f (funext fun a => Fin.ext ?_)
  fin_cases a
  · rfl
  · show c.val * 1024 + e.val = 1024 * c.val + e.val; omega
theorem blk_wo {α : Type} (f : (⟨2, ![4096, 1024]⟩ : Shape).Idx → α) (c : Fin 4) (e j : Fin 1024) :
    Layout.block ⟨2, ![1024, 1024]⟩ ⟨2, ![4096, 1024]⟩ 0 4 c f (by decide) (ix2 e j) = f (ix2 (⟨1024 * c.val + e.val, by omega⟩ : Fin 4096) j) := by
  refine congrArg f (funext fun a => Fin.ext ?_)
  fin_cases a
  · show c.val * 1024 + e.val = 1024 * c.val + e.val; omega
  · rfl

theorem algebraic [Cert.KernelIdeal.Facts] [Cert.ReferenceIdeal.Facts] [Cert.Pre_finite_scores_KernelIdeal.Facts] :
    Cert.algebraic_KernelIdeal_ReferenceIdeal_pre_finite_scores_KernelIdeal := fun m g m' g' hp ha => by
  have A : Agree (insOf (F := Ideal) m) m' :=
    { x := fun c i k => (ins_x m c i k).trans ((congrFun (ha c).1 (ix3 0 i k)).trans (blk_x _ c i k))
      wq := fun c k e => (ins_wq m c k e).trans ((congrFun (ha c).2.1 (ix2 k e)).trans (blk_wq _ c k e))
      wo := fun c e j => (ins_wo m c e j).trans ((congrFun (ha c).2.2.2.2 (ix2 e j)).trans (blk_wo _ c e j))
      kh := fun c b t h d => (congrFun (ins_kh m c) (ix4 b t h d)).trans (congrFun (ha c).2.2.1 (ix4 b t h d))
      vh := fun c b t h d => (congrFun (ins_vh m c) (ix4 b t h d)).trans (congrFun (ha c).2.2.2.1 (ix4 b t h d))
      fx := fun c i k => by
        rw [ins_x]; exact fin_x _ _ _ _ _ (hp c).1 i k
      fwq := fun c k e => by
        rw [ins_wq]; exact fin_wq _ _ _ _ _ (hp c).2.1 k e
      fkh := fun c b t h d => by
        rw [ins_kh]; exact fin_k _ _ _ _ _ (hp c).2.2 b t h d }
  refine ⟨refOut m', (θ_run (defs (F := Ideal)) _ _).mono (fun r h c => ?_) (run_main (F := Ideal) m g),
    (θ_run (Cert.ReferenceIdeal.defs (F := Ideal)) _ _).mono (fun r h => h 0) (Cert.ReferenceIdeal.Value.run (F := Ideal) m' g')⟩
  obtain ⟨h0, h1⟩ := h.1 c
  refine ⟨h1.trans (funext fun j => ?_), h0⟩
  idx_vars j
  obtain rfl : j0 = 0 := Subsingleton.elim _ _
  exact (out_eq A c j1 j2).trans (blk_x (refOut m') c j1 j2).symm

end Cert.KernelIdeal.Body
-- ==== Proof.lean ====
/- The proof of the claims about the program: the pieces are under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Body.pre_facts, Cert.KernelIdeal.Body.pre_facts',
  Cert.KernelIdeal.Body.frame_kernel, Cert.KernelIdeal.Body.frame_ideal, fun m ρ _ => Cert.KernelIdeal.Body.frame_ideal m ρ trivial,
  Cert.KernelIdeal.Body.frame_reference, fun m ρ _ => Cert.KernelIdeal.Body.frame_reference m ρ trivial,
  Cert.KernelIdeal.Body.preserves,
  letI := Cert.KernelIdeal.Body.pre_facts
  Cert.KernelIdeal.Body.algebraic⟩

end Cert.Proof

end
